-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.2.2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)) (v3 : (c : Dev Cert.KernelIdeal.nD) → Buf (Elt Ideal) ((c.tc : Thread Cert.KernelIdeal.nD Cert.KernelIdeal.τ).loc Cert.KernelIdeal.main_v39_3)) (v4 : (c : Dev Cert.KernelIdeal.nD) → Buf (Elt Ideal) ((c.tc : Thread Cert.KernelIdeal.nD Cert.KernelIdeal.τ).loc Cert.KernelIdeal.main_v39_4)) (v5 : (c : Dev Cert.KernelIdeal.nD) → Buf (Elt Ideal) ((c.tc : Thread Cert.KernelIdeal.nD Cert.KernelIdeal.τ).loc Cert.KernelIdeal.main_v39_5)) (v6 : (c : Dev Cert.KernelIdeal.nD) → Buf (Elt Ideal) ((c.tc : Thread Cert.KernelIdeal.nD Cert.KernelIdeal.τ).loc Cert.KernelIdeal.main_v39_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_v39_3) = v3 c
          ∧ r.2.mem ((c.tc : Thread Cert.KernelIdeal.nD Cert.KernelIdeal.τ).loc Cert.KernelIdeal.main_v39_4) = v4 c
          ∧ r.2.mem ((c.tc : Thread Cert.KernelIdeal.nD Cert.KernelIdeal.τ).loc Cert.KernelIdeal.main_v39_5) = v5 c
          ∧ r.2.mem ((c.tc : Thread Cert.KernelIdeal.nD Cert.KernelIdeal.τ).loc Cert.KernelIdeal.main_v39_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_v114) = v4 c
          ∧ r.2.mem ((c.tc : Thread Cert.ReferenceIdeal.nD Cert.ReferenceIdeal.τ).loc Cert.ReferenceIdeal.main_v86) = v5 c
          ∧ r.2.mem ((c.tc : Thread Cert.ReferenceIdeal.nD Cert.ReferenceIdeal.τ).loc Cert.ReferenceIdeal.main_v83) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v8) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v4) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)
      ∧ m' ((c.tc : Thread Cert.InDxRefIdeal.nD Cert.InDxRefIdeal.τ).loc Cert.InDxRefIdeal.main_arg6) = m ((c.tc : Thread Cert.InDxIdeal.nD Cert.InDxIdeal.τ).loc Cert.InDxIdeal.main_arg6)) →
    ∃ (v0 : (c : Dev Cert.InDxIdeal.nD) → Buf (Elt Ideal) ((c.tc : Thread Cert.InDxIdeal.nD Cert.InDxIdeal.τ).loc Cert.InDxIdeal.main_v11_0)) (v1 : (c : Dev Cert.InDxIdeal.nD) → Buf (Elt Ideal) ((c.tc : Thread Cert.InDxIdeal.nD Cert.InDxIdeal.τ).loc Cert.InDxIdeal.main_v11_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v11_0) = v0 c
          ∧ r.2.mem ((c.tc : Thread Cert.InDxIdeal.nD Cert.InDxIdeal.τ).loc Cert.InDxIdeal.main_v11_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v19) = v0 c
          ∧ r.2.mem ((c.tc : Thread Cert.InDxRefIdeal.nD Cert.InDxRefIdeal.τ).loc Cert.InDxRefIdeal.main_v21) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5)
          ∧ r.2.mem ((c.tc : Thread Cert.InDxRefIdeal.nD Cert.InDxRefIdeal.τ).loc Cert.InDxRefIdeal.main_arg6) = m' ((c.tc : Thread Cert.InDxRefIdeal.nD Cert.InDxRefIdeal.τ).loc Cert.InDxRefIdeal.main_arg6))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v4) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v11_0)) (v1 : (c : Dev Cert.InFwdIdeal.nD) → Buf (Elt Ideal) ((c.tc : Thread Cert.InFwdIdeal.nD Cert.InFwdIdeal.τ).loc Cert.InFwdIdeal.main_v11_1)) (v2 : (c : Dev Cert.InFwdIdeal.nD) → Buf (Elt Ideal) ((c.tc : Thread Cert.InFwdIdeal.nD Cert.InFwdIdeal.τ).loc Cert.InFwdIdeal.main_v11_2)) (v3 : (c : Dev Cert.InFwdIdeal.nD) → Buf (Elt Ideal) ((c.tc : Thread Cert.InFwdIdeal.nD Cert.InFwdIdeal.τ).loc Cert.InFwdIdeal.main_v11_3)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v11_0) = v0 c
          ∧ r.2.mem ((c.tc : Thread Cert.InFwdIdeal.nD Cert.InFwdIdeal.τ).loc Cert.InFwdIdeal.main_v11_1) = v1 c
          ∧ r.2.mem ((c.tc : Thread Cert.InFwdIdeal.nD Cert.InFwdIdeal.τ).loc Cert.InFwdIdeal.main_v11_2) = v2 c
          ∧ r.2.mem ((c.tc : Thread Cert.InFwdIdeal.nD Cert.InFwdIdeal.τ).loc Cert.InFwdIdeal.main_v11_3) = v3 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v10) = v0 c
          ∧ r.2.mem ((c.tc : Thread Cert.InFwdRefIdeal.nD Cert.InFwdRefIdeal.τ).loc Cert.InFwdRefIdeal.main_v5) = v1 c
          ∧ r.2.mem ((c.tc : Thread Cert.InFwdRefIdeal.nD Cert.InFwdRefIdeal.τ).loc Cert.InFwdRefIdeal.main_v6) = v2 c
          ∧ r.2.mem ((c.tc : Thread Cert.InFwdRefIdeal.nD Cert.InFwdRefIdeal.τ).loc Cert.InFwdRefIdeal.main_v11) = v3 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v2_0)) (v1 : (c : Dev Cert.FfnFwdIdeal.nD) → Buf (Elt Ideal) ((c.tc : Thread Cert.FfnFwdIdeal.nD Cert.FfnFwdIdeal.τ).loc Cert.FfnFwdIdeal.main_v2_1)) (v2 : (c : Dev Cert.FfnFwdIdeal.nD) → Buf (Elt Ideal) ((c.tc : Thread Cert.FfnFwdIdeal.nD Cert.FfnFwdIdeal.τ).loc Cert.FfnFwdIdeal.main_v2_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v2_0) = v0 c
          ∧ r.2.mem ((c.tc : Thread Cert.FfnFwdIdeal.nD Cert.FfnFwdIdeal.τ).loc Cert.FfnFwdIdeal.main_v2_1) = v1 c
          ∧ r.2.mem ((c.tc : Thread Cert.FfnFwdIdeal.nD Cert.FfnFwdIdeal.τ).loc Cert.FfnFwdIdeal.main_v2_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v0) = v0 c
          ∧ r.2.mem ((c.tc : Thread Cert.FfnFwdRefIdeal.nD Cert.FfnFwdRefIdeal.τ).loc Cert.FfnFwdRefIdeal.main_v50) = v1 c
          ∧ r.2.mem ((c.tc : Thread Cert.FfnFwdRefIdeal.nD Cert.FfnFwdRefIdeal.τ).loc Cert.FfnFwdRefIdeal.main_v78) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)) →
    ∃ (v0 : (c : Dev Cert.MixFwdIdeal.nD) → Buf (Elt Ideal) ((c.tc : Thread Cert.MixFwdIdeal.nD Cert.MixFwdIdeal.τ).loc Cert.MixFwdIdeal.main_v1_0)) (v1 : (c : Dev Cert.MixFwdIdeal.nD) → Buf (Elt Ideal) ((c.tc : Thread Cert.MixFwdIdeal.nD Cert.MixFwdIdeal.τ).loc Cert.MixFwdIdeal.main_v1_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v1_0) = v0 c
          ∧ r.2.mem ((c.tc : Thread Cert.MixFwdIdeal.nD Cert.MixFwdIdeal.τ).loc Cert.MixFwdIdeal.main_v1_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v36) = v0 c
          ∧ r.2.mem ((c.tc : Thread Cert.MixFwdRefIdeal.nD Cert.MixFwdRefIdeal.τ).loc Cert.MixFwdRefIdeal.main_v64) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6))

def preserves_FfnBwd_FfnBwdIdeal : Prop :=
  IdealRules.named_const.Statement Cert.FfnBwdIdeal.κ "gelu_a" .f32 0x3D372713#32 ((8943 / 200000 : ℝ) : EReal)
  ∧ IdealRules.named_const.Statement Cert.FfnBwdIdeal.κ "gelu_3a" .f32 0x3E095D4F#32 ((26829 / 200000 : ℝ) : EReal)

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)
      ∧ m' ((c.tc : Thread Cert.FfnBwdRefIdeal.nD Cert.FfnBwdRefIdeal.τ).loc Cert.FfnBwdRefIdeal.main_arg6) = m ((c.tc : Thread Cert.FfnBwdIdeal.nD Cert.FfnBwdIdeal.τ).loc Cert.FfnBwdIdeal.main_arg6)) →
    ∃ (v0 : (c : Dev Cert.FfnBwdIdeal.nD) → Buf (Elt Ideal) ((c.tc : Thread Cert.FfnBwdIdeal.nD Cert.FfnBwdIdeal.τ).loc Cert.FfnBwdIdeal.main_v48_0)) (v1 : (c : Dev Cert.FfnBwdIdeal.nD) → Buf (Elt Ideal) ((c.tc : Thread Cert.FfnBwdIdeal.nD Cert.FfnBwdIdeal.τ).loc Cert.FfnBwdIdeal.main_v48_1)) (v2 : (c : Dev Cert.FfnBwdIdeal.nD) → Buf (Elt Ideal) ((c.tc : Thread Cert.FfnBwdIdeal.nD Cert.FfnBwdIdeal.τ).loc Cert.FfnBwdIdeal.main_v48_2)) (v3 : (c : Dev Cert.FfnBwdIdeal.nD) → Buf (Elt Ideal) ((c.tc : Thread Cert.FfnBwdIdeal.nD Cert.FfnBwdIdeal.τ).loc Cert.FfnBwdIdeal.main_v48_3)) (v4 : (c : Dev Cert.FfnBwdIdeal.nD) → Buf (Elt Ideal) ((c.tc : Thread Cert.FfnBwdIdeal.nD Cert.FfnBwdIdeal.τ).loc Cert.FfnBwdIdeal.main_v48_4)) (v5 : (c : Dev Cert.FfnBwdIdeal.nD) → Buf (Elt Ideal) ((c.tc : Thread Cert.FfnBwdIdeal.nD Cert.FfnBwdIdeal.τ).loc Cert.FfnBwdIdeal.main_v48_5)) (v6 : (c : Dev Cert.FfnBwdIdeal.nD) → Buf (Elt Ideal) ((c.tc : Thread Cert.FfnBwdIdeal.nD Cert.FfnBwdIdeal.τ).loc Cert.FfnBwdIdeal.main_v48_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v48_0) = v0 c
          ∧ r.2.mem ((c.tc : Thread Cert.FfnBwdIdeal.nD Cert.FfnBwdIdeal.τ).loc Cert.FfnBwdIdeal.main_v48_1) = v1 c
          ∧ r.2.mem ((c.tc : Thread Cert.FfnBwdIdeal.nD Cert.FfnBwdIdeal.τ).loc Cert.FfnBwdIdeal.main_v48_2) = v2 c
          ∧ r.2.mem ((c.tc : Thread Cert.FfnBwdIdeal.nD Cert.FfnBwdIdeal.τ).loc Cert.FfnBwdIdeal.main_v48_3) = v3 c
          ∧ r.2.mem ((c.tc : Thread Cert.FfnBwdIdeal.nD Cert.FfnBwdIdeal.τ).loc Cert.FfnBwdIdeal.main_v48_4) = v4 c
          ∧ r.2.mem ((c.tc : Thread Cert.FfnBwdIdeal.nD Cert.FfnBwdIdeal.τ).loc Cert.FfnBwdIdeal.main_v48_5) = v5 c
          ∧ r.2.mem ((c.tc : Thread Cert.FfnBwdIdeal.nD Cert.FfnBwdIdeal.τ).loc Cert.FfnBwdIdeal.main_v48_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v121) = v0 c
          ∧ r.2.mem ((c.tc : Thread Cert.FfnBwdRefIdeal.nD Cert.FfnBwdRefIdeal.τ).loc Cert.FfnBwdRefIdeal.main_v179) = v1 c
          ∧ r.2.mem ((c.tc : Thread Cert.FfnBwdRefIdeal.nD Cert.FfnBwdRefIdeal.τ).loc Cert.FfnBwdRefIdeal.main_v180) = v2 c
          ∧ r.2.mem ((c.tc : Thread Cert.FfnBwdRefIdeal.nD Cert.FfnBwdRefIdeal.τ).loc Cert.FfnBwdRefIdeal.main_v175) = v3 c
          ∧ r.2.mem ((c.tc : Thread Cert.FfnBwdRefIdeal.nD Cert.FfnBwdRefIdeal.τ).loc Cert.FfnBwdRefIdeal.main_v144) = v4 c
          ∧ r.2.mem ((c.tc : Thread Cert.FfnBwdRefIdeal.nD Cert.FfnBwdRefIdeal.τ).loc Cert.FfnBwdRefIdeal.main_v95) = v5 c
          ∧ r.2.mem ((c.tc : Thread Cert.FfnBwdRefIdeal.nD Cert.FfnBwdRefIdeal.τ).loc Cert.FfnBwdRefIdeal.main_v92) = v6 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hInFwd : Cert.InFwd.Facts) (hInFwdIdeal : Cert.InFwdIdeal.Facts) (hInFwdRefIdeal : Cert.InFwdRefIdeal.Facts) (hFfnFwd : Cert.FfnFwd.Facts) (hFfnFwdIdeal : Cert.FfnFwdIdeal.Facts) (hFfnFwdRefIdeal : Cert.FfnFwdRefIdeal.Facts) (hMixFwd : Cert.MixFwd.Facts) (hMixFwdIdeal : Cert.MixFwdIdeal.Facts) (hMixFwdRefIdeal : Cert.MixFwdRefIdeal.Facts) (hFfnBwd : Cert.FfnBwd.Facts) (hFfnBwdIdeal : Cert.FfnBwdIdeal.Facts) (hFfnBwdRefIdeal : Cert.FfnBwdRefIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_InFwd_InFwdIdeal
    ∧ algebraic_InFwdIdeal_InFwdRefIdeal (hInFwdIdeal := hInFwdIdeal) (hInFwdRefIdeal := hInFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
-- ==== Pre_finite.lean ====
abbrev S8192x1024 : Shape := ⟨2, ![8192, 1024]⟩
abbrev S8192x4096 : Shape := ⟨2, ![8192, 4096]⟩
abbrev S1024x1024 : Shape := ⟨2, ![1024, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  bcast_S_S8192x4096 : S_.BroadcastsInDim S8192x4096 (![] : Fin 0 → Fin S8192x4096.rank)
  bcast_S_S1024x1024 : S_.BroadcastsInDim S1024x1024 (![] : Fin 0 → Fin S1024x1024.rank)
  bcast_S_S4x1024 : S_.BroadcastsInDim S4x1024 (![] : Fin 0 → Fin S4x1024.rank)

variable [Facts]

def fn_part1 {F : FTy → Type} [FloatOps F] (main_arg6 : FVec F S4x1024 .f32) (main_v2 : IVec S8192x1024 1) (main_v5 : IVec S8192x1024 1) (main_v8 : IVec S8192x4096 1) (main_v11 : IVec S8192x1024 1) (main_v14 : IVec S8192x1024 1) (main_v17 : IVec S1024x1024 1) : IVec S8192x1024 1 × IVec S8192x1024 1 × IVec S8192x4096 1 × IVec S8192x1024 1 × IVec S8192x1024 1 × IVec S1024x1024 1 × IVec S4x1024 1 :=
  let main_v18 : FVec F S4x1024 .f32 := Host.absf main_arg6
  let main_cst_5 : FVec F S_ .f32 := constant S_ .f32 0x7F800000#32
  let main_v19 : FVec F S4x1024 .f32 := broadcastInDim S4x1024 ![] bcast_S_S4x1024 main_cst_5
  let main_v20 : IVec S4x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S8192x4096 .f32) (main_arg3 : FVec F S8192x1024 .f32) (main_arg4 : FVec F S8192x1024 .f32) (main_arg5 : FVec F S1024x1024 .f32) (main_arg6 : FVec F S4x1024 .f32) : IVec S8192x1024 1 × IVec S8192x1024 1 × IVec S8192x4096 1 × IVec S8192x1024 1 × IVec S8192x1024 1 × IVec S1024x1024 1 × IVec S4x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x4096 .f32 := Host.absf main_arg2
  let main_cst_1 : FVec F S_ .f32 := constant S_ .f32 0x7F800000#32
  let main_v7 : FVec F S8192x4096 .f32 := broadcastInDim S8192x4096 ![] bcast_S_S8192x4096 main_cst_1
  let main_v8 : IVec S8192x4096 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_v2 main_v5 main_v8 main_v11 main_v14 main_v17
-- ==== Pre_finite_ffn.lean ====
abbrev S8192x1024 : Shape := ⟨2, ![8192, 1024]⟩
abbrev S8192x6144 : Shape := ⟨2, ![8192, 6144]⟩
abbrev S3x6144 : Shape := ⟨2, ![3, 6144]⟩
abbrev S4x6144 : Shape := ⟨2, ![4, 6144]⟩
abbrev S3072x1024 : Shape := ⟨2, ![3072, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  bcast_S_S8192x6144 : S_.BroadcastsInDim S8192x6144 (![] : Fin 0 → Fin S8192x6144.rank)
  bcast_S_S3x6144 : S_.BroadcastsInDim S3x6144 (![] : Fin 0 → Fin S3x6144.rank)
  bcast_S_S4x6144 : S_.BroadcastsInDim S4x6144 (![] : Fin 0 → Fin S4x6144.rank)
  bcast_S_S3072x1024 : S_.BroadcastsInDim S3072x1024 (![] : Fin 0 → Fin S3072x1024.rank)
  bcast_S_S4x1024 : S_.BroadcastsInDim S4x1024 (![] : Fin 0 → Fin S4x1024.rank)

variable [Facts]

def fn_part1 {F : FTy → Type} [FloatOps F] (main_arg6 : FVec F S4x1024 .f32) (main_v2 : IVec S8192x1024 1) (main_v5 : IVec S8192x1024 1) (main_v8 : IVec S8192x6144 1) (main_v11 : IVec S3x6144 1) (main_v14 : IVec S4x6144 1) (main_v17 : IVec S3072x1024 1) : IVec S8192x1024 1 × IVec S8192x1024 1 × IVec S8192x6144 1 × IVec S3x6144 1 × IVec S4x6144 1 × IVec S3072x1024 1 × IVec S4x1024 1 :=
  let main_v18 : FVec F S4x1024 .f32 := Host.absf main_arg6
  let main_cst_5 : FVec F S_ .f32 := constant S_ .f32 0x7F800000#32
  let main_v19 : FVec F S4x1024 .f32 := broadcastInDim S4x1024 ![] bcast_S_S4x1024 main_cst_5
  let main_v20 : IVec S4x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S8192x6144 .f32) (main_arg3 : FVec F S3x6144 .f32) (main_arg4 : FVec F S4x6144 .f32) (main_arg5 : FVec F S3072x1024 .f32) (main_arg6 : FVec F S4x1024 .f32) : IVec S8192x1024 1 × IVec S8192x1024 1 × IVec S8192x6144 1 × IVec S3x6144 1 × IVec S4x6144 1 × IVec S3072x1024 1 × IVec S4x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x6144 .f32 := Host.absf main_arg2
  let main_cst_1 : FVec F S_ .f32 := constant S_ .f32 0x7F800000#32
  let main_v7 : FVec F S8192x6144 .f32 := broadcastInDim S8192x6144 ![] bcast_S_S8192x6144 main_cst_1
  let main_v8 : IVec S8192x6144 1 := cmpf .olt main_v6 main_v7
  let main_v9 : FVec F S3x6144 .f32 := Host.absf main_arg3
  let main_cst_2 : FVec F S_ .f32 := constant S_ .f32 0x7F800000#32
  let main_v10 : FVec F S3x6144 .f32 := broadcastInDim S3x6144 ![] bcast_S_S3x6144 main_cst_2
  let main_v11 : IVec S3x6144 1 := cmpf .olt main_v9 main_v10
  let main_v12 : FVec F S4x6144 .f32 := Host.absf main_arg4
  let main_cst_3 : FVec F S_ .f32 := constant S_ .f32 0x7F800000#32
  let main_v13 : FVec F S4x6144 .f32 := broadcastInDim S4x6144 ![] bcast_S_S4x6144 main_cst_3
  let main_v14 : IVec S4x6144 1 := cmpf .olt main_v12 main_v13
  let main_v15 : FVec F S3072x1024 .f32 := Host.absf main_arg5
  let main_cst_4 : FVec F S_ .f32 := constant S_ .f32 0x7F800000#32
  let main_v16 : FVec F S3072x1024 .f32 := broadcastInDim S3072x1024 ![] bcast_S_S3072x1024 main_cst_4
  let main_v17 : IVec S3072x1024 1 := cmpf .olt main_v15 main_v16
  fn_part1 (F := F) main_arg6 main_v2 main_v5 main_v8 main_v11 main_v14 main_v17
-- ==== Kernel.lean ====
abbrev S8192x1024 : Shape := ⟨2, ![8192, 1024]⟩
abbrev S8192x4096 : Shape := ⟨2, ![8192, 4096]⟩
abbrev S1024x1024 : Shape := ⟨2, ![1024, 1024]⟩
abbrev S4x1024 : Shape := ⟨2, ![4, 1024]⟩
abbrev S_ : Shape := ⟨0, ![]⟩
abbrev S8192x3072 : Shape := ⟨2, ![8192, 3072]⟩
abbrev S1x1024 : Shape := ⟨2, ![1, 1024]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S1024 : Shape := ⟨1, ![1024]⟩
abbrev S256x256 : Shape := ⟨2, ![256, 256]⟩

abbrev nBuf : Space → Nat
  | .hbm => 63
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S4x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x1024, .bf16⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x3072, .f32⟩
  | .hbm, ⟨60, _⟩ => ⟨S1024x1024, .f32⟩
  | .hbm, ⟨61, _⟩ => ⟨S1x1024, .f32⟩
  | .hbm, ⟨62, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024x1024, .bf16⟩
  | .local _ .vmem, ⟨15, _⟩ => ⟨S4x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x3072, .f32⟩
  | .local _ .vmem, ⟨23, _⟩ => ⟨S256x3072, .f32⟩
  | .local _ .vmem, ⟨24, _⟩ => ⟨S1024x1024, .f32⟩
  | .local _ .vmem, ⟨25, _⟩ => ⟨S1x1024, .f32⟩
  | .local _ .vmem, ⟨26, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39_0 : Ref sig .tc := ⟨.hbm, 56, rfl⟩
abbrev main_v39_1 : Ref sig .tc := ⟨.hbm, 57, rfl⟩
abbrev main_v39_2 : Ref sig .tc := ⟨.hbm, 58, rfl⟩
abbrev main_v39_3 : Ref sig .tc := ⟨.hbm, 59, rfl⟩
abbrev main_v39_4 : Ref sig .tc := ⟨.hbm, 60, rfl⟩
abbrev main_v39_5 : Ref sig .tc := ⟨.hbm, 61, rfl⟩
abbrev main_v39_6 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S8192x1024 : Shape := ⟨2, ![8192, 1024]⟩
abbrev S8192x4096 : Shape := ⟨2, ![8192, 4096]⟩
abbrev S1024x1024 : Shape := ⟨2, ![1024, 1024]⟩
abbrev S4x1024 : Shape := ⟨2, ![4, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8192x3072 : Shape := ⟨2, ![8192, 3072]⟩

abbrev nBuf : Space → Nat
  | .hbm => 182
  | .vmem => 0
  | .smem => 0
  | _ => 0

abbrev hbmTy0_0 (i : Nat) : BufTy := match i % 128 with
  | 0 => ⟨S8192x1024, .f32⟩
  | 1 => ⟨S8192x1024, .f32⟩
  | 2 => ⟨S8192x4096, .f32⟩
  | 3 => ⟨S8192x1024, .f32⟩
  | 4 => ⟨S8192x1024, .f32⟩
  | 5 => ⟨S1024x1024, .f32⟩
  | 6 => ⟨S4x1024, .f32⟩
  | 7 => ⟨S8192x1024, .f32⟩
  | 8 => ⟨S8192x1024, .f32⟩
  | 9 => ⟨S8192x1024, .f32⟩
  | 10 => ⟨S1x1024, .f32⟩
  | 11 => ⟨S_, .f32⟩
  | 12 => ⟨S8192x1024, .f32⟩
  | 13 => ⟨S8192x1024, .f32⟩
  | 14 => ⟨S_, .f32⟩
  | 15 => ⟨S1x1024, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S8192x1024, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192, .f32⟩
  | 91 => ⟨S8192x1, .f32⟩
  | 92 => ⟨S_, .f32⟩
  | 93 => ⟨S8192x1, .f32⟩
  | 94 => ⟨S8192x1, .f32⟩
  | 95 => ⟨S8192x1024, .f32⟩
  | 96 => ⟨S8192x1024, .f32⟩
  | 97 => ⟨S_, .f32⟩
  | 98 => ⟨S8192x1, .f32⟩
  | 99 => ⟨S8192x1, .f32⟩
  | 100 => ⟨S8192x1, .f32⟩
  | 101 => ⟨S8192x1, .f32⟩
  | 102 => ⟨S_, .f32⟩
  | 103 => ⟨S8192x1, .f32⟩
  | 104 => ⟨S8192x1, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S8192x1024, .f32⟩
  | 122 => ⟨S_, .f32⟩
  | 123 => ⟨S8192, .f32⟩
  | 124 => ⟨S8192x1, .f32⟩
  | 125 => ⟨S8192x1024, .f32⟩
  | 126 => ⟨S8192x1024, .f32⟩
  | 127 => ⟨S8192x1, .f32⟩
  | _ => ⟨S8192x1024, .f32⟩

abbrev hbmTy0_1 (i : Nat) : BufTy := match i % 128 with
  | 0 => ⟨S8192x1024, .f32⟩
  | 1 => ⟨S_, .f32⟩
  | 2 => ⟨S8192, .f32⟩
  | 3 => ⟨S8192x1, .f32⟩
  | 4 => ⟨S_, .f32⟩
  | 5 => ⟨S8192x1, .f32⟩
  | 6 => ⟨S8192x1, .f32⟩
  | 7 => ⟨S_, .f32⟩
  | 8 => ⟨S8192, .f32⟩
  | 9 => ⟨S8192x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S8192x1024, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192, .f32⟩
  | 22 => ⟨S8192x1024, .f32⟩
  | 23 => ⟨S8192x1024, .f32⟩
  | 24 => ⟨S1024x1024, .f32⟩
  | 25 => ⟨S1024x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x1024, .f32⟩
  | 52 => ⟨S8192x1024, .f32⟩
  | 53 => ⟨S8192x3072, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_cst_16 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_17 : Ref sig .tc := ⟨.hbm, 86, rfl⟩
abbrev main_v61 : Ref sig .tc := ⟨.hbm, 87, rfl⟩
abbrev main_v62 : Ref sig .tc := ⟨.hbm, 88, rfl⟩
abbrev main_cst_18 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_21 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_22 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_23 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_24 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_25 : Ref sig .tc := ⟨.hbm, 129, rfl⟩
abbrev main_v96 : Ref sig .tc := ⟨.hbm, 130, rfl⟩
abbrev main_v97 : Ref sig .tc := ⟨.hbm, 131, rfl⟩
abbrev main_cst_26 : Ref sig .tc := ⟨.hbm, 132, rfl⟩
abbrev main_v98 : Ref sig .tc := ⟨.hbm, 133, rfl⟩
abbrev main_v99 : Ref sig .tc := ⟨.hbm, 134, rfl⟩
abbrev main_cst_27 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_28 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_29 : Ref sig .tc := ⟨.hbm, 145, rfl⟩
abbrev main_v108 : Ref sig .tc := ⟨.hbm, 146, rfl⟩
abbrev main_v109 : Ref sig .tc := ⟨.hbm, 147, rfl⟩
abbrev main_cst_30 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_31 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_32 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_33 : Ref sig .tc := ⟨.hbm, 173, rfl⟩
abbrev main_v132 : Ref sig .tc := ⟨.hbm, 174, rfl⟩
abbrev main_v133 : Ref sig .tc := ⟨.hbm, 175, rfl⟩
abbrev main_cst_34 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩

abbrev nD : Nat := 1
abbrev τ : Topo := Topo.v7x

variable {F : FTy → Type} [FloatOps F]
-- ==== UpDx.lean ====
abbrev S8192x6144 : Shape := ⟨2, ![8192, 6144]⟩
abbrev S1024x6144 : Shape := ⟨2, ![1024, 6144]⟩
abbrev S8192x1024 : Shape := ⟨2, ![8192, 1024]⟩
abbrev S256x6144 : Shape := ⟨2, ![256, 6144]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .f32⟩
  | .hbm, ⟨2, _⟩ => ⟨S8192x1024, .f32⟩
  | .hbm, ⟨3, _⟩ => ⟨S1024x6144, .bf16⟩
  | .hbm, ⟨4, _⟩ => ⟨S8192x1024, .f32⟩
  | .local _ .vmem, ⟨0, _⟩ => ⟨S256x6144, .bf16⟩
  | .local _ .vmem, ⟨1, _⟩ => ⟨S256x6144, .bf16⟩
  | .local _ .vmem, ⟨2, _⟩ => ⟨S1024x6144, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpDxRefIdeal.lean ====
abbrev S8192x6144 : Shape := ⟨2, ![8192, 6144]⟩
abbrev S1024x6144 : Shape := ⟨2, ![1024, 6144]⟩
abbrev S8192x1024 : Shape := ⟨2, ![8192, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x6144, .f32⟩
  | .hbm, ⟨9, _⟩ => ⟨S8192x6144, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== UpDw.lean ====
abbrev S8192x1024 : Shape := ⟨2, ![8192, 1024]⟩
abbrev S8192x6144 : Shape := ⟨2, ![8192, 6144]⟩
abbrev S1024x6144 : Shape := ⟨2, ![1024, 6144]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x6144, .bf16⟩
  | .hbm, ⟨2, _⟩ => ⟨S1024x6144, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpDwRefIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .bf16⟩
  | .hbm, ⟨2, _⟩ => ⟨S_, .f32⟩
  | .hbm, ⟨3, _⟩ => ⟨S1024x6144, .f32⟩
  | .hbm, ⟨4, _⟩ => ⟨S8192x6144, .f32⟩
  | .hbm, ⟨5, _⟩ => ⟨S8192x6144, .f32⟩
  | .hbm, ⟨6, _⟩ => ⟨S6144x1024, .f32⟩
  | .hbm, ⟨7, _⟩ => ⟨S1024x6144, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S8192x3072 : Shape := ⟨2, ![8192, 3072]⟩
abbrev S8192x1024 : Shape := ⟨2, ![8192, 1024]⟩
abbrev S3072x1024 : Shape := ⟨2, ![3072, 1024]⟩
abbrev S1024x3072 : Shape := ⟨2, ![1024, 3072]⟩
abbrev S1024x512 : Shape := ⟨2, ![1024, 512]⟩
abbrev S3072x512 : Shape := ⟨2, ![3072, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3072x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x512, .f32⟩
  | .local _ .vmem, ⟨3, _⟩ => ⟨S1024x512, .f32⟩
  | .local _ .vmem, ⟨4, _⟩ => ⟨S3072x512, .f32⟩
  | .local _ .vmem, ⟨5, _⟩ => ⟨S3072x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3072x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownDwRefIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S_, .f32⟩
  | .hbm, ⟨3, _⟩ => ⟨S3072x1024, .f32⟩
  | .hbm, ⟨4, _⟩ => ⟨S8192x3072, .f32⟩
  | .hbm, ⟨5, _⟩ => ⟨S8192x1024, .f32⟩
  | .hbm, ⟨6, _⟩ => ⟨S1024x3072, .f32⟩
  | .hbm, ⟨7, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDx.lean ====
abbrev S8192x1024 : Shape := ⟨2, ![8192, 1024]⟩
abbrev S8192x3072 : Shape := ⟨2, ![8192, 3072]⟩
abbrev S8192x384 : Shape := ⟨2, ![8192, 384]⟩
abbrev S8192x256 : Shape := ⟨2, ![8192, 256]⟩
abbrev S8192x128 : Shape := ⟨2, ![8192, 128]⟩
abbrev S1024x4768 : Shape := ⟨2, ![1024, 4768]⟩
abbrev S1024x1024 : Shape := ⟨2, ![1024, 1024]⟩
abbrev S1024x384 : Shape := ⟨2, ![1024, 384]⟩
abbrev S1024x256 : Shape := ⟨2, ![1024, 256]⟩
abbrev S1024x32 : Shape := ⟨2, ![1024, 32]⟩
abbrev S_ : Shape := ⟨0, ![]⟩
abbrev S1024x64 : Shape := ⟨2, ![1024, 64]⟩
abbrev S1024x4864 : Shape := ⟨2, ![1024, 4864]⟩
abbrev S8192x4864 : Shape := ⟨2, ![8192, 4864]⟩
abbrev S256x1024 : Shape := ⟨2, ![256, 1024]⟩
abbrev S256x3072 : Shape := ⟨2, ![256, 3072]⟩
abbrev S256x384 : Shape := ⟨2, ![256, 384]⟩
abbrev S256x256 : Shape := ⟨2, ![256, 256]⟩
abbrev S256x128 : Shape := ⟨2, ![256, 128]⟩
abbrev S256x4864 : Shape := ⟨2, ![256, 4864]⟩

abbrev nBuf : Space → Nat
  | .hbm => 22
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x384, .f32⟩
  | .hbm, ⟨3, _⟩ => ⟨S8192x256, .f32⟩
  | .hbm, ⟨4, _⟩ => ⟨S8192x128, .f32⟩
  | .hbm, ⟨5, _⟩ => ⟨S8192x1024, .f32⟩
  | .hbm, ⟨6, _⟩ => ⟨S1024x4768, .f32⟩
  | .hbm, ⟨7, _⟩ => ⟨S1024x1024, .f32⟩
  | .hbm, ⟨8, _⟩ => ⟨S1024x1024, .f32⟩
  | .hbm, ⟨9, _⟩ => ⟨S1024x384, .f32⟩
  | .hbm, ⟨10, _⟩ => ⟨S1024x256, .f32⟩
  | .hbm, ⟨11, _⟩ => ⟨S1024x32, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x64, .f32⟩
  | .hbm, ⟨16, _⟩ => ⟨S_, .f32⟩
  | .hbm, ⟨17, _⟩ => ⟨S1024x32, .f32⟩
  | .hbm, ⟨18, _⟩ => ⟨S1024x4864, .f32⟩
  | .hbm, ⟨19, _⟩ => ⟨S1024x4864, .bf16⟩
  | .hbm, ⟨20, _⟩ => ⟨S8192x1024, .f32⟩
  | .hbm, ⟨21, _⟩ => ⟨S8192x4864, .bf16⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x384, .f32⟩
  | .local _ .vmem, ⟨5, _⟩ => ⟨S256x384, .f32⟩
  | .local _ .vmem, ⟨6, _⟩ => ⟨S256x256, .f32⟩
  | .local _ .vmem, ⟨7, _⟩ => ⟨S256x256, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S1024x4864, .bf16⟩
  | .local _ .vmem, ⟨13, _⟩ => ⟨S256x1024, .f32⟩
  | .local _ .vmem, ⟨14, _⟩ => ⟨S256x1024, .f32⟩
  | .local _ .vmem, ⟨15, _⟩ => ⟨S256x4864, .bf16⟩
  | .local _ .vmem, ⟨16, _⟩ => ⟨S256x4864, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4864 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4864 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InDxRefIdeal.lean ====
abbrev S8192x1024 : Shape := ⟨2, ![8192, 1024]⟩
abbrev S8192x3072 : Shape := ⟨2, ![8192, 3072]⟩
abbrev S8192x384 : Shape := ⟨2, ![8192, 384]⟩
abbrev S8192x256 : Shape := ⟨2, ![8192, 256]⟩
abbrev S8192x128 : Shape := ⟨2, ![8192, 128]⟩
abbrev S1024x4768 : Shape := ⟨2, ![1024, 4768]⟩
abbrev S8192x32 : Shape := ⟨2, ![8192, 32]⟩
abbrev S_ : Shape := ⟨0, ![]⟩
abbrev S8192x4768 : Shape := ⟨2, ![8192, 4768]⟩
abbrev S8192x4864 : Shape := ⟨2, ![8192, 4864]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x384, .f32⟩
  | .hbm, ⟨3, _⟩ => ⟨S8192x256, .f32⟩
  | .hbm, ⟨4, _⟩ => ⟨S8192x128, .f32⟩
  | .hbm, ⟨5, _⟩ => ⟨S8192x1024, .f32⟩
  | .hbm, ⟨6, _⟩ => ⟨S1024x4768, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x32, .f32⟩
  | .hbm, ⟨11, _⟩ => ⟨S_, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x4768, .f32⟩
  | .hbm, ⟨17, _⟩ => ⟨S8192x1024, .f32⟩
  | .hbm, ⟨18, _⟩ => ⟨S8192x1024, .f32⟩
  | .hbm, ⟨19, _⟩ => ⟨S8192x384, .f32⟩
  | .hbm, ⟨20, _⟩ => ⟨S8192x256, .f32⟩
  | .hbm, ⟨21, _⟩ => ⟨S8192x32, .f32⟩
  | .hbm, ⟨22, _⟩ => ⟨S8192x1024, .f32⟩
  | .hbm, ⟨23, _⟩ => ⟨S8192x1024, .f32⟩
  | .hbm, ⟨24, _⟩ => ⟨S8192x4768, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x4864, .f32⟩
  | .hbm, ⟨31, _⟩ => ⟨S8192x4864, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== InDw.lean ====
abbrev S8192x1024 : Shape := ⟨2, ![8192, 1024]⟩
abbrev S8192x4864 : Shape := ⟨2, ![8192, 4864]⟩
abbrev S1024x4864 : Shape := ⟨2, ![1024, 4864]⟩
abbrev S1024x1024 : Shape := ⟨2, ![1024, 1024]⟩
abbrev S1024x2432 : Shape := ⟨2, ![1024, 2432]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4864, .bf16⟩
  | .hbm, ⟨2, _⟩ => ⟨S1024x4864, .f32⟩
  | .local _ .vmem, ⟨0, _⟩ => ⟨S1024x1024, .f32⟩
  | .local _ .vmem, ⟨1, _⟩ => ⟨S1024x1024, .f32⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | .local _ .vmem, ⟨5, _⟩ => ⟨S1024x2432, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDwRefIdeal.lean ====
abbrev S8192x1024 : Shape := ⟨2, ![8192, 1024]⟩
abbrev S8192x4864 : Shape := ⟨2, ![8192, 4864]⟩
abbrev S_ : Shape := ⟨0, ![]⟩
abbrev S1024x4864 : Shape := ⟨2, ![1024, 4864]⟩
abbrev S4864x1024 : Shape := ⟨2, ![4864, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4864, .bf16⟩
  | .hbm, ⟨2, _⟩ => ⟨S_, .f32⟩
  | .hbm, ⟨3, _⟩ => ⟨S1024x4864, .f32⟩
  | .hbm, ⟨4, _⟩ => ⟨S8192x4864, .f32⟩
  | .hbm, ⟨5, _⟩ => ⟨S8192x4864, .f32⟩
  | .hbm, ⟨6, _⟩ => ⟨S4864x1024, .f32⟩
  | .hbm, ⟨7, _⟩ => ⟨S1024x4864, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InFwd.lean ====
abbrev S8192x1024 : Shape := ⟨2, ![8192, 1024]⟩
abbrev S1024x4768 : Shape := ⟨2, ![1024, 4768]⟩
abbrev S1024x1024 : Shape := ⟨2, ![1024, 1024]⟩
abbrev S1024x384 : Shape := ⟨2, ![1024, 384]⟩
abbrev S1024x256 : Shape := ⟨2, ![1024, 256]⟩
abbrev S1024x32 : Shape := ⟨2, ![1024, 32]⟩
abbrev S_ : Shape := ⟨0, ![]⟩
abbrev S1024x64 : Shape := ⟨2, ![1024, 64]⟩
abbrev S1024x4864 : Shape := ⟨2, ![1024, 4864]⟩
abbrev S8192x4096 : Shape := ⟨2, ![8192, 4096]⟩
abbrev S8192x384 : Shape := ⟨2, ![8192, 384]⟩
abbrev S8192x256 : Shape := ⟨2, ![8192, 256]⟩
abbrev S8192x128 : Shape := ⟨2, ![8192, 128]⟩
abbrev S256x1024 : Shape := ⟨2, ![256, 1024]⟩
abbrev S256x4096 : Shape := ⟨2, ![256, 4096]⟩
abbrev S256x384 : Shape := ⟨2, ![256, 384]⟩
abbrev S256x256 : Shape := ⟨2, ![256, 256]⟩
abbrev S256x128 : Shape := ⟨2, ![256, 128]⟩
abbrev S1024x128 : Shape := ⟨2, ![1024, 128]⟩

abbrev nBuf : Space → Nat
  | .hbm => 19
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x4768, .f32⟩
  | .hbm, ⟨2, _⟩ => ⟨S1024x1024, .f32⟩
  | .hbm, ⟨3, _⟩ => ⟨S1024x1024, .f32⟩
  | .hbm, ⟨4, _⟩ => ⟨S1024x384, .f32⟩
  | .hbm, ⟨5, _⟩ => ⟨S1024x256, .f32⟩
  | .hbm, ⟨6, _⟩ => ⟨S1024x32, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x64, .f32⟩
  | .hbm, ⟨11, _⟩ => ⟨S_, .f32⟩
  | .hbm, ⟨12, _⟩ => ⟨S1024x32, .f32⟩
  | .hbm, ⟨13, _⟩ => ⟨S1024x4864, .f32⟩
  | .hbm, ⟨14, _⟩ => ⟨S1024x4864, .bf16⟩
  | .hbm, ⟨15, _⟩ => ⟨S8192x4096, .f32⟩
  | .hbm, ⟨16, _⟩ => ⟨S8192x384, .f32⟩
  | .hbm, ⟨17, _⟩ => ⟨S8192x256, .f32⟩
  | .hbm, ⟨18, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S1024x4864, .bf16⟩
  | .local _ .vmem, ⟨3, _⟩ => ⟨S256x4096, .f32⟩
  | .local _ .vmem, ⟨4, _⟩ => ⟨S256x4096, .f32⟩
  | .local _ .vmem, ⟨5, _⟩ => ⟨S256x384, .f32⟩
  | .local _ .vmem, ⟨6, _⟩ => ⟨S256x384, .f32⟩
  | .local _ .vmem, ⟨7, _⟩ => ⟨S256x256, .f32⟩
  | .local _ .vmem, ⟨8, _⟩ => ⟨S256x256, .f32⟩
  | .local _ .vmem, ⟨9, _⟩ => ⟨S256x128, .f32⟩
  | .local _ .vmem, ⟨10, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4864 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InFwdRefIdeal.lean ====
abbrev S8192x1024 : Shape := ⟨2, ![8192, 1024]⟩
abbrev S1024x4768 : Shape := ⟨2, ![1024, 4768]⟩
abbrev S_ : Shape := ⟨0, ![]⟩
abbrev S8192x4768 : Shape := ⟨2, ![8192, 4768]⟩
abbrev S8192x384 : Shape := ⟨2, ![8192, 384]⟩
abbrev S8192x256 : Shape := ⟨2, ![8192, 256]⟩
abbrev S8192x32 : Shape := ⟨2, ![8192, 32]⟩
abbrev S8192x4096 : Shape := ⟨2, ![8192, 4096]⟩
abbrev S8192x128 : Shape := ⟨2, ![8192, 128]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4768, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x4768, .f32⟩
  | .hbm, ⟨6, _⟩ => ⟨S8192x1024, .f32⟩
  | .hbm, ⟨7, _⟩ => ⟨S8192x1024, .f32⟩
  | .hbm, ⟨8, _⟩ => ⟨S8192x384, .f32⟩
  | .hbm, ⟨9, _⟩ => ⟨S8192x256, .f32⟩
  | .hbm, ⟨10, _⟩ => ⟨S8192x32, .f32⟩
  | .hbm, ⟨11, _⟩ => ⟨S8192x1024, .f32⟩
  | .hbm, ⟨12, _⟩ => ⟨S8192x1024, .f32⟩
  | .hbm, ⟨13, _⟩ => ⟨S8192x4096, .f32⟩
  | .hbm, ⟨14, _⟩ => ⟨S_, .i32⟩
  | .hbm, ⟨15, _⟩ => ⟨S_, .f32⟩
  | .hbm, ⟨16, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== FfnFwd.lean ====
abbrev S8192x1024 : Shape := ⟨2, ![8192, 1024]⟩
abbrev S1024x6144 : Shape := ⟨2, ![1024, 6144]⟩
abbrev S3x6144 : Shape := ⟨2, ![3, 6144]⟩
abbrev S4x6144 : Shape := ⟨2, ![4, 6144]⟩
abbrev S3072x1024 : Shape := ⟨2, ![3072, 1024]⟩
abbrev S4x1024 : Shape := ⟨2, ![4, 1024]⟩
abbrev S8192x6144 : Shape := ⟨2, ![8192, 6144]⟩
abbrev S256x1024 : Shape := ⟨2, ![256, 1024]⟩
abbrev S256x6144 : Shape := ⟨2, ![256, 6144]⟩
abbrev S264x6144 : Shape := ⟨2, ![264, 6144]⟩
abbrev S8x6144 : Shape := ⟨2, ![8, 6144]⟩
abbrev S1024x512 : Shape := ⟨2, ![1024, 512]⟩
abbrev S256x512 : Shape := ⟨2, ![256, 512]⟩
abbrev S1x512 : Shape := ⟨2, ![1, 512]⟩
abbrev S8x512 : Shape := ⟨2, ![8, 512]⟩
abbrev S512x1024 : Shape := ⟨2, ![512, 1024]⟩
abbrev S256 : Shape := ⟨1, ![256]⟩
abbrev S256x1 : Shape := ⟨2, ![256, 1]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S3x6144, .f32⟩
  | .hbm, ⟨3, _⟩ => ⟨S4x6144, .f32⟩
  | .hbm, ⟨4, _⟩ => ⟨S3072x1024, .f32⟩
  | .hbm, ⟨5, _⟩ => ⟨S4x1024, .f32⟩
  | .hbm, ⟨6, _⟩ => ⟨S4x1024, .f32⟩
  | .hbm, ⟨7, _⟩ => ⟨S1024x6144, .bf16⟩
  | .hbm, ⟨8, _⟩ => ⟨S3072x1024, .bf16⟩
  | .hbm, ⟨9, _⟩ => ⟨S8192x6144, .f32⟩
  | .hbm, ⟨10, _⟩ => ⟨S8192x1024, .f32⟩
  | .hbm, ⟨11, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1024x6144, .bf16⟩
  | .local _ .vmem, ⟨3, _⟩ => ⟨S3x6144, .f32⟩
  | .local _ .vmem, ⟨4, _⟩ => ⟨S4x6144, .f32⟩
  | .local _ .vmem, ⟨5, _⟩ => ⟨S3072x1024, .bf16⟩
  | .local _ .vmem, ⟨6, _⟩ => ⟨S4x1024, .f32⟩
  | .local _ .vmem, ⟨7, _⟩ => ⟨S4x1024, .f32⟩
  | .local _ .vmem, ⟨8, _⟩ => ⟨S256x6144, .f32⟩
  | .local _ .vmem, ⟨9, _⟩ => ⟨S256x6144, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S264x6144, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnFwdRefIdeal.lean ====
abbrev S8192x1024 : Shape := ⟨2, ![8192, 1024]⟩
abbrev S1024x6144 : Shape := ⟨2, ![1024, 6144]⟩
abbrev S3x6144 : Shape := ⟨2, ![3, 6144]⟩
abbrev S4x6144 : Shape := ⟨2, ![4, 6144]⟩
abbrev S3072x1024 : Shape := ⟨2, ![3072, 1024]⟩
abbrev S4x1024 : Shape := ⟨2, ![4, 1024]⟩
abbrev S8192x6144 : Shape := ⟨2, ![8192, 6144]⟩
abbrev S4x2048x6144 : Shape := ⟨3, ![4, 2048, 6144]⟩
abbrev S1x6144 : Shape := ⟨2, ![1, 6144]⟩
abbrev S6144 : Shape := ⟨1, ![6144]⟩
abbrev S_ : Shape := ⟨0, ![]⟩
abbrev S4x2050x6144 : Shape := ⟨3, ![4, 2050, 6144]⟩
abbrev S1x1x6144 : Shape := ⟨3, ![1, 1, 6144]⟩
abbrev S8192x3072 : Shape := ⟨2, ![8192, 3072]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S3x6144, .f32⟩
  | .hbm, ⟨3, _⟩ => ⟨S4x6144, .f32⟩
  | .hbm, ⟨4, _⟩ => ⟨S3072x1024, .f32⟩
  | .hbm, ⟨5, _⟩ => ⟨S4x1024, .f32⟩
  | .hbm, ⟨6, _⟩ => ⟨S4x1024, .f32⟩
  | .hbm, ⟨7, _⟩ => ⟨S8192x6144, .f32⟩
  | .hbm, ⟨8, _⟩ => ⟨S4x2048x6144, .f32⟩
  | .hbm, ⟨9, _⟩ => ⟨S1x6144, .f32⟩
  | .hbm, ⟨10, _⟩ => ⟨S6144, .f32⟩
  | .hbm, ⟨11, _⟩ => ⟨S_, .i32⟩
  | .hbm, ⟨12, _⟩ => ⟨S_, .f32⟩
  | .hbm, ⟨13, _⟩ => ⟨S4x2050x6144, .f32⟩
  | .hbm, ⟨14, _⟩ => ⟨S1x6144, .f32⟩
  | .hbm, ⟨15, _⟩ => ⟨S6144, .f32⟩
  | .hbm, ⟨16, _⟩ => ⟨S4x2048x6144, .f32⟩
  | .hbm, ⟨17, _⟩ => ⟨S1x1x6144, .f32⟩
  | .hbm, ⟨18, _⟩ => ⟨S4x2048x6144, .f32⟩
  | .hbm, ⟨19, _⟩ => ⟨S4x2048x6144, .f32⟩
  | .hbm, ⟨20, _⟩ => ⟨S_, .f32⟩
  | .hbm, ⟨21, _⟩ => ⟨S4x2048x6144, .f32⟩
  | .hbm, ⟨22, _⟩ => ⟨S4x2048x6144, .f32⟩
  | .hbm, ⟨23, _⟩ => ⟨S1x6144, .f32⟩
  | .hbm, ⟨24, _⟩ => ⟨S6144, .f32⟩
  | .hbm, ⟨25, _⟩ => ⟨S4x2048x6144, .f32⟩
  | .hbm, ⟨26, _⟩ => ⟨S1x1x6144, .f32⟩
  | .hbm, ⟨27, _⟩ => ⟨S4x2048x6144, .f32⟩
  | .hbm, ⟨28, _⟩ => ⟨S4x2048x6144, .f32⟩
  | .hbm, ⟨29, _⟩ => ⟨S4x2048x6144, .f32⟩
  | .hbm, ⟨30, _⟩ => ⟨S1x6144, .f32⟩
  | .hbm, ⟨31, _⟩ => ⟨S6144, .f32⟩
  | .hbm, ⟨32, _⟩ => ⟨S4x2048x6144, .f32⟩
  | .hbm, ⟨33, _⟩ => ⟨S1x1x6144, .f32⟩
  | .hbm, ⟨34, _⟩ => ⟨S4x2048x6144, .f32⟩
  | .hbm, ⟨35, _⟩ => ⟨S4x2048x6144, .f32⟩
  | .hbm, ⟨36, _⟩ => ⟨S4x2048x6144, .f32⟩
  | .hbm, ⟨37, _⟩ => ⟨S1x1x6144, .f32⟩
  | .hbm, ⟨38, _⟩ => ⟨S4x2048x6144, .f32⟩
  | .hbm, ⟨39, _⟩ => ⟨S4x2048x6144, .f32⟩
  | .hbm, ⟨40, _⟩ => ⟨S8192x6144, .f32⟩
  | .hbm, ⟨41, _⟩ => ⟨S8192x3072, .f32⟩
  | .hbm, ⟨42, _⟩ => ⟨S8192x3072, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x3072, .f32⟩
  | .hbm, ⟨47, _⟩ => ⟨S8192x3072, .f32⟩
  | .hbm, ⟨48, _⟩ => ⟨S_, .f32⟩
  | .hbm, ⟨49, _⟩ => ⟨S8192x3072, .f32⟩
  | .hbm, ⟨50, _⟩ => ⟨S8192x3072, .f32⟩
  | .hbm, ⟨51, _⟩ => ⟨S8192x3072, .f32⟩
  | .hbm, ⟨52, _⟩ => ⟨S_, .f32⟩
  | .hbm, ⟨53, _⟩ => ⟨S8192x3072, .f32⟩
  | .hbm, ⟨54, _⟩ => ⟨S8192x3072, .f32⟩
  | .hbm, ⟨55, _⟩ => ⟨S8192x3072, .f32⟩
  | .hbm, ⟨56, _⟩ => ⟨S_, .f32⟩
  | .hbm, ⟨57, _⟩ => ⟨S8192x3072, .f32⟩
  | .hbm, ⟨58, _⟩ => ⟨S8192x3072, .f32⟩
  | .hbm, ⟨59, _⟩ => ⟨S_, .f32⟩
  | .hbm, ⟨60, _⟩ => ⟨S8192x3072, .f32⟩
  | .hbm, ⟨61, _⟩ => ⟨S8192x3072, .f32⟩
  | .hbm, ⟨62, _⟩ => ⟨S8192x3072, .f32⟩
  | .hbm, ⟨63, _⟩ => ⟨S8192x3072, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S1024, .f32⟩
  | .hbm, ⟨68, _⟩ => ⟨S1x1024, .f32⟩
  | .hbm, ⟨69, _⟩ => ⟨S1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S1x1024, .f32⟩
  | .hbm, ⟨97, _⟩ => ⟨S8192x1024, .f32⟩
  | .hbm, ⟨98, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_1 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== MixFwd.lean ====
abbrev S8192x1024 : Shape := ⟨2, ![8192, 1024]⟩
abbrev S8192x4096 : Shape := ⟨2, ![8192, 4096]⟩
abbrev S1024x1024 : Shape := ⟨2, ![1024, 1024]⟩
abbrev S4x1024 : Shape := ⟨2, ![4, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x1024 : Shape := ⟨2, ![1, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S4x1024, .f32⟩
  | .hbm, ⟨6, _⟩ => ⟨S4x1024, .f32⟩
  | .hbm, ⟨7, _⟩ => ⟨S1024x1024, .bf16⟩
  | .hbm, ⟨8, _⟩ => ⟨S8192x1024, .f32⟩
  | .hbm, ⟨9, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S4x1024, .f32⟩
  | .local _ .vmem, ⟨14, _⟩ => ⟨S4x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixFwdRefIdeal.lean ====
abbrev S8192x1024 : Shape := ⟨2, ![8192, 1024]⟩
abbrev S8192x4096 : Shape := ⟨2, ![8192, 4096]⟩
abbrev S1024x1024 : Shape := ⟨2, ![1024, 1024]⟩
abbrev S4x1024 : Shape := ⟨2, ![4, 1024]⟩
abbrev S_ : Shape := ⟨0, ![]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S4x1024, .f32⟩
  | .hbm, ⟨6, _⟩ => ⟨S4x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S1x1024, .f32⟩
  | .hbm, ⟨84, _⟩ => ⟨S8192x1024, .f32⟩
  | .hbm, ⟨85, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== FfnBwd.lean ====
abbrev S8192x1024 : Shape := ⟨2, ![8192, 1024]⟩
abbrev S8192x6144 : Shape := ⟨2, ![8192, 6144]⟩
abbrev S3x6144 : Shape := ⟨2, ![3, 6144]⟩
abbrev S4x6144 : Shape := ⟨2, ![4, 6144]⟩
abbrev S3072x1024 : Shape := ⟨2, ![3072, 1024]⟩
abbrev S4x1024 : Shape := ⟨2, ![4, 1024]⟩
abbrev S1x6144 : Shape := ⟨2, ![1, 6144]⟩
abbrev S_ : Shape := ⟨0, ![]⟩
abbrev S4x2x6144 : Shape := ⟨3, ![4, 2, 6144]⟩
abbrev S4x2048x6144 : Shape := ⟨3, ![4, 2048, 6144]⟩
abbrev S4x2050x6144 : Shape := ⟨3, ![4, 2050, 6144]⟩
abbrev S1x1x6144 : Shape := ⟨3, ![1, 1, 6144]⟩
abbrev S8192x3072 : Shape := ⟨2, ![8192, 3072]⟩
abbrev S1x1024 : Shape := ⟨2, ![1, 1024]⟩
abbrev S256x1024 : Shape := ⟨2, ![256, 1024]⟩
abbrev S256x6144 : Shape := ⟨2, ![256, 6144]⟩
abbrev S8x6144 : Shape := ⟨2, ![8, 6144]⟩
abbrev S256x3072 : Shape := ⟨2, ![256, 3072]⟩
abbrev S256 : Shape := ⟨1, ![256]⟩
abbrev S256x1 : Shape := ⟨2, ![256, 1]⟩
abbrev S1024 : Shape := ⟨1, ![1024]⟩
abbrev S256x512 : Shape := ⟨2, ![256, 512]⟩
abbrev S8x512 : Shape := ⟨2, ![8, 512]⟩
abbrev S1x512 : Shape := ⟨2, ![1, 512]⟩
abbrev S248x512 : Shape := ⟨2, ![248, 512]⟩
abbrev S512x1024 : Shape := ⟨2, ![512, 1024]⟩
abbrev S512 : Shape := ⟨1, ![512]⟩

abbrev nBuf : Space → Nat
  | .hbm => 69
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x6144, .f32⟩
  | .hbm, ⟨3, _⟩ => ⟨S3x6144, .f32⟩
  | .hbm, ⟨4, _⟩ => ⟨S4x6144, .f32⟩
  | .hbm, ⟨5, _⟩ => ⟨S3072x1024, .f32⟩
  | .hbm, ⟨6, _⟩ => ⟨S4x1024, .f32⟩
  | .hbm, ⟨7, _⟩ => ⟨S1x6144, .f32⟩
  | .hbm, ⟨8, _⟩ => ⟨S_, .f32⟩
  | .hbm, ⟨9, _⟩ => ⟨S4x2x6144, .f32⟩
  | .hbm, ⟨10, _⟩ => ⟨S4x2048x6144, .f32⟩
  | .hbm, ⟨11, _⟩ => ⟨S4x2050x6144, .f32⟩
  | .hbm, ⟨12, _⟩ => ⟨S1x6144, .f32⟩
  | .hbm, ⟨13, _⟩ => ⟨S4x2048x6144, .f32⟩
  | .hbm, ⟨14, _⟩ => ⟨S1x1x6144, .f32⟩
  | .hbm, ⟨15, _⟩ => ⟨S4x2048x6144, .f32⟩
  | .hbm, ⟨16, _⟩ => ⟨S4x2048x6144, .f32⟩
  | .hbm, ⟨17, _⟩ => ⟨S1x6144, .f32⟩
  | .hbm, ⟨18, _⟩ => ⟨S4x2048x6144, .f32⟩
  | .hbm, ⟨19, _⟩ => ⟨S1x1x6144, .f32⟩
  | .hbm, ⟨20, _⟩ => ⟨S4x2048x6144, .f32⟩
  | .hbm, ⟨21, _⟩ => ⟨S4x2048x6144, .f32⟩
  | .hbm, ⟨22, _⟩ => ⟨S4x2048x6144, .f32⟩
  | .hbm, ⟨23, _⟩ => ⟨S1x6144, .f32⟩
  | .hbm, ⟨24, _⟩ => ⟨S4x2048x6144, .f32⟩
  | .hbm, ⟨25, _⟩ => ⟨S1x1x6144, .f32⟩
  | .hbm, ⟨26, _⟩ => ⟨S4x2048x6144, .f32⟩
  | .hbm, ⟨27, _⟩ => ⟨S4x2048x6144, .f32⟩
  | .hbm, ⟨28, _⟩ => ⟨S4x2048x6144, .f32⟩
  | .hbm, ⟨29, _⟩ => ⟨S1x1x6144, .f32⟩
  | .hbm, ⟨30, _⟩ => ⟨S4x2048x6144, .f32⟩
  | .hbm, ⟨31, _⟩ => ⟨S4x2048x6144, .f32⟩
  | .hbm, ⟨32, _⟩ => ⟨S8192x6144, .f32⟩
  | .hbm, ⟨33, _⟩ => ⟨S8192x3072, .f32⟩
  | .hbm, ⟨34, _⟩ => ⟨S8192x3072, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x3072, .f32⟩
  | .hbm, ⟨39, _⟩ => ⟨S8192x3072, .f32⟩
  | .hbm, ⟨40, _⟩ => ⟨S_, .f32⟩
  | .hbm, ⟨41, _⟩ => ⟨S8192x3072, .f32⟩
  | .hbm, ⟨42, _⟩ => ⟨S8192x3072, .f32⟩
  | .hbm, ⟨43, _⟩ => ⟨S_, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S_, .f32⟩
  | .hbm, ⟨48, _⟩ => ⟨S8192x3072, .f32⟩
  | .hbm, ⟨49, _⟩ => ⟨S8192x3072, .f32⟩
  | .hbm, ⟨50, _⟩ => ⟨S8192x3072, .f32⟩
  | .hbm, ⟨51, _⟩ => ⟨S_, .f32⟩
  | .hbm, ⟨52, _⟩ => ⟨S8192x3072, .f32⟩
  | .hbm, ⟨53, _⟩ => ⟨S8192x3072, .f32⟩
  | .hbm, ⟨54, _⟩ => ⟨S_, .f32⟩
  | .hbm, ⟨55, _⟩ => ⟨S8192x3072, .f32⟩
  | .hbm, ⟨56, _⟩ => ⟨S8192x3072, .f32⟩
  | .hbm, ⟨57, _⟩ => ⟨S8192x3072, .f32⟩
  | .hbm, ⟨58, _⟩ => ⟨S8192x3072, .f32⟩
  | .hbm, ⟨59, _⟩ => ⟨S8192x1024, .f32⟩
  | .hbm, ⟨60, _⟩ => ⟨S8192x1024, .f32⟩
  | .hbm, ⟨61, _⟩ => ⟨S3072x1024, .bf16⟩
  | .hbm, ⟨62, _⟩ => ⟨S8192x1024, .f32⟩
  | .hbm, ⟨63, _⟩ => ⟨S8192x6144, .bf16⟩
  | .hbm, ⟨64, _⟩ => ⟨S8192x3072, .bf16⟩
  | .hbm, ⟨65, _⟩ => ⟨S3x6144, .f32⟩
  | .hbm, ⟨66, _⟩ => ⟨S1x6144, .f32⟩
  | .hbm, ⟨67, _⟩ => ⟨S1x1024, .f32⟩
  | .hbm, ⟨68, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x6144, .f32⟩
  | .local _ .vmem, ⟨5, _⟩ => ⟨S256x6144, .f32⟩
  | .local _ .vmem, ⟨6, _⟩ => ⟨S8x6144, .f32⟩
  | .local _ .vmem, ⟨7, _⟩ => ⟨S8x6144, .f32⟩
  | .local _ .vmem, ⟨8, _⟩ => ⟨S3x6144, .f32⟩
  | .local _ .vmem, ⟨9, _⟩ => ⟨S4x6144, .f32⟩
  | .local _ .vmem, ⟨10, _⟩ => ⟨S3072x1024, .bf16⟩
  | .local _ .vmem, ⟨11, _⟩ => ⟨S4x1024, .f32⟩
  | .local _ .vmem, ⟨12, _⟩ => ⟨S256x1024, .f32⟩
  | .local _ .vmem, ⟨13, _⟩ => ⟨S256x1024, .f32⟩
  | .local _ .vmem, ⟨14, _⟩ => ⟨S256x6144, .bf16⟩
  | .local _ .vmem, ⟨15, _⟩ => ⟨S256x6144, .bf16⟩
  | .local _ .vmem, ⟨16, _⟩ => ⟨S256x3072, .bf16⟩
  | .local _ .vmem, ⟨17, _⟩ => ⟨S256x3072, .bf16⟩
  | .local _ .vmem, ⟨18, _⟩ => ⟨S3x6144, .f32⟩
  | .local _ .vmem, ⟨19, _⟩ => ⟨S1x6144, .f32⟩
  | .local _ .vmem, ⟨20, _⟩ => ⟨S1x1024, .f32⟩
  | .local _ .vmem, ⟨21, _⟩ => ⟨S1x1024, .f32⟩
  | .local _ .vmem, ⟨22, _⟩ => ⟨S8x6144, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48_0 : Ref sig .tc := ⟨.hbm, 62, rfl⟩
abbrev main_v48_1 : Ref sig .tc := ⟨.hbm, 63, rfl⟩
abbrev main_v48_2 : Ref sig .tc := ⟨.hbm, 64, rfl⟩
abbrev main_v48_3 : Ref sig .tc := ⟨.hbm, 65, rfl⟩
abbrev main_v48_4 : Ref sig .tc := ⟨.hbm, 66, rfl⟩
abbrev main_v48_5 : Ref sig .tc := ⟨.hbm, 67, rfl⟩
abbrev main_v48_6 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c32_i32 : BitVec 32 := 32#32
  let v3 : BitVec 32 := Scalar.muli v2 c32_i32
  let c1_i32 : BitVec 32 := 1#32
  let v4 : BitVec 32 := Scalar.subi v3 c1_i32
  let c0_i32 : BitVec 32 := 0#32
  let v5 : BitVec 32 := Scalar.maxsi v4 c0_i32
  let c0_i32_0 : BitVec 32 := 0#32
  let c0_i32_1 : BitVec 32 := 0#32
  ![v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x6144 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S3x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== FfnBwdIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== FfnBwdRefIdeal.lean ====
abbrev S8192x1024 : Shape := ⟨2, ![8192, 1024]⟩
abbrev S8192x6144 : Shape := ⟨2, ![8192, 6144]⟩
abbrev S3x6144 : Shape := ⟨2, ![3, 6144]⟩
abbrev S4x6144 : Shape := ⟨2, ![4, 6144]⟩
abbrev S3072x1024 : Shape := ⟨2, ![3072, 1024]⟩
abbrev S4x1024 : Shape := ⟨2, ![4, 1024]⟩
abbrev S1x6144 : Shape := ⟨2, ![1, 6144]⟩
abbrev S1x1024 : Shape := ⟨2, ![1, 1024]⟩
abbrev S_ : Shape := ⟨0, ![]⟩
abbrev S4x2048x6144 : Shape := ⟨3, ![4, 2048, 6144]⟩
abbrev S4x2x6144 : Shape := ⟨3, ![4, 2, 6144]⟩
abbrev S4x2050x6144 : Shape := ⟨3, ![4, 2050, 6144]⟩
abbrev S6144 : Shape := ⟨1, ![6144]⟩
abbrev S1x1x6144 : Shape := ⟨3, ![1, 1, 6144]⟩
abbrev S8192x3072 : Shape := ⟨2, ![8192, 3072]⟩
abbrev S8192 : Shape := ⟨1, ![8192]⟩
abbrev S8192x1 : Shape := ⟨2, ![8192, 1]⟩
abbrev S1024 : Shape := ⟨1, ![1024]⟩

abbrev nBuf : Space → Nat
  | .hbm => 235
  | .vmem => 0
  | .smem => 0
  | _ => 0

abbrev hbmTy0_0 (i : Nat) : BufTy := match i % 128 with
  | 0 => ⟨S8192x1024, .f32⟩
  | 1 => ⟨S8192x1024, .f32⟩
  | 2 => ⟨S8192x6144, .f32⟩
  | 3 => ⟨S3x6144, .f32⟩
  | 4 => ⟨S4x6144, .f32⟩
  | 5 => ⟨S3072x1024, .f32⟩
  | 6 => ⟨S4x1024, .f32⟩
  | 7 => ⟨S1x6144, .f32⟩
  | 8 => ⟨S1x1024, .f32⟩
  | 9 => ⟨S_, .f32⟩
  | 10 => ⟨S8192x1024, .f32⟩
  | 11 => ⟨S8192x1024, .f32⟩
  | 12 => ⟨S_, .f32⟩
  | 13 => ⟨S1x1024, .f32⟩
  | 14 => ⟨S4x2048x6144, .f32⟩
  | 15 => ⟨S_, .f32⟩
  | 16 => ⟨S4x2x6144, .f32⟩
  | 17 => ⟨S4x2050x6144, .f32⟩
  | 18 => ⟨S_, .f32⟩
  | 19 => ⟨S4x2x6144, .f32⟩
  | 20 => ⟨S1x6144, .f32⟩
  | 21 => ⟨S6144, .f32⟩
  | 22 => ⟨S4x2048x6144, .f32⟩
  | 23 => ⟨S1x1x6144, .f32⟩
  | 24 => ⟨S4x2048x6144, .f32⟩
  | 25 => ⟨S4x2048x6144, .f32⟩
  | 26 => ⟨S_, .f32⟩
  | 27 => ⟨S4x2048x6144, .f32⟩
  | 28 => ⟨S4x2048x6144, .f32⟩
  | 29 => ⟨S1x6144, .f32⟩
  | 30 => ⟨S6144, .f32⟩
  | 31 => ⟨S4x2048x6144, .f32⟩
  | 32 => ⟨S1x1x6144, .f32⟩
  | 33 => ⟨S4x2048x6144, .f32⟩
  | 34 => ⟨S4x2048x6144, .f32⟩
  | 35 => ⟨S4x2048x6144, .f32⟩
  | 36 => ⟨S1x6144, .f32⟩
  | 37 => ⟨S6144, .f32⟩
  | 38 => ⟨S4x2048x6144, .f32⟩
  | 39 => ⟨S1x1x6144, .f32⟩
  | 40 => ⟨S4x2048x6144, .f32⟩
  | 41 => ⟨S4x2048x6144, .f32⟩
  | 42 => ⟨S4x2048x6144, .f32⟩
  | 43 => ⟨S1x1x6144, .f32⟩
  | 44 => ⟨S4x2048x6144, .f32⟩
  | 45 => ⟨S4x2048x6144, .f32⟩
  | 46 => ⟨S8192x6144, .f32⟩
  | 47 => ⟨S8192x3072, .f32⟩
  | 48 => ⟨S8192x3072, .f32⟩
  | 49 => ⟨S8192x3072, .f32⟩
  | 50 => ⟨S8192x3072, .f32⟩
  | 51 => ⟨S8192x3072, .f32⟩
  | 52 => ⟨S_, .f32⟩
  | 53 => ⟨S8192x3072, .f32⟩
  | 54 => ⟨S8192x3072, .f32⟩
  | 55 => ⟨S_, .f32⟩
  | 56 => ⟨S8192x3072, .f32⟩
  | 57 => ⟨S8192x3072, .f32⟩
  | 58 => ⟨S_, .f32⟩
  | 59 => ⟨S8192x3072, .f32⟩
  | 60 => ⟨S8192x3072, .f32⟩
  | 61 => ⟨S8192x3072, .f32⟩
  | 62 => ⟨S_, .f32⟩
  | 63 => ⟨S8192x3072, .f32⟩
  | 64 => ⟨S8192x3072, .f32⟩
  | 65 => ⟨S8192x3072, .f32⟩
  | 66 => ⟨S_, .f32⟩
  | 67 => ⟨S8192x3072, .f32⟩
  | 68 => ⟨S8192x3072, .f32⟩
  | 69 => ⟨S_, .f32⟩
  | 70 => ⟨S8192x3072, .f32⟩
  | 71 => ⟨S8192x3072, .f32⟩
  | 72 => ⟨S8192x3072, .f32⟩
  | 73 => ⟨S_, .f32⟩
  | 74 => ⟨S8192x3072, .f32⟩
  | 75 => ⟨S8192x3072, .f32⟩
  | 76 => ⟨S_, .f32⟩
  | 77 => ⟨S8192x3072, .f32⟩
  | 78 => ⟨S8192x3072, .f32⟩
  | 79 => ⟨S8192x3072, .f32⟩
  | 80 => ⟨S8192x3072, .f32⟩
  | 81 => ⟨S8192x1024, .f32⟩
  | 82 => ⟨S8192x1024, .f32⟩
  | 83 => ⟨S_, .f32⟩
  | 84 => ⟨S8192, .f32⟩
  | 85 => ⟨S8192x1, .f32⟩
  | 86 => ⟨S_, .f32⟩
  | 87 => ⟨S8192x1, .f32⟩
  | 88 => ⟨S8192x1, .f32⟩
  | 89 => ⟨S8192x1024, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S8192x1024, .f32⟩
  | 102 => ⟨S8192x1024, .f32⟩
  | 103 => ⟨S_, .f32⟩
  | 104 => ⟨S8192x1, .f32⟩
  | 105 => ⟨S8192x1, .f32⟩
  | 106 => ⟨S8192x1, .f32⟩
  | 107 => ⟨S8192x1, .f32⟩
  | 108 => ⟨S_, .f32⟩
  | 109 => ⟨S8192x1, .f32⟩
  | 110 => ⟨S8192x1, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S_, .f32⟩
  | 123 => ⟨S1024, .f32⟩
  | 124 => ⟨S1x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1024, .f32⟩
  | 5 => ⟨S8192x1, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x1024, .f32⟩
  | 29 => ⟨S8192x1024, .f32⟩
  | 30 => ⟨S8192x3072, .f32⟩
  | 31 => ⟨S8192x3072, .f32⟩
  | 32 => ⟨S8192x3072, .f32⟩
  | 33 => ⟨S8192x3072, .f32⟩
  | 34 => ⟨S8192x3072, .f32⟩
  | 35 => ⟨S_, .f32⟩
  | 36 => ⟨S8192x3072, .f32⟩
  | 37 => ⟨S8192x3072, .f32⟩
  | 38 => ⟨S8192x3072, .f32⟩
  | 39 => ⟨S_, .f32⟩
  | 40 => ⟨S8192x3072, .f32⟩
  | 41 => ⟨S8192x3072, .f32⟩
  | 42 => ⟨S8192x3072, .f32⟩
  | 43 => ⟨S_, .f32⟩
  | 44 => ⟨S8192x3072, .f32⟩
  | 45 => ⟨S8192x3072, .f32⟩
  | 46 => ⟨S_, .f32⟩
  | 47 => ⟨S8192x3072, .f32⟩
  | 48 => ⟨S8192x3072, .f32⟩
  | 49 => ⟨S8192x3072, .f32⟩
  | 50 => ⟨S8192x3072, .f32⟩
  | 51 => ⟨S8192x6144, .f32⟩
  | 52 => ⟨S4x2048x6144, .f32⟩
  | 53 => ⟨S_, .f32⟩
  | 54 => ⟨S6144, .f32⟩
  | 55 => ⟨S1x1x6144, .f32⟩
  | 56 => ⟨S_, .f32⟩
  | 57 => ⟨S6144, .f32⟩
  | 58 => ⟨S1x6144, .f32⟩
  | 59 => ⟨S4x2048x6144, .f32⟩
  | 60 => ⟨S4x2048x6144, .f32⟩
  | 61 => ⟨S4x2048x6144, .f32⟩
  | 62 => ⟨S_, .f32⟩
  | 63 => ⟨S6144, .f32⟩
  | 64 => ⟨S1x1x6144, .f32⟩
  | 65 => ⟨S_, .f32⟩
  | 66 => ⟨S6144, .f32⟩
  | 67 => ⟨S_, .f32⟩
  | 68 => ⟨S4x2050x6144, .f32⟩
  | 69 => ⟨S1x6144, .f32⟩
  | 70 => ⟨S_, .f32⟩
  | 71 => ⟨S3x6144, .f32⟩
  | 72 => ⟨S4x2048x6144, .f32⟩
  | 73 => ⟨S4x2048x6144, .f32⟩
  | 74 => ⟨S4x2048x6144, .f32⟩
  | 75 => ⟨S_, .f32⟩
  | 76 => ⟨S6144, .f32⟩
  | 77 => ⟨S1x1x6144, .f32⟩
  | 78 => ⟨S_, .f32⟩
  | 79 => ⟨S6144, .f32⟩
  | 80 => ⟨S_, .f32⟩
  | 81 => ⟨S4x2050x6144, .f32⟩
  | 82 => ⟨S4x2050x6144, .f32⟩
  | 83 => ⟨S1x6144, .f32⟩
  | 84 => ⟨S_, .f32⟩
  | 85 => ⟨S3x6144, .f32⟩
  | 86 => ⟨S3x6144, .f32⟩
  | 87 => ⟨S4x2048x6144, .f32⟩
  | 88 => ⟨S4x2048x6144, .f32⟩
  | 89 => ⟨S4x2048x6144, .f32⟩
  | 90 => ⟨S_, .f32⟩
  | 91 => ⟨S6144, .f32⟩
  | 92 => ⟨S1x1x6144, .f32⟩
  | 93 => ⟨S_, .f32⟩
  | 94 => ⟨S6144, .f32⟩
  | 95 => ⟨S_, .f32⟩
  | 96 => ⟨S4x2050x6144, .f32⟩
  | 97 => ⟨S4x2050x6144, .f32⟩
  | 98 => ⟨S1x6144, .f32⟩
  | 99 => ⟨S_, .f32⟩
  | 100 => ⟨S3x6144, .f32⟩
  | 101 => ⟨S3x6144, .f32⟩
  | 102 => ⟨S4x2x6144, .f32⟩
  | 103 => ⟨S4x2048x6144, .f32⟩
  | 104 => ⟨S8192x6144, .f32⟩
  | 105 => ⟨S8192x6144, .bf16⟩
  | 106 => ⟨S8192x3072, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_17 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_18 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_19 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_20 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_21 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_22 : Ref sig .tc := ⟨.hbm, 135, rfl⟩
abbrev main_v105 : Ref sig .tc := ⟨.hbm, 136, rfl⟩
abbrev main_v106 : Ref sig .tc := ⟨.hbm, 137, rfl⟩
abbrev main_cst_23 : Ref sig .tc := ⟨.hbm, 138, rfl⟩
abbrev main_v107 : Ref sig .tc := ⟨.hbm, 139, rfl⟩
abbrev main_v108 : Ref sig .tc := ⟨.hbm, 140, rfl⟩
abbrev main_cst_24 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_25 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_26 : Ref sig .tc := ⟨.hbm, 151, rfl⟩
abbrev main_v117 : Ref sig .tc := ⟨.hbm, 152, rfl⟩
abbrev main_v118 : Ref sig .tc := ⟨.hbm, 153, rfl⟩
abbrev main_cst_27 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_28 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_29 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_30 : Ref sig .tc := ⟨.hbm, 171, rfl⟩
abbrev main_v133 : Ref sig .tc := ⟨.hbm, 172, rfl⟩
abbrev main_v134 : Ref sig .tc := ⟨.hbm, 173, rfl⟩
abbrev main_cst_31 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_32 : Ref sig .tc := ⟨.hbm, 181, rfl⟩
abbrev main_v141 : Ref sig .tc := ⟨.hbm, 182, rfl⟩
abbrev main_v142 : Ref sig .tc := ⟨.hbm, 183, rfl⟩
abbrev main_cst_33 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_34 : Ref sig .tc := ⟨.hbm, 190, rfl⟩
abbrev main_v148 : Ref sig .tc := ⟨.hbm, 191, rfl⟩
abbrev main_v149 : Ref sig .tc := ⟨.hbm, 192, rfl⟩
abbrev main_cst_35 : Ref sig .tc := ⟨.hbm, 193, rfl⟩
abbrev main_v150 : Ref sig .tc := ⟨.hbm, 194, rfl⟩
abbrev main_cst_36 : Ref sig .tc := ⟨.hbm, 195, rfl⟩
abbrev main_v151 : Ref sig .tc := ⟨.hbm, 196, rfl⟩
abbrev main_v152 : Ref sig .tc := ⟨.hbm, 197, rfl⟩
abbrev main_cst_37 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_38 : Ref sig .tc := ⟨.hbm, 203, rfl⟩
abbrev main_v157 : Ref sig .tc := ⟨.hbm, 204, rfl⟩
abbrev main_v158 : Ref sig .tc := ⟨.hbm, 205, rfl⟩
abbrev main_cst_39 : Ref sig .tc := ⟨.hbm, 206, rfl⟩
abbrev main_v159 : Ref sig .tc := ⟨.hbm, 207, rfl⟩
abbrev main_cst_40 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_cst_41 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_cst_42 : Ref sig .tc := ⟨.hbm, 218, rfl⟩
abbrev main_v168 : Ref sig .tc := ⟨.hbm, 219, rfl⟩
abbrev main_v169 : Ref sig .tc := ⟨.hbm, 220, rfl⟩
abbrev main_cst_43 : Ref sig .tc := ⟨.hbm, 221, rfl⟩
abbrev main_v170 : Ref sig .tc := ⟨.hbm, 222, rfl⟩
abbrev main_cst_44 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_45 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩

abbrev nD : Nat := 1
abbrev τ : Topo := Topo.v7x

variable {F : FTy → Type} [FloatOps F]
-- ==== Proof.BwdFrame.lean ====
/- THE RUN OF THE GRADIENT INSIDE THE ConvFFN. What each of the 32 grid points leaves in the seven outputs and in the
   eight rows kept between points, the run of the whole program from it, and that the program leaves its arguments as it
   found them. There are three kinds of points: the first point of all (`A`), the first point of another sequence (`C`),
   and a point inside a sequence (`B`), which alone reads the rows the point before kept. The statements of each kind are
   about a grid point `t`, its buffers and its blocks of the arguments. -/
module

public import proofs.«01_k».proof.Proof.Gen.FfnBwd.Frame.RunC
public import Idealize.ShloMosaic.Lib.Claim
public import Idealize.ShloMosaic.Lib.Pipeline.Value

@[expose] public section

-- membership in a rectangle with long axes is checked coordinate by coordinate
set_option maxRecDepth 16384

noncomputable section

namespace Cert.FfnBwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers hold after a grid point: the seven outputs, then the rows kept. -/
abbrev Left (F : FTy → Type) : Type := Vec F S256x1024 .f32 × Vec F S256x6144 .bf16 × Vec F S256x3072 .bf16 × Vec F S3x6144 .f32 × Vec F S1x6144 .f32 × Vec F S1x1024 .f32 × Vec F S1x1024 .f32 × Vec F S8x6144 .f32

section kindA
variable (c : Dev nD) (t : Fin cfg0.N) (h0 : t.val % 32 = 0) (h1 : t.val % 8 = 0)

/-- The run of the body at a point of kind A. -/
abbrev runA :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t)

/-- The stores to output 8 reach all of it. -/
theorem cover0_A_8 (y : S256x1024.Idx) : ∃ pc ∈ (runA m c t h0 h1).1, y ∈ pc.1.set :=
  View.cover_of_tiledL (runA m c t h0 h1).1 S256x1024.size (by sl_kernel_rfl) y

/-- What the stores leave in output 8. -/
def out0_A_8 : Vec F S256x1024 .f32 :=
  VO0_8.read (Elt F) (VO0_8.writes (Elt F) VO0_8.junk (runA m c t h0 h1).1)

/-- The stores to output 9 reach all of it. -/
theorem cover0_A_9 (y : S256x6144.Idx) : ∃ pc ∈ (runA m c t h0 h1).2.1, y ∈ pc.1.set :=
  View.cover_of_tiledL (runA m c t h0 h1).2.1 S256x512.size (by sl_kernel_rfl) y

/-- What the stores leave in output 9. -/
def out0_A_9 : Vec F S256x6144 .bf16 :=
  VO0_9.read (Elt F) (VO0_9.writes (Elt F) VO0_9.junk (runA m c t h0 h1).2.1)

/-- The stores to output 10 reach all of it. -/
theorem cover0_A_10 (y : S256x3072.Idx) : ∃ pc ∈ (runA m c t h0 h1).2.2.1, y ∈ pc.1.set :=
  View.cover_of_tiledL (runA m c t h0 h1).2.2.1 S256x512.size (by sl_kernel_rfl) y

/-- What the stores leave in output 10. -/
def out0_A_10 : Vec F S256x3072 .bf16 :=
  VO0_10.read (Elt F) (VO0_10.writes (Elt F) VO0_10.junk (runA m c t h0 h1).2.2.1)

/-- The stores to output 11 reach all of it. -/
theorem cover0_A_11 (y : S3x6144.Idx) : ∃ pc ∈ (runA m c t h0 h1).2.2.2.1, y ∈ pc.1.set :=
  View.cover_of_tiledBy (runA m c t h0 h1).2.2.2.1 ![1, 512] (by sl_kernel_rfl) y

/-- What the stores leave in output 11. -/
def out0_A_11 : Vec F S3x6144 .f32 :=
  VO0_11.read (Elt F) (VO0_11.writes (Elt F) VO0_11.junk (runA m c t h0 h1).2.2.2.1)

/-- The stores to output 12 reach all of it. -/
theorem cover0_A_12 (y : S1x6144.Idx) : ∃ pc ∈ (runA m c t h0 h1).2.2.2.2.1, y ∈ pc.1.set :=
  View.cover_of_tiledBy (runA m c t h0 h1).2.2.2.2.1 ![1, 512] (by sl_kernel_rfl) y

/-- What the stores leave in output 12. -/
def out0_A_12 : Vec F S1x6144 .f32 :=
  VO0_12.read (Elt F) (VO0_12.writes (Elt F) VO0_12.junk (runA m c t h0 h1).2.2.2.2.1)

/-- The stores to output 13 reach all of it. -/
theorem cover0_A_13 (y : S1x1024.Idx) : ∃ pc ∈ (runA m c t h0 h1).2.2.2.2.2.1, y ∈ pc.1.set :=
  View.cover_of_tiledL (runA m c t h0 h1).2.2.2.2.2.1 S1x1024.size (by sl_kernel_rfl) y

/-- What the stores leave in output 13. -/
def out0_A_13 : Vec F S1x1024 .f32 :=
  VO0_13.read (Elt F) (VO0_13.writes (Elt F) VO0_13.junk (runA m c t h0 h1).2.2.2.2.2.1)

/-- The stores to output 14 reach all of it. -/
theorem cover0_A_14 (y : S1x1024.Idx) : ∃ pc ∈ (runA m c t h0 h1).2.2.2.2.2.2.1, y ∈ pc.1.set :=
  View.cover_of_tiledL (runA m c t h0 h1).2.2.2.2.2.2.1 S1x1024.size (by sl_kernel_rfl) y

/-- What the stores leave in output 14. -/
def out0_A_14 : Vec F S1x1024 .f32 :=
  VO0_14.read (Elt F) (VO0_14.writes (Elt F) VO0_14.junk (runA m c t h0 h1).2.2.2.2.2.2.1)

/-- The stores to the rows kept reach all of it. -/
theorem scover0_A_0 (y : S8x6144.Idx) : ∃ pc ∈ (runA m c t h0 h1).2.2.2.2.2.2.2.1, y ∈ pc.1.set :=
  View.cover_of_wholeMem (runA m c t h0 h1).2.2.2.2.2.2.2.1 (by sl_whole_mem) y

/-- What the stores leave in the rows kept. -/
def sout0_A_0 : Vec F S8x6144 .f32 :=
  VS0_0.read (Elt F) (VS0_0.writes (Elt F) VS0_0.junk (runA m c t h0 h1).2.2.2.2.2.2.2.1)

/-- What a point of kind A leaves. -/
def caseA : Left F :=
  (out0_A_8 m c t h0 h1, out0_A_9 m c t h0 h1, out0_A_10 m c t h0 h1, out0_A_11 m c t h0 h1, out0_A_12 m c t h0 h1, out0_A_13 m c t h0 h1, out0_A_14 m c t h0 h1, sout0_A_0 m c t h0 h1)

end kindA

section kindB
variable (c : Dev nD) (t : Fin cfg0.N) (h0 : ¬t.val % 32 = 0) (h1 : ¬t.val % 8 = 0) (p : Left F)

/-- The run of the body at a point of kind B, over what the point before left. -/
abbrev runB :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.2.2.1 p.2.2.2.2.1 p.2.2.2.2.2.1 p.2.2.2.2.2.2.1 p.2.2.2.2.2.2.2

/-- The stores to output 8 reach all of it. -/
theorem cover0_B_8 (y : S256x1024.Idx) : ∃ pc ∈ (runB m c t h0 h1 p).1, y ∈ pc.1.set :=
  View.cover_of_tiledL (runB m c t h0 h1 p).1 S256x1024.size (by sl_kernel_rfl) y

/-- What the stores leave in output 8. -/
def out0_B_8 : Vec F S256x1024 .f32 :=
  VO0_8.read (Elt F) (VO0_8.writes (Elt F) VO0_8.junk (runB m c t h0 h1 p).1)

/-- The stores to output 9 reach all of it. -/
theorem cover0_B_9 (y : S256x6144.Idx) : ∃ pc ∈ (runB m c t h0 h1 p).2.1, y ∈ pc.1.set :=
  View.cover_of_tiledL (runB m c t h0 h1 p).2.1 S256x512.size (by sl_kernel_rfl) y

/-- What the stores leave in output 9. -/
def out0_B_9 : Vec F S256x6144 .bf16 :=
  VO0_9.read (Elt F) (VO0_9.writes (Elt F) VO0_9.junk (runB m c t h0 h1 p).2.1)

/-- The stores to output 10 reach all of it. -/
theorem cover0_B_10 (y : S256x3072.Idx) : ∃ pc ∈ (runB m c t h0 h1 p).2.2.1, y ∈ pc.1.set :=
  View.cover_of_tiledL (runB m c t h0 h1 p).2.2.1 S256x512.size (by sl_kernel_rfl) y

/-- What the stores leave in output 10. -/
def out0_B_10 : Vec F S256x3072 .bf16 :=
  VO0_10.read (Elt F) (VO0_10.writes (Elt F) VO0_10.junk (runB m c t h0 h1 p).2.2.1)

/-- The stores to output 11 reach all of it. -/
theorem cover0_B_11 (y : S3x6144.Idx) : ∃ pc ∈ (runB m c t h0 h1 p).2.2.2.1, y ∈ pc.1.set :=
  View.cover_of_tiledL (runB m c t h0 h1 p).2.2.2.1 S1x512.size (by sl_kernel_rfl) y

/-- What the stores leave in output 11. -/
def out0_B_11 : Vec F S3x6144 .f32 :=
  VO0_11.read (Elt F) (VO0_11.writes (Elt F) VO0_11.junk (runB m c t h0 h1 p).2.2.2.1)

/-- The stores to output 12 reach all of it. -/
theorem cover0_B_12 (y : S1x6144.Idx) : ∃ pc ∈ (runB m c t h0 h1 p).2.2.2.2.1, y ∈ pc.1.set :=
  View.cover_of_tiledL (runB m c t h0 h1 p).2.2.2.2.1 S1x512.size (by sl_kernel_rfl) y

/-- What the stores leave in output 12. -/
def out0_B_12 : Vec F S1x6144 .f32 :=
  VO0_12.read (Elt F) (VO0_12.writes (Elt F) VO0_12.junk (runB m c t h0 h1 p).2.2.2.2.1)

/-- The stores to output 13 reach all of it. -/
theorem cover0_B_13 (y : S1x1024.Idx) : ∃ pc ∈ (runB m c t h0 h1 p).2.2.2.2.2.1, y ∈ pc.1.set :=
  View.cover_of_tiledL (runB m c t h0 h1 p).2.2.2.2.2.1 S1x1024.size (by sl_kernel_rfl) y

/-- What the stores leave in output 13. -/
def out0_B_13 : Vec F S1x1024 .f32 :=
  VO0_13.read (Elt F) (VO0_13.writes (Elt F) VO0_13.junk (runB m c t h0 h1 p).2.2.2.2.2.1)

/-- The stores to output 14 reach all of it. -/
theorem cover0_B_14 (y : S1x1024.Idx) : ∃ pc ∈ (runB m c t h0 h1 p).2.2.2.2.2.2.1, y ∈ pc.1.set :=
  View.cover_of_tiledL (runB m c t h0 h1 p).2.2.2.2.2.2.1 S1x1024.size (by sl_kernel_rfl) y

/-- What the stores leave in output 14. -/
def out0_B_14 : Vec F S1x1024 .f32 :=
  VO0_14.read (Elt F) (VO0_14.writes (Elt F) VO0_14.junk (runB m c t h0 h1 p).2.2.2.2.2.2.1)

/-- The stores to the rows kept reach all of it. -/
theorem scover0_B_0 (y : S8x6144.Idx) : ∃ pc ∈ (runB m c t h0 h1 p).2.2.2.2.2.2.2.1, y ∈ pc.1.set :=
  View.cover_of_tiledL (runB m c t h0 h1 p).2.2.2.2.2.2.2.1 S8x512.size (by sl_kernel_rfl) y

/-- What the stores leave in the rows kept. -/
def sout0_B_0 : Vec F S8x6144 .f32 :=
  VS0_0.read (Elt F) (VS0_0.writes (Elt F) VS0_0.junk (runB m c t h0 h1 p).2.2.2.2.2.2.2.1)

/-- What a point of kind B leaves. -/
def caseB : Left F :=
  (out0_B_8 m c t h0 h1 p, out0_B_9 m c t h0 h1 p, out0_B_10 m c t h0 h1 p, out0_B_11 m c t h0 h1 p, out0_B_12 m c t h0 h1 p, out0_B_13 m c t h0 h1 p, out0_B_14 m c t h0 h1 p, sout0_B_0 m c t h0 h1 p)

end kindB

section kindC
variable (c : Dev nD) (t : Fin cfg0.N) (h0 : ¬t.val % 32 = 0) (h1 : t.val % 8 = 0) (p : Left F)

/-- The run of the body at a point of kind C, over what the point before left. -/
abbrev runC :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.2.2.1 p.2.2.2.2.1 p.2.2.2.2.2.1 p.2.2.2.2.2.2.1

/-- The stores to output 8 reach all of it. -/
theorem cover0_C_8 (y : S256x1024.Idx) : ∃ pc ∈ (runC m c t h0 h1 p).1, y ∈ pc.1.set :=
  View.cover_of_tiledL (runC m c t h0 h1 p).1 S256x1024.size (by sl_kernel_rfl) y

/-- What the stores leave in output 8. -/
def out0_C_8 : Vec F S256x1024 .f32 :=
  VO0_8.read (Elt F) (VO0_8.writes (Elt F) VO0_8.junk (runC m c t h0 h1 p).1)

/-- The stores to output 9 reach all of it. -/
theorem cover0_C_9 (y : S256x6144.Idx) : ∃ pc ∈ (runC m c t h0 h1 p).2.1, y ∈ pc.1.set :=
  View.cover_of_tiledL (runC m c t h0 h1 p).2.1 S256x512.size (by sl_kernel_rfl) y

/-- What the stores leave in output 9. -/
def out0_C_9 : Vec F S256x6144 .bf16 :=
  VO0_9.read (Elt F) (VO0_9.writes (Elt F) VO0_9.junk (runC m c t h0 h1 p).2.1)

/-- The stores to output 10 reach all of it. -/
theorem cover0_C_10 (y : S256x3072.Idx) : ∃ pc ∈ (runC m c t h0 h1 p).2.2.1, y ∈ pc.1.set :=
  View.cover_of_tiledL (runC m c t h0 h1 p).2.2.1 S256x512.size (by sl_kernel_rfl) y

/-- What the stores leave in output 10. -/
def out0_C_10 : Vec F S256x3072 .bf16 :=
  VO0_10.read (Elt F) (VO0_10.writes (Elt F) VO0_10.junk (runC m c t h0 h1 p).2.2.1)

/-- The stores to output 11 reach all of it. -/
theorem cover0_C_11 (y : S3x6144.Idx) : ∃ pc ∈ (runC m c t h0 h1 p).2.2.2.1, y ∈ pc.1.set :=
  View.cover_of_tiledL (runC m c t h0 h1 p).2.2.2.1 S1x512.size (by sl_kernel_rfl) y

/-- What the stores leave in output 11. -/
def out0_C_11 : Vec F S3x6144 .f32 :=
  VO0_11.read (Elt F) (VO0_11.writes (Elt F) VO0_11.junk (runC m c t h0 h1 p).2.2.2.1)

/-- The stores to output 12 reach all of it. -/
theorem cover0_C_12 (y : S1x6144.Idx) : ∃ pc ∈ (runC m c t h0 h1 p).2.2.2.2.1, y ∈ pc.1.set :=
  View.cover_of_tiledL (runC m c t h0 h1 p).2.2.2.2.1 S1x512.size (by sl_kernel_rfl) y

/-- What the stores leave in output 12. -/
def out0_C_12 : Vec F S1x6144 .f32 :=
  VO0_12.read (Elt F) (VO0_12.writes (Elt F) VO0_12.junk (runC m c t h0 h1 p).2.2.2.2.1)

/-- The stores to output 13 reach all of it. -/
theorem cover0_C_13 (y : S1x1024.Idx) : ∃ pc ∈ (runC m c t h0 h1 p).2.2.2.2.2.1, y ∈ pc.1.set :=
  View.cover_of_tiledL (runC m c t h0 h1 p).2.2.2.2.2.1 S1x1024.size (by sl_kernel_rfl) y

/-- What the stores leave in output 13. -/
def out0_C_13 : Vec F S1x1024 .f32 :=
  VO0_13.read (Elt F) (VO0_13.writes (Elt F) VO0_13.junk (runC m c t h0 h1 p).2.2.2.2.2.1)

/-- The stores to output 14 reach all of it. -/
theorem cover0_C_14 (y : S1x1024.Idx) : ∃ pc ∈ (runC m c t h0 h1 p).2.2.2.2.2.2.1, y ∈ pc.1.set :=
  View.cover_of_tiledL (runC m c t h0 h1 p).2.2.2.2.2.2.1 S1x1024.size (by sl_kernel_rfl) y

/-- What the stores leave in output 14. -/
def out0_C_14 : Vec F S1x1024 .f32 :=
  VO0_14.read (Elt F) (VO0_14.writes (Elt F) VO0_14.junk (runC m c t h0 h1 p).2.2.2.2.2.2.1)

/-- The stores to the rows kept reach all of it. -/
theorem scover0_C_0 (y : S8x6144.Idx) : ∃ pc ∈ (runC m c t h0 h1 p).2.2.2.2.2.2.2.1, y ∈ pc.1.set :=
  View.cover_of_wholeMem (runC m c t h0 h1 p).2.2.2.2.2.2.2.1 (by sl_whole_mem) y

/-- What the stores leave in the rows kept. -/
def sout0_C_0 : Vec F S8x6144 .f32 :=
  VS0_0.read (Elt F) (VS0_0.writes (Elt F) VS0_0.junk (runC m c t h0 h1 p).2.2.2.2.2.2.2.1)

/-- What a point of kind C leaves. -/
def caseC : Left F :=
  (out0_C_8 m c t h0 h1 p, out0_C_9 m c t h0 h1 p, out0_C_10 m c t h0 h1 p, out0_C_11 m c t h0 h1 p, out0_C_12 m c t h0 h1 p, out0_C_13 m c t h0 h1 p, out0_C_14 m c t h0 h1 p, sout0_C_0 m c t h0 h1 p)

end kindC

/-- What the buffers hold after point `n`. -/
def outsAt0 (c : Dev nD) : (n : ℕ) → n < cfg0.N → Left F
  | 0, hn => caseA m c ⟨0, hn⟩ (Nat.zero_mod _) (Nat.zero_mod _)
  | n + 1, hn =>
    if h0 : (n + 1) % 32 = 0 then
      False.elim (by have hN : n + 1 < 32 := lt_of_lt_of_eq hn (show cfg0.N = 32 from N_0); omega)
    else
      if h1 : (n + 1) % 8 = 0 then caseC m c ⟨n + 1, hn⟩ h0 h1 (outsAt0 c n (Nat.lt_of_succ_lt hn))
      else caseB m c ⟨n + 1, hn⟩ h0 h1 (outsAt0 c n (Nat.lt_of_succ_lt hn))

/-- What the point before `t` left. -/
abbrev prev (c : Dev nD) (t : Fin cfg0.N) : Left F := outsAt0 m c (t.val - 1) (Nat.lt_of_le_of_lt (Nat.sub_le _ _) t.isLt)

theorem outsAt0_A (c : Dev nD) (t : Fin cfg0.N) (h0 : t.val % 32 = 0) (h1 : t.val % 8 = 0) :
    outsAt0 m c t.val t.isLt = caseA m c t h0 h1 := by
  obtain ⟨n, hn⟩ := t
  cases n with
  | zero => rfl
  | succ n => exact absurd h0 (by have hN : n + 1 < 32 := lt_of_lt_of_eq hn (show cfg0.N = 32 from N_0); dsimp only; omega)

theorem outsAt0_B (c : Dev nD) (t : Fin cfg0.N) (h0 : ¬t.val % 32 = 0) (h1 : ¬t.val % 8 = 0) :
    outsAt0 m c t.val t.isLt = caseB m c t h0 h1 (prev m c t) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 32 = 0) (h1 : t.val % 8 = 0) :
    outsAt0 m c t.val t.isLt = caseC m c t h0 h1 (prev m c t) := by
  obtain ⟨n, hn⟩ := t
  cases n with
  | zero => exact absurd (Nat.zero_mod _) h0
  | succ n => exact (dif_neg h0).trans (dif_pos h1)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
    | ⟨14, _⟩ => (outsAt0 m c t.val t.isLt).2.2.2.2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]
theorem after0_14 (c : Dev nD) (t : Fin cfg0.N) : (dats m 0 c).after 14 t = (outsAt0 m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 32 = 0) (h1 : ¬t.val % 8 = 0) (d) :
    (dats m 0 c).before 11 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case B output 12's current staging buffer holds what the body left at the point before: the point is
    not the first, the buffer was not written back between (`flush0_12`), the window is live and uncut (Lib/Pipeline/Frame.lean
    `Dat.before_out_kept`). -/
theorem before0_12_B (c : Dev nD) (t : Fin cfg0.N) (h0 : ¬t.val % 32 = 0) (h1 : ¬t.val % 8 = 0) (d) :
    (dats m 0 c).before 12 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val % 32 = 0) (h1 : ¬t.val % 8 = 0) (d) :
    (dats m 0 c).before 13 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]
/-- At a point of case B output 14's current staging buffer holds what the body left at the point before: the point is
    not the first, the buffer was not written back between (`flush0_14`), the window is live and uncut (Lib/Pipeline/Frame.lean
    `Dat.before_out_kept`). -/
theorem before0_14_B (c : Dev nD) (t : Fin cfg0.N) (h0 : ¬t.val % 32 = 0) (h1 : ¬t.val % 8 = 0) (d) :
    (dats m 0 c).before 14 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
/-- At a point of case C output 11's current staging buffer holds what the body left at the point before: the point is
    not the first, the buffer was not written back between (`flush0_11`), the window is live and uncut (Lib/Pipeline/Frame.lean
    `Dat.before_out_kept`). -/
theorem before0_11_C (c : Dev nD) (t : Fin cfg0.N) (h0 : ¬t.val % 32 = 0) (h1 : t.val % 8 = 0) (d) :
    (dats m 0 c).before 11 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case C output 12's current staging buffer holds what the body left at the point before: the point is
    not the first, the buffer was not written back between (`flush0_12`), the window is live and uncut (Lib/Pipeline/Frame.lean
    `Dat.before_out_kept`). -/
theorem before0_12_C (c : Dev nD) (t : Fin cfg0.N) (h0 : ¬t.val % 32 = 0) (h1 : t.val % 8 = 0) (d) :
    (dats m 0 c).before 12 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
/-- At a point of case C output 13's current staging buffer holds what the body left at the point before: the point is
    not the first, the buffer was not written back between (`flush0_13`), the window is live and uncut (Lib/Pipeline/Frame.lean
    `Dat.before_out_kept`). -/
theorem before0_13_C (c : Dev nD) (t : Fin cfg0.N) (h0 : ¬t.val % 32 = 0) (h1 : t.val % 8 = 0) (d) :
    (dats m 0 c).before 13 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]
/-- At a point of case C output 14's current staging buffer holds what the body left at the point before: the point is
    not the first, the buffer was not written back between (`flush0_14`), the window is live and uncut (Lib/Pipeline/Frame.lean
    `Dat.before_out_kept`). -/
theorem before0_14_C (c : Dev nD) (t : Fin cfg0.N) (h0 : ¬t.val % 32 = 0) (h1 : t.val % 8 = 0) (d) :
    (dats m 0 c).before 14 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 8 = 0
    · by_cases hz : t.val = 0
      · rw [PhiS_castSucc m c t, PhiS_zero m c _ _ hz, PhiA0_eq]
        rw [outsAt0_A m c t h0 h1]
        unfold caseA out0_A_8 out0_A_9 out0_A_10 out0_A_11 out0_A_12 out0_A_13 out0_A_14 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runA m c t h0 h1).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%es0, HS0⟩⟩
        isplitl [HS0 Hg]
        · isplitl [HS0]
          · unfold owns; iexists _; isplitr
            swap; · iexact HS0
            ipureintro; exact View.read_writes_of_cover _ _ _ _ _ (scover0_A_0 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 m c t h0 h1)
        isplitl [H9]
        · unfold owns; iexists _; isplitr
          swap; · iexact H9
          ipureintro; exact View.read_writes_of_cover _ _ _ _ _ (cover0_A_9 m c t h0 h1)
        isplitl [H10]
        · unfold owns; iexists _; isplitr
          swap; · iexact H10
          ipureintro; exact View.read_writes_of_cover _ _ _ _ _ (cover0_A_10 m c t h0 h1)
        isplitl [H11]
        · unfold owns; iexists _; isplitr
          swap; · iexact H11
          ipureintro; exact View.read_writes_of_cover _ _ _ _ _ (cover0_A_11 m c t h0 h1)
        isplitl [H12]
        · unfold owns; iexists _; isplitr
          swap; · iexact H12
          ipureintro; exact View.read_writes_of_cover _ _ _ _ _ (cover0_A_12 m c t h0 h1)
        isplitl [H13]
        · unfold owns; iexists _; isplitr
          swap; · iexact H13
          ipureintro; exact View.read_writes_of_cover _ _ _ _ _ (cover0_A_13 m c t h0 h1)
        unfold owns; iexists _; isplitr
        swap; · iexact H14
        ipureintro; exact View.read_writes_of_cover _ _ _ _ _ (cover0_A_14 m c t h0 h1)
      · exfalso; have hN : t.val < 32 := lt_of_lt_of_eq t.isLt (show cfg0.N = 32 from N_0); omega
    · exfalso; omega
  · by_cases h1 : t.val % 8 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_11_C m c t h0 h1, before0_12_C m c t h0 h1, before0_13_C m c t h0 h1, before0_14_C m c t h0 h1]
        unfold caseC out0_C_8 out0_C_9 out0_C_10 out0_C_11 out0_C_12 out0_C_13 out0_C_14 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runC m c t h0 h1 (prev m c t)).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexact H11
        isplitl [H12]; · iexact H12
        isplitl [H13]; · iexact H13
        isplitl [H14]; · iexact H14
        isplitl [HS0]; · iexists _; iexact HS0
        iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%es0, HS0⟩⟩
        isplitl [HS0 Hg]
        · isplitl [HS0]
          · unfold owns; iexists _; isplitr
            swap; · iexact HS0
            ipureintro; exact View.read_writes_of_cover _ _ _ _ _ (scover0_C_0 m c t h0 h1 (prev m c t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 m c t h0 h1 (prev m c t))
        isplitl [H9]
        · unfold owns; iexists _; isplitr
          swap; · iexact H9
          ipureintro; exact View.read_writes_of_cover _ _ _ _ _ (cover0_C_9 m c t h0 h1 (prev m c t))
        isplitl [H10]
        · unfold owns; iexists _; isplitr
          swap; · iexact H10
          ipureintro; exact View.read_writes_of_cover _ _ _ _ _ (cover0_C_10 m c t h0 h1 (prev m c t))
        isplitl [H11]
        · unfold owns; iexists _; isplitr
          swap; · iexact H11
          ipureintro; exact View.read_writes_of_cover _ _ _ _ _ (cover0_C_11 m c t h0 h1 (prev m c t))
        isplitl [H12]
        · unfold owns; iexists _; isplitr
          swap; · iexact H12
          ipureintro; exact View.read_writes_of_cover _ _ _ _ _ (cover0_C_12 m c t h0 h1 (prev m c t))
        isplitl [H13]
        · unfold owns; iexists _; isplitr
          swap; · iexact H13
          ipureintro; exact View.read_writes_of_cover _ _ _ _ _ (cover0_C_13 m c t h0 h1 (prev m c t))
        unfold owns; iexists _; isplitr
        swap; · iexact H14
        ipureintro; exact View.read_writes_of_cover _ _ _ _ _ (cover0_C_14 m c t h0 h1 (prev m c t))
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_11_B m c t h0 h1, before0_12_B m c t h0 h1, before0_13_B m c t h0 h1, before0_14_B m c t h0 h1]
        unfold caseB out0_B_8 out0_B_9 out0_B_10 out0_B_11 out0_B_12 out0_B_13 out0_B_14 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runB m c t h0 h1 (prev m c t)).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexact H11
        isplitl [H12]; · iexact H12
        isplitl [H13]; · iexact H13
        isplitl [H14]; · iexact H14
        isplitl [HS0]; · iexact HS0
        iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%es0, HS0⟩⟩
        isplitl [HS0 Hg]
        · isplitl [HS0]
          · unfold owns; iexists _; isplitr
            swap; · iexact HS0
            ipureintro; exact View.read_writes_of_cover _ _ _ _ _ (scover0_B_0 m c t h0 h1 (prev m c t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 m c t h0 h1 (prev m c t))
        isplitl [H9]
        · unfold owns; iexists _; isplitr
          swap; · iexact H9
          ipureintro; exact View.read_writes_of_cover _ _ _ _ _ (cover0_B_9 m c t h0 h1 (prev m c t))
        isplitl [H10]
        · unfold owns; iexists _; isplitr
          swap; · iexact H10
          ipureintro; exact View.read_writes_of_cover _ _ _ _ _ (cover0_B_10 m c t h0 h1 (prev m c t))
        isplitl [H11]
        · unfold owns; iexists _; isplitr
          swap; · iexact H11
          ipureintro; exact View.read_writes_of_cover _ _ _ _ _ (cover0_B_11 m c t h0 h1 (prev m c t))
        isplitl [H12]
        · unfold owns; iexists _; isplitr
          swap; · iexact H12
          ipureintro; exact View.read_writes_of_cover _ _ _ _ _ (cover0_B_12 m c t h0 h1 (prev m c t))
        isplitl [H13]
        · unfold owns; iexists _; isplitr
          swap; · iexact H13
          ipureintro; exact View.read_writes_of_cover _ _ _ _ _ (cover0_B_13 m c t h0 h1 (prev m c t))
        unfold owns; iexists _; isplitr
        swap; · iexact H14
        ipureintro; exact View.read_writes_of_cover _ _ _ _ _ (cover0_B_14 m c t h0 h1 (prev m c t))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_FfnBwd`'s statement (Defs.lean) at any `F` — Proof.lean cites it at `Bits`:
    `theorem Cert.Proof.claim : Cert.Claim := ⟨Cert.FfnBwd.Gen.facts, fun m ρ _ => Cert.FfnBwd.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.FfnBwd.Gen

end
-- ==== Proof.BwdFrameIdeal.lean ====
/- THE RUN OF THE GRADIENT INSIDE THE ConvFFN. What each of the 32 grid points leaves in the seven outputs and in the
   eight rows kept between points, the run of the whole program from it, and that the program leaves its arguments as it
   found them. There are three kinds of points: the first point of all (`A`), the first point of another sequence (`C`),
   and a point inside a sequence (`B`), which alone reads the rows the point before kept. The statements of each kind are
   about a grid point `t`, its buffers and its blocks of the arguments. -/
module

public import proofs.«01_k».proof.Proof.Gen.FfnBwdIdeal.Frame.RunC
public import Idealize.ShloMosaic.Lib.Claim
public import Idealize.ShloMosaic.Lib.Pipeline.Value

@[expose] public section

-- membership in a rectangle with long axes is checked coordinate by coordinate
set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the buffers hold after a grid point: the seven outputs, then the rows kept. -/
abbrev Left (F : FTy → Type) : Type := Vec F S256x1024 .f32 × Vec F S256x6144 .bf16 × Vec F S256x3072 .bf16 × Vec F S3x6144 .f32 × Vec F S1x6144 .f32 × Vec F S1x1024 .f32 × Vec F S1x1024 .f32 × Vec F S8x6144 .f32

section kindA
variable (c : Dev nD) (t : Fin cfg0.N) (h0 : t.val % 32 = 0) (h1 : t.val % 8 = 0)

/-- The run of the body at a point of kind A. -/
abbrev runA :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t)

/-- The stores to output 8 reach all of it. -/
theorem cover0_A_8 (y : S256x1024.Idx) : ∃ pc ∈ (runA m c t h0 h1).1, y ∈ pc.1.set :=
  View.cover_of_tiledL (runA m c t h0 h1).1 S256x1024.size (by sl_kernel_rfl) y

/-- What the stores leave in output 8. -/
def out0_A_8 : Vec F S256x1024 .f32 :=
  VO0_8.read (Elt F) (VO0_8.writes (Elt F) VO0_8.junk (runA m c t h0 h1).1)

/-- The stores to output 9 reach all of it. -/
theorem cover0_A_9 (y : S256x6144.Idx) : ∃ pc ∈ (runA m c t h0 h1).2.1, y ∈ pc.1.set :=
  View.cover_of_tiledL (runA m c t h0 h1).2.1 S256x512.size (by sl_kernel_rfl) y

/-- What the stores leave in output 9. -/
def out0_A_9 : Vec F S256x6144 .bf16 :=
  VO0_9.read (Elt F) (VO0_9.writes (Elt F) VO0_9.junk (runA m c t h0 h1).2.1)

/-- The stores to output 10 reach all of it. -/
theorem cover0_A_10 (y : S256x3072.Idx) : ∃ pc ∈ (runA m c t h0 h1).2.2.1, y ∈ pc.1.set :=
  View.cover_of_tiledL (runA m c t h0 h1).2.2.1 S256x512.size (by sl_kernel_rfl) y

/-- What the stores leave in output 10. -/
def out0_A_10 : Vec F S256x3072 .bf16 :=
  VO0_10.read (Elt F) (VO0_10.writes (Elt F) VO0_10.junk (runA m c t h0 h1).2.2.1)

/-- The stores to output 11 reach all of it. -/
theorem cover0_A_11 (y : S3x6144.Idx) : ∃ pc ∈ (runA m c t h0 h1).2.2.2.1, y ∈ pc.1.set :=
  View.cover_of_tiledBy (runA m c t h0 h1).2.2.2.1 ![1, 512] (by sl_kernel_rfl) y

/-- What the stores leave in output 11. -/
def out0_A_11 : Vec F S3x6144 .f32 :=
  VO0_11.read (Elt F) (VO0_11.writes (Elt F) VO0_11.junk (runA m c t h0 h1).2.2.2.1)

/-- The stores to output 12 reach all of it. -/
theorem cover0_A_12 (y : S1x6144.Idx) : ∃ pc ∈ (runA m c t h0 h1).2.2.2.2.1, y ∈ pc.1.set :=
  View.cover_of_tiledBy (runA m c t h0 h1).2.2.2.2.1 ![1, 512] (by sl_kernel_rfl) y

/-- What the stores leave in output 12. -/
def out0_A_12 : Vec F S1x6144 .f32 :=
  VO0_12.read (Elt F) (VO0_12.writes (Elt F) VO0_12.junk (runA m c t h0 h1).2.2.2.2.1)

/-- The stores to output 13 reach all of it. -/
theorem cover0_A_13 (y : S1x1024.Idx) : ∃ pc ∈ (runA m c t h0 h1).2.2.2.2.2.1, y ∈ pc.1.set :=
  View.cover_of_tiledL (runA m c t h0 h1).2.2.2.2.2.1 S1x1024.size (by sl_kernel_rfl) y

/-- What the stores leave in output 13. -/
def out0_A_13 : Vec F S1x1024 .f32 :=
  VO0_13.read (Elt F) (VO0_13.writes (Elt F) VO0_13.junk (runA m c t h0 h1).2.2.2.2.2.1)

/-- The stores to output 14 reach all of it. -/
theorem cover0_A_14 (y : S1x1024.Idx) : ∃ pc ∈ (runA m c t h0 h1).2.2.2.2.2.2.1, y ∈ pc.1.set :=
  View.cover_of_tiledL (runA m c t h0 h1).2.2.2.2.2.2.1 S1x1024.size (by sl_kernel_rfl) y

/-- What the stores leave in output 14. -/
def out0_A_14 : Vec F S1x1024 .f32 :=
  VO0_14.read (Elt F) (VO0_14.writes (Elt F) VO0_14.junk (runA m c t h0 h1).2.2.2.2.2.2.1)

/-- The stores to the rows kept reach all of it. -/
theorem scover0_A_0 (y : S8x6144.Idx) : ∃ pc ∈ (runA m c t h0 h1).2.2.2.2.2.2.2.1, y ∈ pc.1.set :=
  View.cover_of_wholeMem (runA m c t h0 h1).2.2.2.2.2.2.2.1 (by sl_whole_mem) y

/-- What the stores leave in the rows kept. -/
def sout0_A_0 : Vec F S8x6144 .f32 :=
  VS0_0.read (Elt F) (VS0_0.writes (Elt F) VS0_0.junk (runA m c t h0 h1).2.2.2.2.2.2.2.1)

/-- What a point of kind A leaves. -/
def caseA : Left F :=
  (out0_A_8 m c t h0 h1, out0_A_9 m c t h0 h1, out0_A_10 m c t h0 h1, out0_A_11 m c t h0 h1, out0_A_12 m c t h0 h1, out0_A_13 m c t h0 h1, out0_A_14 m c t h0 h1, sout0_A_0 m c t h0 h1)

end kindA

section kindB
variable (c : Dev nD) (t : Fin cfg0.N) (h0 : ¬t.val % 32 = 0) (h1 : ¬t.val % 8 = 0) (p : Left F)

/-- The run of the body at a point of kind B, over what the point before left. -/
abbrev runB :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.2.2.1 p.2.2.2.2.1 p.2.2.2.2.2.1 p.2.2.2.2.2.2.1 p.2.2.2.2.2.2.2

/-- The stores to output 8 reach all of it. -/
theorem cover0_B_8 (y : S256x1024.Idx) : ∃ pc ∈ (runB m c t h0 h1 p).1, y ∈ pc.1.set :=
  View.cover_of_tiledL (runB m c t h0 h1 p).1 S256x1024.size (by sl_kernel_rfl) y

/-- What the stores leave in output 8. -/
def out0_B_8 : Vec F S256x1024 .f32 :=
  VO0_8.read (Elt F) (VO0_8.writes (Elt F) VO0_8.junk (runB m c t h0 h1 p).1)

/-- The stores to output 9 reach all of it. -/
theorem cover0_B_9 (y : S256x6144.Idx) : ∃ pc ∈ (runB m c t h0 h1 p).2.1, y ∈ pc.1.set :=
  View.cover_of_tiledL (runB m c t h0 h1 p).2.1 S256x512.size (by sl_kernel_rfl) y

/-- What the stores leave in output 9. -/
def out0_B_9 : Vec F S256x6144 .bf16 :=
  VO0_9.read (Elt F) (VO0_9.writes (Elt F) VO0_9.junk (runB m c t h0 h1 p).2.1)

/-- The stores to output 10 reach all of it. -/
theorem cover0_B_10 (y : S256x3072.Idx) : ∃ pc ∈ (runB m c t h0 h1 p).2.2.1, y ∈ pc.1.set :=
  View.cover_of_tiledL (runB m c t h0 h1 p).2.2.1 S256x512.size (by sl_kernel_rfl) y

/-- What the stores leave in output 10. -/
def out0_B_10 : Vec F S256x3072 .bf16 :=
  VO0_10.read (Elt F) (VO0_10.writes (Elt F) VO0_10.junk (runB m c t h0 h1 p).2.2.1)

/-- The stores to output 11 reach all of it. -/
theorem cover0_B_11 (y : S3x6144.Idx) : ∃ pc ∈ (runB m c t h0 h1 p).2.2.2.1, y ∈ pc.1.set :=
  View.cover_of_tiledL (runB m c t h0 h1 p).2.2.2.1 S1x512.size (by sl_kernel_rfl) y

/-- What the stores leave in output 11. -/
def out0_B_11 : Vec F S3x6144 .f32 :=
  VO0_11.read (Elt F) (VO0_11.writes (Elt F) VO0_11.junk (runB m c t h0 h1 p).2.2.2.1)

/-- The stores to output 12 reach all of it. -/
theorem cover0_B_12 (y : S1x6144.Idx) : ∃ pc ∈ (runB m c t h0 h1 p).2.2.2.2.1, y ∈ pc.1.set :=
  View.cover_of_tiledL (runB m c t h0 h1 p).2.2.2.2.1 S1x512.size (by sl_kernel_rfl) y

/-- What the stores leave in output 12. -/
def out0_B_12 : Vec F S1x6144 .f32 :=
  VO0_12.read (Elt F) (VO0_12.writes (Elt F) VO0_12.junk (runB m c t h0 h1 p).2.2.2.2.1)

/-- The stores to output 13 reach all of it. -/
theorem cover0_B_13 (y : S1x1024.Idx) : ∃ pc ∈ (runB m c t h0 h1 p).2.2.2.2.2.1, y ∈ pc.1.set :=
  View.cover_of_tiledL (runB m c t h0 h1 p).2.2.2.2.2.1 S1x1024.size (by sl_kernel_rfl) y

/-- What the stores leave in output 13. -/
def out0_B_13 : Vec F S1x1024 .f32 :=
  VO0_13.read (Elt F) (VO0_13.writes (Elt F) VO0_13.junk (runB m c t h0 h1 p).2.2.2.2.2.1)

/-- The stores to output 14 reach all of it. -/
theorem cover0_B_14 (y : S1x1024.Idx) : ∃ pc ∈ (runB m c t h0 h1 p).2.2.2.2.2.2.1, y ∈ pc.1.set :=
  View.cover_of_tiledL (runB m c t h0 h1 p).2.2.2.2.2.2.1 S1x1024.size (by sl_kernel_rfl) y

/-- What the stores leave in output 14. -/
def out0_B_14 : Vec F S1x1024 .f32 :=
  VO0_14.read (Elt F) (VO0_14.writes (Elt F) VO0_14.junk (runB m c t h0 h1 p).2.2.2.2.2.2.1)

/-- The stores to the rows kept reach all of it. -/
theorem scover0_B_0 (y : S8x6144.Idx) : ∃ pc ∈ (runB m c t h0 h1 p).2.2.2.2.2.2.2.1, y ∈ pc.1.set :=
  View.cover_of_tiledL (runB m c t h0 h1 p).2.2.2.2.2.2.2.1 S8x512.size (by sl_kernel_rfl) y

/-- What the stores leave in the rows kept. -/
def sout0_B_0 : Vec F S8x6144 .f32 :=
  VS0_0.read (Elt F) (VS0_0.writes (Elt F) VS0_0.junk (runB m c t h0 h1 p).2.2.2.2.2.2.2.1)

/-- What a point of kind B leaves. -/
def caseB : Left F :=
  (out0_B_8 m c t h0 h1 p, out0_B_9 m c t h0 h1 p, out0_B_10 m c t h0 h1 p, out0_B_11 m c t h0 h1 p, out0_B_12 m c t h0 h1 p, out0_B_13 m c t h0 h1 p, out0_B_14 m c t h0 h1 p, sout0_B_0 m c t h0 h1 p)

end kindB

section kindC
variable (c : Dev nD) (t : Fin cfg0.N) (h0 : ¬t.val % 32 = 0) (h1 : t.val % 8 = 0) (p : Left F)

/-- The run of the body at a point of kind C, over what the point before left. -/
abbrev runC :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.2.2.1 p.2.2.2.2.1 p.2.2.2.2.2.1 p.2.2.2.2.2.2.1

/-- The stores to output 8 reach all of it. -/
theorem cover0_C_8 (y : S256x1024.Idx) : ∃ pc ∈ (runC m c t h0 h1 p).1, y ∈ pc.1.set :=
  View.cover_of_tiledL (runC m c t h0 h1 p).1 S256x1024.size (by sl_kernel_rfl) y

/-- What the stores leave in output 8. -/
def out0_C_8 : Vec F S256x1024 .f32 :=
  VO0_8.read (Elt F) (VO0_8.writes (Elt F) VO0_8.junk (runC m c t h0 h1 p).1)

/-- The stores to output 9 reach all of it. -/
theorem cover0_C_9 (y : S256x6144.Idx) : ∃ pc ∈ (runC m c t h0 h1 p).2.1, y ∈ pc.1.set :=
  View.cover_of_tiledL (runC m c t h0 h1 p).2.1 S256x512.size (by sl_kernel_rfl) y

/-- What the stores leave in output 9. -/
def out0_C_9 : Vec F S256x6144 .bf16 :=
  VO0_9.read (Elt F) (VO0_9.writes (Elt F) VO0_9.junk (runC m c t h0 h1 p).2.1)

/-- The stores to output 10 reach all of it. -/
theorem cover0_C_10 (y : S256x3072.Idx) : ∃ pc ∈ (runC m c t h0 h1 p).2.2.1, y ∈ pc.1.set :=
  View.cover_of_tiledL (runC m c t h0 h1 p).2.2.1 S256x512.size (by sl_kernel_rfl) y

/-- What the stores leave in output 10. -/
def out0_C_10 : Vec F S256x3072 .bf16 :=
  VO0_10.read (Elt F) (VO0_10.writes (Elt F) VO0_10.junk (runC m c t h0 h1 p).2.2.1)

/-- The stores to output 11 reach all of it. -/
theorem cover0_C_11 (y : S3x6144.Idx) : ∃ pc ∈ (runC m c t h0 h1 p).2.2.2.1, y ∈ pc.1.set :=
  View.cover_of_tiledL (runC m c t h0 h1 p).2.2.2.1 S1x512.size (by sl_kernel_rfl) y

/-- What the stores leave in output 11. -/
def out0_C_11 : Vec F S3x6144 .f32 :=
  VO0_11.read (Elt F) (VO0_11.writes (Elt F) VO0_11.junk (runC m c t h0 h1 p).2.2.2.1)

/-- The stores to output 12 reach all of it. -/
theorem cover0_C_12 (y : S1x6144.Idx) : ∃ pc ∈ (runC m c t h0 h1 p).2.2.2.2.1, y ∈ pc.1.set :=
  View.cover_of_tiledL (runC m c t h0 h1 p).2.2.2.2.1 S1x512.size (by sl_kernel_rfl) y

/-- What the stores leave in output 12. -/
def out0_C_12 : Vec F S1x6144 .f32 :=
  VO0_12.read (Elt F) (VO0_12.writes (Elt F) VO0_12.junk (runC m c t h0 h1 p).2.2.2.2.1)

/-- The stores to output 13 reach all of it. -/
theorem cover0_C_13 (y : S1x1024.Idx) : ∃ pc ∈ (runC m c t h0 h1 p).2.2.2.2.2.1, y ∈ pc.1.set :=
  View.cover_of_tiledL (runC m c t h0 h1 p).2.2.2.2.2.1 S1x1024.size (by sl_kernel_rfl) y

/-- What the stores leave in output 13. -/
def out0_C_13 : Vec F S1x1024 .f32 :=
  VO0_13.read (Elt F) (VO0_13.writes (Elt F) VO0_13.junk (runC m c t h0 h1 p).2.2.2.2.2.1)

/-- The stores to output 14 reach all of it. -/
theorem cover0_C_14 (y : S1x1024.Idx) : ∃ pc ∈ (runC m c t h0 h1 p).2.2.2.2.2.2.1, y ∈ pc.1.set :=
  View.cover_of_tiledL (runC m c t h0 h1 p).2.2.2.2.2.2.1 S1x1024.size (by sl_kernel_rfl) y

/-- What the stores leave in output 14. -/
def out0_C_14 : Vec F S1x1024 .f32 :=
  VO0_14.read (Elt F) (VO0_14.writes (Elt F) VO0_14.junk (runC m c t h0 h1 p).2.2.2.2.2.2.1)

/-- The stores to the rows kept reach all of it. -/
theorem scover0_C_0 (y : S8x6144.Idx) : ∃ pc ∈ (runC m c t h0 h1 p).2.2.2.2.2.2.2.1, y ∈ pc.1.set :=
  View.cover_of_wholeMem (runC m c t h0 h1 p).2.2.2.2.2.2.2.1 (by sl_whole_mem) y

/-- What the stores leave in the rows kept. -/
def sout0_C_0 : Vec F S8x6144 .f32 :=
  VS0_0.read (Elt F) (VS0_0.writes (Elt F) VS0_0.junk (runC m c t h0 h1 p).2.2.2.2.2.2.2.1)

/-- What a point of kind C leaves. -/
def caseC : Left F :=
  (out0_C_8 m c t h0 h1 p, out0_C_9 m c t h0 h1 p, out0_C_10 m c t h0 h1 p, out0_C_11 m c t h0 h1 p, out0_C_12 m c t h0 h1 p, out0_C_13 m c t h0 h1 p, out0_C_14 m c t h0 h1 p, sout0_C_0 m c t h0 h1 p)

end kindC

/-- What the buffers hold after point `n`. -/
def outsAt0 (c : Dev nD) : (n : ℕ) → n < cfg0.N → Left F
  | 0, hn => caseA m c ⟨0, hn⟩ (Nat.zero_mod _) (Nat.zero_mod _)
  | n + 1, hn =>
    if h0 : (n + 1) % 32 = 0 then
      False.elim (by have hN : n + 1 < 32 := lt_of_lt_of_eq hn (show cfg0.N = 32 from N_0); omega)
    else
      if h1 : (n + 1) % 8 = 0 then caseC m c ⟨n + 1, hn⟩ h0 h1 (outsAt0 c n (Nat.lt_of_succ_lt hn))
      else caseB m c ⟨n + 1, hn⟩ h0 h1 (outsAt0 c n (Nat.lt_of_succ_lt hn))

/-- What the point before `t` left. -/
abbrev prev (c : Dev nD) (t : Fin cfg0.N) : Left F := outsAt0 m c (t.val - 1) (Nat.lt_of_le_of_lt (Nat.sub_le _ _) t.isLt)

theorem outsAt0_A (c : Dev nD) (t : Fin cfg0.N) (h0 : t.val % 32 = 0) (h1 : t.val % 8 = 0) :
    outsAt0 m c t.val t.isLt = caseA m c t h0 h1 := by
  obtain ⟨n, hn⟩ := t
  cases n with
  | zero => rfl
  | succ n => exact absurd h0 (by have hN : n + 1 < 32 := lt_of_lt_of_eq hn (show cfg0.N = 32 from N_0); dsimp only; omega)

theorem outsAt0_B (c : Dev nD) (t : Fin cfg0.N) (h0 : ¬t.val % 32 = 0) (h1 : ¬t.val % 8 = 0) :
    outsAt0 m c t.val t.isLt = caseB m c t h0 h1 (prev m c t) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 32 = 0) (h1 : t.val % 8 = 0) :
    outsAt0 m c t.val t.isLt = caseC m c t h0 h1 (prev m c t) := by
  obtain ⟨n, hn⟩ := t
  cases n with
  | zero => exact absurd (Nat.zero_mod _) h0
  | succ n => exact (dif_neg h0).trans (dif_pos h1)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
    | ⟨14, _⟩ => (outsAt0 m c t.val t.isLt).2.2.2.2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]
theorem after0_14 (c : Dev nD) (t : Fin cfg0.N) : (dats m 0 c).after 14 t = (outsAt0 m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 32 = 0) (h1 : ¬t.val % 8 = 0) (d) :
    (dats m 0 c).before 11 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case B output 12's current staging buffer holds what the body left at the point before: the point is
    not the first, the buffer was not written back between (`flush0_12`), the window is live and uncut (Lib/Pipeline/Frame.lean
    `Dat.before_out_kept`). -/
theorem before0_12_B (c : Dev nD) (t : Fin cfg0.N) (h0 : ¬t.val % 32 = 0) (h1 : ¬t.val % 8 = 0) (d) :
    (dats m 0 c).before 12 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val % 32 = 0) (h1 : ¬t.val % 8 = 0) (d) :
    (dats m 0 c).before 13 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]
/-- At a point of case B output 14's current staging buffer holds what the body left at the point before: the point is
    not the first, the buffer was not written back between (`flush0_14`), the window is live and uncut (Lib/Pipeline/Frame.lean
    `Dat.before_out_kept`). -/
theorem before0_14_B (c : Dev nD) (t : Fin cfg0.N) (h0 : ¬t.val % 32 = 0) (h1 : ¬t.val % 8 = 0) (d) :
    (dats m 0 c).before 14 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
/-- At a point of case C output 11's current staging buffer holds what the body left at the point before: the point is
    not the first, the buffer was not written back between (`flush0_11`), the window is live and uncut (Lib/Pipeline/Frame.lean
    `Dat.before_out_kept`). -/
theorem before0_11_C (c : Dev nD) (t : Fin cfg0.N) (h0 : ¬t.val % 32 = 0) (h1 : t.val % 8 = 0) (d) :
    (dats m 0 c).before 11 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case C output 12's current staging buffer holds what the body left at the point before: the point is
    not the first, the buffer was not written back between (`flush0_12`), the window is live and uncut (Lib/Pipeline/Frame.lean
    `Dat.before_out_kept`). -/
theorem before0_12_C (c : Dev nD) (t : Fin cfg0.N) (h0 : ¬t.val % 32 = 0) (h1 : t.val % 8 = 0) (d) :
    (dats m 0 c).before 12 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
/-- At a point of case C output 13's current staging buffer holds what the body left at the point before: the point is
    not the first, the buffer was not written back between (`flush0_13`), the window is live and uncut (Lib/Pipeline/Frame.lean
    `Dat.before_out_kept`). -/
theorem before0_13_C (c : Dev nD) (t : Fin cfg0.N) (h0 : ¬t.val % 32 = 0) (h1 : t.val % 8 = 0) (d) :
    (dats m 0 c).before 13 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]
/-- At a point of case C output 14's current staging buffer holds what the body left at the point before: the point is
    not the first, the buffer was not written back between (`flush0_14`), the window is live and uncut (Lib/Pipeline/Frame.lean
    `Dat.before_out_kept`). -/
theorem before0_14_C (c : Dev nD) (t : Fin cfg0.N) (h0 : ¬t.val % 32 = 0) (h1 : t.val % 8 = 0) (d) :
    (dats m 0 c).before 14 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 8 = 0
    · by_cases hz : t.val = 0
      · rw [PhiS_castSucc m c t, PhiS_zero m c _ _ hz, PhiA0_eq]
        rw [outsAt0_A m c t h0 h1]
        unfold caseA out0_A_8 out0_A_9 out0_A_10 out0_A_11 out0_A_12 out0_A_13 out0_A_14 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runA m c t h0 h1).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%es0, HS0⟩⟩
        isplitl [HS0 Hg]
        · isplitl [HS0]
          · unfold owns; iexists _; isplitr
            swap; · iexact HS0
            ipureintro; exact View.read_writes_of_cover _ _ _ _ _ (scover0_A_0 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 m c t h0 h1)
        isplitl [H9]
        · unfold owns; iexists _; isplitr
          swap; · iexact H9
          ipureintro; exact View.read_writes_of_cover _ _ _ _ _ (cover0_A_9 m c t h0 h1)
        isplitl [H10]
        · unfold owns; iexists _; isplitr
          swap; · iexact H10
          ipureintro; exact View.read_writes_of_cover _ _ _ _ _ (cover0_A_10 m c t h0 h1)
        isplitl [H11]
        · unfold owns; iexists _; isplitr
          swap; · iexact H11
          ipureintro; exact View.read_writes_of_cover _ _ _ _ _ (cover0_A_11 m c t h0 h1)
        isplitl [H12]
        · unfold owns; iexists _; isplitr
          swap; · iexact H12
          ipureintro; exact View.read_writes_of_cover _ _ _ _ _ (cover0_A_12 m c t h0 h1)
        isplitl [H13]
        · unfold owns; iexists _; isplitr
          swap; · iexact H13
          ipureintro; exact View.read_writes_of_cover _ _ _ _ _ (cover0_A_13 m c t h0 h1)
        unfold owns; iexists _; isplitr
        swap; · iexact H14
        ipureintro; exact View.read_writes_of_cover _ _ _ _ _ (cover0_A_14 m c t h0 h1)
      · exfalso; have hN : t.val < 32 := lt_of_lt_of_eq t.isLt (show cfg0.N = 32 from N_0); omega
    · exfalso; omega
  · by_cases h1 : t.val % 8 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_11_C m c t h0 h1, before0_12_C m c t h0 h1, before0_13_C m c t h0 h1, before0_14_C m c t h0 h1]
        unfold caseC out0_C_8 out0_C_9 out0_C_10 out0_C_11 out0_C_12 out0_C_13 out0_C_14 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runC m c t h0 h1 (prev m c t)).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexact H11
        isplitl [H12]; · iexact H12
        isplitl [H13]; · iexact H13
        isplitl [H14]; · iexact H14
        isplitl [HS0]; · iexists _; iexact HS0
        iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%es0, HS0⟩⟩
        isplitl [HS0 Hg]
        · isplitl [HS0]
          · unfold owns; iexists _; isplitr
            swap; · iexact HS0
            ipureintro; exact View.read_writes_of_cover _ _ _ _ _ (scover0_C_0 m c t h0 h1 (prev m c t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 m c t h0 h1 (prev m c t))
        isplitl [H9]
        · unfold owns; iexists _; isplitr
          swap; · iexact H9
          ipureintro; exact View.read_writes_of_cover _ _ _ _ _ (cover0_C_9 m c t h0 h1 (prev m c t))
        isplitl [H10]
        · unfold owns; iexists _; isplitr
          swap; · iexact H10
          ipureintro; exact View.read_writes_of_cover _ _ _ _ _ (cover0_C_10 m c t h0 h1 (prev m c t))
        isplitl [H11]
        · unfold owns; iexists _; isplitr
          swap; · iexact H11
          ipureintro; exact View.read_writes_of_cover _ _ _ _ _ (cover0_C_11 m c t h0 h1 (prev m c t))
        isplitl [H12]
        · unfold owns; iexists _; isplitr
          swap; · iexact H12
          ipureintro; exact View.read_writes_of_cover _ _ _ _ _ (cover0_C_12 m c t h0 h1 (prev m c t))
        isplitl [H13]
        · unfold owns; iexists _; isplitr
          swap; · iexact H13
          ipureintro; exact View.read_writes_of_cover _ _ _ _ _ (cover0_C_13 m c t h0 h1 (prev m c t))
        unfold owns; iexists _; isplitr
        swap; · iexact H14
        ipureintro; exact View.read_writes_of_cover _ _ _ _ _ (cover0_C_14 m c t h0 h1 (prev m c t))
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_11_B m c t h0 h1, before0_12_B m c t h0 h1, before0_13_B m c t h0 h1, before0_14_B m c t h0 h1]
        unfold caseB out0_B_8 out0_B_9 out0_B_10 out0_B_11 out0_B_12 out0_B_13 out0_B_14 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runB m c t h0 h1 (prev m c t)).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexact H11
        isplitl [H12]; · iexact H12
        isplitl [H13]; · iexact H13
        isplitl [H14]; · iexact H14
        isplitl [HS0]; · iexact HS0
        iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%es0, HS0⟩⟩
        isplitl [HS0 Hg]
        · isplitl [HS0]
          · unfold owns; iexists _; isplitr
            swap; · iexact HS0
            ipureintro; exact View.read_writes_of_cover _ _ _ _ _ (scover0_B_0 m c t h0 h1 (prev m c t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 m c t h0 h1 (prev m c t))
        isplitl [H9]
        · unfold owns; iexists _; isplitr
          swap; · iexact H9
          ipureintro; exact View.read_writes_of_cover _ _ _ _ _ (cover0_B_9 m c t h0 h1 (prev m c t))
        isplitl [H10]
        · unfold owns; iexists _; isplitr
          swap; · iexact H10
          ipureintro; exact View.read_writes_of_cover _ _ _ _ _ (cover0_B_10 m c t h0 h1 (prev m c t))
        isplitl [H11]
        · unfold owns; iexists _; isplitr
          swap; · iexact H11
          ipureintro; exact View.read_writes_of_cover _ _ _ _ _ (cover0_B_11 m c t h0 h1 (prev m c t))
        isplitl [H12]
        · unfold owns; iexists _; isplitr
          swap; · iexact H12
          ipureintro; exact View.read_writes_of_cover _ _ _ _ _ (cover0_B_12 m c t h0 h1 (prev m c t))
        isplitl [H13]
        · unfold owns; iexists _; isplitr
          swap; · iexact H13
          ipureintro; exact View.read_writes_of_cover _ _ _ _ _ (cover0_B_13 m c t h0 h1 (prev m c t))
        unfold owns; iexists _; isplitr
        swap; · iexact H14
        ipureintro; exact View.read_writes_of_cover _ _ _ _ _ (cover0_B_14 m c t h0 h1 (prev m c t))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_FfnBwdIdeal`'s statement (Defs.lean) at any `F` — Proof.lean cites it at `Bits`:
    `theorem Cert.Proof.claim : Cert.Claim := ⟨Cert.FfnBwdIdeal.Gen.facts, fun m ρ _ => Cert.FfnBwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v48_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v48_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v48_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v48_3) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v48_4) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v48_5) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v48_6) = (dats m 0 c).arrAt 14 cfg0.N :=
  (h c).1 14

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- After the frame run, argument `main_arg4` is as launched: input window 5 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 7 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 7).trans (((dats m 0 c).arrAt_in 7 rfl _).trans ((A_eq m c 7).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v48_0) = (dats m 0 c).arrAt 8 cfg0.N
      ∧ r.2.mem ((c : Thread nD τ).loc main_v48_1) = (dats m 0 c).arrAt 9 cfg0.N
      ∧ r.2.mem ((c : Thread nD τ).loc main_v48_2) = (dats m 0 c).arrAt 10 cfg0.N
      ∧ r.2.mem ((c : Thread nD τ).loc main_v48_3) = (dats m 0 c).arrAt 11 cfg0.N
      ∧ r.2.mem ((c : Thread nD τ).loc main_v48_4) = (dats m 0 c).arrAt 12 cfg0.N
      ∧ r.2.mem ((c : Thread nD τ).loc main_v48_5) = (dats m 0 c).arrAt 13 cfg0.N
      ∧ r.2.mem ((c : Thread nD τ).loc main_v48_6) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post8 m r h c,
      post9 m r h c,
      post10 m r h c,
      post11 m r h c,
      post12 m r h c,
      post13 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.FfnBwdIdeal.Gen

end
-- ==== Proof.Reals.lean ====
/-
  The mathematics of the certificate over the real numbers, and the step from extended reals to reals. Every argument of
  the claims is finite, so each array is the coercion of an array of reals; the operations of both programs, read at a
  finite argument, are coercions again (the `lift` lemmas), and what is left to compare is real algebra: the layer norm's
  gradient, the tanh GELU and its derivative, the logistic gate.
-/
module

public import Idealize.ShloMosaic.PureOps.Ideal
public import Idealize.ShloMosaic.Lib.Pointwise

@[expose] public section

noncomputable section

namespace Cert.Reals

open Idealize.ShloMosaic

/-! ## Literals -/

/-- The cubic coefficient of the tanh GELU. -/
def cA : ℝ := 8943 / 200000
/-- Its triple, the coefficient of the square in the derivative. -/
def cA3 : ℝ := 26829 / 200000
/-- The f32 literal of `√(2/π)`. -/
def cG : ℝ := 13386282 / 16777216
/-- The f32 literal of the layer norm's `1e-6`. -/
def eps : ℝ := 8796093 / 8796093022208
/-- The f32 literal of the residual scale `8 ^ (1/4)`. -/
def cR : ℝ := 14107901 / 8388608

theorem eps_pos : 0 < eps := by unfold eps; norm_num

theorem bits_zero : Ideal.ofBits .f32 0x00000000#32 = ((0 : ℝ) : EReal) := by
  simp [Ideal.ofBits, Ideal.ieee, -EReal.coe_mul]
theorem bits_one : Ideal.ofBits .f32 0x3F800000#32 = ((1 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_44715 : Ideal.ofBits .f32 0x472EAB00#32 = ((44715 : ℝ) : EReal) := by
  simp [Ideal.ofBits, Ideal.ieee, -EReal.coe_mul]; norm_num
theorem bits_million : Ideal.ofBits .f32 0x49742400#32 = ((1000000 : ℝ) : EReal) := by
  simp [Ideal.ofBits, Ideal.ieee, -EReal.coe_mul]; norm_num
theorem bits_gelu : Ideal.ofBits .f32 0x3F4C422A#32 = (cG : EReal) := by
  simp [Ideal.ofBits, Ideal.ieee, -EReal.coe_mul, cG]; norm_num
theorem bits_eps : Ideal.ofBits .f32 0x358637BD#32 = (eps : EReal) := by
  simp [Ideal.ofBits, Ideal.ieee, -EReal.coe_mul, eps]; norm_num
theorem bits_resid : Ideal.ofBits .f32 0x3FD744FD#32 = (cR : EReal) := by
  simp [Ideal.ofBits, Ideal.ieee, -EReal.coe_mul, cR]; norm_num

/-! ## Lifting: an operation at finite arguments is the coercion of the real operation -/

theorem lift_add (a b : ℝ) : (a : EReal) + (b : EReal) = ((a + b : ℝ) : EReal) := (EReal.coe_add a b).symm
theorem lift_sub (a b : ℝ) : (a : EReal) - (b : EReal) = ((a - b : ℝ) : EReal) := (EReal.coe_sub a b).symm
theorem lift_mul (a b : ℝ) : (a : EReal) * (b : EReal) = ((a * b : ℝ) : EReal) := (EReal.coe_mul a b).symm
theorem lift_neg (a : ℝ) : -(a : EReal) = ((-a : ℝ) : EReal) := (EReal.coe_neg a).symm
theorem lift_one : (1 : EReal) = ((1 : ℝ) : EReal) := EReal.coe_one.symm
theorem lift_zero : (0 : EReal) = ((0 : ℝ) : EReal) := EReal.coe_zero.symm

theorem lift_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, lift_add]

theorem lift_div {b : ℝ} (hb : b ≠ 0) (a : ℝ) : Ideal.div (a : EReal) (b : EReal) = ((a / b : ℝ) : EReal) := by
  rw [Ideal.div_coe hb, lift_mul, mul_one_div]

theorem lift_div_1024 (a : ℝ) : Ideal.div (a : EReal) ((1024 : ℝ) : EReal) = ((a / 1024 : ℝ) : EReal) :=
  lift_div (by norm_num) a
theorem lift_div_million (a : ℝ) : Ideal.div (a : EReal) ((1000000 : ℝ) : EReal) = ((a / 1000000 : ℝ) : EReal) :=
  lift_div (by norm_num) a
theorem lift_div_exp (a x : ℝ) : Ideal.div (a : EReal) ((1 + Real.exp x : ℝ) : EReal) = ((a / (1 + Real.exp x) : ℝ) : EReal) :=
  lift_div (by positivity) a
theorem lift_rsqrt {a : ℝ} (ha : 0 < a) : Ideal.rsqrt (a : EReal) = (((Real.sqrt a)⁻¹ : ℝ) : EReal) := by
  rw [Ideal.rsqrt_coe, if_neg ha.le.not_gt, if_neg ha.ne']

/-- An extended real whose absolute value is below `⊤` is a real number. -/
theorem finite_of_abs_lt {x : EReal} (h : max x (-x) < ⊤) : ∃ r : ℝ, x = (r : EReal) := by
  induction x with
  | bot => simp at h
  | coe r => exact ⟨r, rfl⟩
  | top => simp at h

/-! ## The layer norm of a row of 1024 and its gradient -/

/-- The mean of a row. -/
def mean (v : Fin 1024 → ℝ) : ℝ := (∑ k, v k) / 1024
/-- The row less its mean. -/
def cen (z : Fin 1024 → ℝ) (k : Fin 1024) : ℝ := z k - mean z
/-- The variance of a row plus the literal `eps`. -/
def vare (z : Fin 1024 → ℝ) : ℝ := (∑ k, cen z k * cen z k) / 1024 + eps
/-- The reciprocal standard deviation. -/
def rstd (z : Fin 1024 → ℝ) : ℝ := (Real.sqrt (vare z))⁻¹
/-- The normalised row. -/
def xhat (z : Fin 1024 → ℝ) (k : Fin 1024) : ℝ := cen z k * rstd z
/-- The gradient of the layer norm with respect to its input, as the kernels compute it. -/
def lnGrad (dy g z : Fin 1024 → ℝ) (k : Fin 1024) : ℝ :=
  rstd z * (dy k * g k - mean (fun j => dy j * g j) - xhat z k * mean (fun j => dy j * g j * xhat z j))

theorem vare_pos (z : Fin 1024 → ℝ) : 0 < vare z :=
  add_pos_of_nonneg_of_pos (div_nonneg (Finset.sum_nonneg fun k _ => mul_self_nonneg _) (by norm_num)) eps_pos

theorem sum_cen (z : Fin 1024 → ℝ) : ∑ k, cen z k = 0 := by
  simp only [cen, Finset.sum_sub_distrib, Finset.sum_const, Finset.card_univ, Fintype.card_fin, nsmul_eq_mul, mean]
  push_cast
  ring

theorem rstd_div (z : Fin 1024 → ℝ) : rstd z / vare z = rstd z * (rstd z * rstd z) := by
  have h := vare_pos z
  have hs : Real.sqrt (vare z) ≠ 0 := (Real.sqrt_pos.mpr h).ne'
  have hq : Real.sqrt (vare z) * Real.sqrt (vare z) = vare z := Real.mul_self_sqrt h.le
  unfold rstd
  rw [← mul_inv, hq, div_eq_mul_inv]

/-- Reverse-mode differentiation of the layer norm, step by step as the reference's transposed program adds it up, is the
    kernels' closed form: the variance's cotangent meets the sum of the centred row, which vanishes. -/
theorem lnGrad_eq (dy g z : Fin 1024 → ℝ) (k : Fin 1024) :
    dy k * g k * rstd z
      + (∑ j, cen z j * (dy j * g j)) * (-(1 / 2) * (rstd z / vare z)) / 1024 * (2 * cen z k)
      + ((∑ j, -(dy j * g j * rstd z))
          + ∑ j, -((∑ i, cen z i * (dy i * g i)) * (-(1 / 2) * (rstd z / vare z)) / 1024 * (2 * cen z j))) / 1024
    = lnGrad dy g z k := by
  have h0 : ∑ j, -((∑ i, cen z i * (dy i * g i)) * (-(1 / 2) * (rstd z / vare z)) / 1024 * (2 * cen z j)) = 0 := by
    rw [Finset.sum_neg_distrib, ← Finset.mul_sum, ← Finset.mul_sum, sum_cen]; ring
  have h1 : ∑ j, -(dy j * g j * rstd z) = -((∑ j, dy j * g j) * rstd z) := by
    rw [Finset.sum_neg_distrib, Finset.sum_mul]
  have h2 : ∑ j, dy j * g j * xhat z j = (∑ j, cen z j * (dy j * g j)) * rstd z := by
    rw [Finset.sum_mul]
    exact Finset.sum_congr rfl fun j _ => by unfold xhat; ring
  rw [h0, h1, rstd_div]
  unfold lnGrad mean
  rw [h2]
  unfold xhat
  ring

/-! ## The tanh GELU and the logistic gate -/

/-- The logistic function, as both programs compute it. -/
def sg (x : ℝ) : ℝ := 1 / (1 + Real.exp (-x))
/-- The hyperbolic tangent inside the GELU. -/
def th (x : ℝ) : ℝ := Real.tanh (cG * (x + cA * (x * x * x)))
/-- The GELU. -/
def gelu (x : ℝ) : ℝ := 1 / 2 * x * (1 + th x)
/-- The GELU's derivative, as the kernels compute it. -/
def dgelu (x : ℝ) : ℝ := 1 / 2 * (1 + th x) + 1 / 2 * x * (1 - th x * th x) * (cG * (1 + cA3 * (x * x)))

theorem dgelu_eq (x s : ℝ) :
    s * (1 / 2 * (1 + th x)) + cG * (1 / 2 * (x * s) * ((1 + th x) * (1 - th x)))
      + cG * (1 / 2 * (x * s) * ((1 + th x) * (1 - th x))) / 1000000 * 44715 * (3 * (x * x)) = s * dgelu x := by
  unfold dgelu cA3
  ring

theorem th_cubic (x : ℝ) : cG * (x + x * x * x * 44715 / 1000000) = cG * (x + cA * (x * x * x)) := by
  unfold cA
  ring

/-! ## The gradient of the mixed branches, over the reals -/

/-- The arguments of the call, as reals: the cotangent, the residual input, the four projections side by side, the
    recurrence's states, the attention's output, the output projection and the layer norms' gains. -/
structure Args where
  ct : Fin 8192 → Fin 1024 → ℝ
  x : Fin 8192 → Fin 1024 → ℝ
  rnn : Fin 8192 → Fin 4096 → ℝ
  h : Fin 8192 → Fin 1024 → ℝ
  y : Fin 8192 → Fin 1024 → ℝ
  w : Fin 1024 → Fin 1024 → ℝ
  g : Fin 4 → Fin 1024 → ℝ

namespace Args

variable (a : Args) (r : Fin 8192) (c : Fin 1024)

/-- The GELU's argument. -/
def gr : ℝ := a.rnn r ⟨1024 + c, by omega⟩
/-- The recurrent branch's gate. -/
def ga : ℝ := a.rnn r ⟨2048 + c, by omega⟩
/-- The attention branch's gate. -/
def gb : ℝ := a.rnn r ⟨3072 + c, by omega⟩
/-- The recurrent branch. -/
def yr : ℝ := gelu (a.gr r c) * a.h r c
/-- The merged branches. -/
def mg : ℝ := sg (a.ga r c) * a.yr r c + sg (a.gb r c) * a.y r c
/-- The layer norm's input. -/
def z : ℝ := cR * a.x r c + ∑ j, a.mg r j * a.w j c
/-- The gradient with respect to the layer norm's input. -/
def dz : ℝ := lnGrad (a.ct r) (a.g 3) (a.z r) c
/-- The gradient with respect to the merged branches. -/
def dm : ℝ := ∑ k, a.dz r k * a.w c k
/-- The gradient with respect to the recurrence's states. -/
def dh : ℝ := sg (a.ga r c) * a.dm r c * gelu (a.gr r c)
/-- The gradient with respect to the attention's output. -/
def dy : ℝ := sg (a.gb r c) * a.dm r c
/-- The gradient with respect to the GELU's argument. -/
def dgr : ℝ := sg (a.ga r c) * a.dm r c * a.h r c * dgelu (a.gr r c)
/-- The gradient with respect to the recurrent branch's gate. -/
def dga : ℝ := a.dm r c * a.yr r c * (sg (a.ga r c) * (1 - sg (a.ga r c)))
/-- The gradient with respect to the attention branch's gate. -/
def dgb : ℝ := a.dm r c * a.y r c * (sg (a.gb r c) * (1 - sg (a.gb r c)))
/-- The three gates' gradients side by side. -/
def d3 (k : Fin 3072) : ℝ :=
  if h : (k : ℕ) < 1024 then a.dgr r ⟨k, h⟩
  else if h' : (k : ℕ) - 1024 < 1024 then a.dga r ⟨k - 1024, h'⟩ else a.dgb r ⟨k - 1024 - 1024, by omega⟩
/-- The gradient with respect to the output projection. -/
def dw (i c : Fin 1024) : ℝ := ∑ r, a.mg r i * a.dz r c
/-- The gradient with respect to the layer norm's gain. -/
def dg : ℝ := ∑ r, a.ct r c * xhat (a.z r) c
/-- The gradient with respect to the layer norm's bias. -/
def db : ℝ := ∑ r, a.ct r c

theorem d3_gr {k : Fin 3072} {k' : Fin 1024} (h : (k : ℕ) = k') : a.d3 r k = a.dgr r k' := by
  unfold d3
  rw [dif_pos (by omega)]
  exact congrArg _ (Fin.ext h)
theorem d3_ga {k : Fin 3072} {k' : Fin 1024} (h : (k : ℕ) = 1024 + k') : a.d3 r k = a.dga r k' := by
  unfold d3
  rw [dif_neg (by omega), dif_pos (by omega)]
  exact congrArg _ (Fin.ext (by simp [h]))
theorem d3_gb {k : Fin 3072} {k' : Fin 1024} (h : (k : ℕ) = 2048 + k') : a.d3 r k = a.dgb r k' := by
  unfold d3
  rw [dif_neg (by omega), dif_neg (by omega)]
  exact congrArg _ (Fin.ext (by simp only; omega))

end Args

end Cert.Reals

end
-- ==== Proof.RefValue.lean ====
/-
  The reference's results at finite arguments: each array its composed term names is the coercion of the real array
  of `Reals.lean`. The definitions are read in program order, one lemma each.
-/
module

public import proofs.«01_k».proof.Proof.Gen.ReferenceIdeal.Run
public import proofs.«01_k».proof.Proof.Reals
public import Idealize.ShloMosaic.Lib.Pointwise

@[expose] public section

set_option maxRecDepth 16384

noncomputable section

namespace Cert.RefValue

open Idealize.ShloMosaic Idealize.ShloMosaic.TcCoe Idealize.SL.Sem
open Cert.ReferenceIdeal Cert.ReferenceIdeal.Gen Cert.ReferenceIdeal.Value Cert.Reals

/-- The reference's arguments are the reals of `a`. -/
structure Reads (V : Valuation τ sig (Elt Ideal)) (a : Args) : Prop where
  ct : V (Proc.devRef .tc main_arg0) = fun j : S8192x1024.Idx => ((a.ct (j 0) (j 1) : ℝ) : EReal)
  x : V (Proc.devRef .tc main_arg1) = fun j : S8192x1024.Idx => ((a.x (j 0) (j 1) : ℝ) : EReal)
  rnn : V (Proc.devRef .tc main_arg2) = fun j : S8192x4096.Idx => ((a.rnn (j 0) (j 1) : ℝ) : EReal)
  h : V (Proc.devRef .tc main_arg3) = fun j : S8192x1024.Idx => ((a.h (j 0) (j 1) : ℝ) : EReal)
  y : V (Proc.devRef .tc main_arg4) = fun j : S8192x1024.Idx => ((a.y (j 0) (j 1) : ℝ) : EReal)
  w : V (Proc.devRef .tc main_arg5) = fun j : S1024x1024.Idx => ((a.w (j 0) (j 1) : ℝ) : EReal)
  g : V (Proc.devRef .tc main_arg6) = fun j : S4x1024.Idx => ((a.g (j 0) (j 1) : ℝ) : EReal)

variable {V : Valuation τ sig (Elt Ideal)} {a : Args}

theorem v0 (R : Reads V a) : res_main_v0 V = fun j : S8192x1024.Idx => ((a.gr (j 0) (j 1) : ℝ) : EReal) := by
  funext j; idx_vars j
  pointwise [res_main_v0, R.rnn]
  rfl

theorem v3 (R : Reads V a) : res_main_v3 V = fun j : S1x1024.Idx => ((a.g 3 (j 1) : ℝ) : EReal) := by
  funext j; idx_vars j
  pointwise [res_main_v3, R.g]

theorem v19 (R : Reads V a) : res_main_v19 V = fun j : S8192x1024.Idx => ((th (a.gr (j 0) (j 1)) : ℝ) : EReal) := by
  funext j; idx_vars j
  pointwise [res_main_v19, v0 R]
  simp only [bits_gelu, bits_44715, bits_million, lift_mul, lift_add, lift_div_million, Ideal.tanh_coe, th_cubic, th]

theorem v28 (R : Reads V a) :
    res_main_v28 V = fun j : S8192x1024.Idx => ((1 / 2 * (1 + th (a.gr (j 0) (j 1))) : ℝ) : EReal) := by
  funext j; idx_vars j
  pointwise [res_main_v28, v19 R]
  simp only [bits_half, bits_one, lift_one, lift_mul, lift_add]

theorem v29 (R : Reads V a) : res_main_v29 V = fun j : S8192x1024.Idx => ((gelu (a.gr (j 0) (j 1)) : ℝ) : EReal) := by
  funext j; idx_vars j
  pointwise [res_main_v29, v28 R, v0 R]
  simp only [lift_mul, gelu]
  congr 1; ring

theorem v30 (R : Reads V a) : res_main_v30 V = fun j : S8192x1024.Idx => ((a.yr (j 0) (j 1) : ℝ) : EReal) := by
  funext j; idx_vars j
  pointwise [res_main_v30, v29 R, R.h]
  simp only [lift_mul, Args.yr]

theorem v36 (R : Reads V a) : res_main_v36 V = fun j : S8192x1024.Idx => ((sg (a.ga (j 0) (j 1)) : ℝ) : EReal) := by
  funext j; idx_vars j
  pointwise [res_main_v36, R.rnn]
  simp only [bits_one, lift_one, lift_neg, Ideal.exp_coe, lift_add, lift_div_exp]
  rfl

theorem v46 (R : Reads V a) : res_main_v46 V = fun j : S8192x1024.Idx => ((sg (a.gb (j 0) (j 1)) : ℝ) : EReal) := by
  funext j; idx_vars j
  pointwise [res_main_v46, R.rnn]
  simp only [bits_one, lift_one, lift_neg, Ideal.exp_coe, lift_add, lift_div_exp]
  rfl

theorem v51 (R : Reads V a) : res_main_v51 V = fun j : S8192x1024.Idx => ((a.mg (j 0) (j 1) : ℝ) : EReal) := by
  funext j; idx_vars j
  pointwise [res_main_v51, v36 R, v46 R, v30 R, R.y]
  simp only [lift_mul, lift_add, Args.mg]

theorem v53 (R : Reads V a) : res_main_v53 V = fun j : S8192x1024.Idx => ((a.z (j 0) (j 1) : ℝ) : EReal) := by
  funext j; idx_vars j
  pointwise [res_main_v53, v51 R, R.x, R.w]
  simp only [bits_resid, lift_mul, lift_sum, lift_add, Args.z]

theorem v57 (R : Reads V a) : res_main_v57 V = fun j : S8192x1.Idx => ((mean (a.z (j 0)) : ℝ) : EReal) := by
  funext j; idx_vars j
  pointwise [res_main_v57, v53 R]
  simp only [bits_1024, lift_zero, lift_sum, lift_add, lift_div_1024, zero_add, mean]

theorem v59 (R : Reads V a) : res_main_v59 V = fun j : S8192x1024.Idx => ((cen (a.z (j 0)) (j 1) : ℝ) : EReal) := by
  funext j; idx_vars j
  pointwise [res_main_v59, v53 R, v57 R]
  simp only [lift_sub, cen]

theorem v68 (R : Reads V a) : res_main_v68 V = fun j : S8192x1024.Idx => ((cen (a.z (j 0)) (j 1) : ℝ) : EReal) := v59 R

theorem v70 (R : Reads V a) : res_main_v70 V = fun j : S8192x1.Idx => ((vare (a.z (j 0)) : ℝ) : EReal) := by
  funext j; idx_vars j
  pointwise [res_main_v70, v59 R]
  simp only [bits_1024, bits_eps, lift_zero, lift_mul, lift_sum, lift_add, lift_div_1024, zero_add, vare]

theorem v71 (R : Reads V a) : res_main_v71 V = fun j : S8192x1.Idx => ((rstd (a.z (j 0)) : ℝ) : EReal) := by
  funext j; idx_vars j
  pointwise [res_main_v71, v70 R]
  exact lift_rsqrt (vare_pos _)

theorem v76 (R : Reads V a) : res_main_v76 V = fun j : S8192x1024.Idx => ((xhat (a.z (j 0)) (j 1) : ℝ) : EReal) := by
  funext j; idx_vars j
  pointwise [res_main_v76, v68 R, v71 R]
  simp only [lift_mul, xhat]

theorem v81 (R : Reads V a) : res_main_v81 V = fun j : S8192x1024.Idx => ((a.ct (j 0) (j 1) : ℝ) : EReal) := by
  funext j; idx_vars j
  pointwise [res_main_v81, R.ct]

theorem v88 (R : Reads V a) :
    res_main_v88 V = fun j : S8192x1024.Idx => ((a.ct (j 0) (j 1) * a.g 3 (j 1) : ℝ) : EReal) := by
  funext j; idx_vars j
  pointwise [res_main_v88, v81 R, v3 R]
  simp only [lift_mul]

theorem v93 (R : Reads V a) :
    res_main_v93 V = fun j : S8192x1024.Idx => ((a.ct (j 0) (j 1) * a.g 3 (j 1) * rstd (a.z (j 0)) : ℝ) : EReal) := by
  funext j; idx_vars j
  pointwise [res_main_v93, v88 R, v71 R]
  simp only [lift_mul]

theorem v102 (R : Reads V a) :
    res_main_v102 V = fun j : S8192x1024.Idx =>
      (((∑ i, cen (a.z (j 0)) i * (a.ct (j 0) i * a.g 3 i)) * (-(1 / 2) * (rstd (a.z (j 0)) / vare (a.z (j 0)))) / 1024
          * (2 * cen (a.z (j 0)) (j 1)) : ℝ) : EReal) := by
  funext j; idx_vars j
  pointwise [res_main_v102, v68 R, v59 R, v88 R, v71 R, v70 R]
  simp only [bits_1024, bits_neg_half, bits_two, lift_zero, lift_mul, lift_sum, lift_add, lift_div (vare_pos _).ne', lift_div_1024,
    zero_add, Finset.univ_unique, Finset.sum_singleton]

theorem v112 (R : Reads V a) : res_main_v112 V = fun j : S8192x1024.Idx => ((a.dz (j 0) (j 1) : ℝ) : EReal) := by
  funext j; idx_vars j
  pointwise [res_main_v112, v93 R, v102 R]
  simp only [bits_1024, lift_zero, lift_neg, lift_sum, lift_add, lift_div_1024, zero_add, Finset.univ_unique, Finset.sum_singleton]
  exact congrArg _ (lnGrad_eq (a.ct j0) (a.g 3) (a.z j0) j1)

theorem v115 (R : Reads V a) : res_main_v115 V = fun j : S8192x1024.Idx => ((a.dm (j 0) (j 1) : ℝ) : EReal) := by
  funext j; idx_vars j
  pointwise [res_main_v115, v112 R, R.w]
  simp only [lift_mul, lift_sum, Args.dm]

theorem v119 (R : Reads V a) :
    res_main_v119 V = fun j : S8192x1024.Idx => ((sg (a.ga (j 0) (j 1)) * a.dm (j 0) (j 1) : ℝ) : EReal) := by
  funext j; idx_vars j
  pointwise [res_main_v119, v36 R, v115 R]
  simp only [lift_mul]

theorem v123 (R : Reads V a) :
    res_main_v123 V = fun j : S8192x1024.Idx =>
      ((sg (a.ga (j 0) (j 1)) * a.dm (j 0) (j 1) * a.h (j 0) (j 1) : ℝ) : EReal) := by
  funext j; idx_vars j
  pointwise [res_main_v123, v119 R, R.h]
  simp only [lift_mul]

theorem v130 (R : Reads V a) :
    res_main_v130 V = fun j : S8192x1024.Idx =>
      ((cG * (1 / 2 * (a.gr (j 0) (j 1) * (sg (a.ga (j 0) (j 1)) * a.dm (j 0) (j 1) * a.h (j 0) (j 1)))
        * ((1 + th (a.gr (j 0) (j 1))) * (1 - th (a.gr (j 0) (j 1))))) : ℝ) : EReal) := by
  funext j; idx_vars j
  pointwise [res_main_v130, v123 R, v0 R, v19 R]
  simp only [bits_gelu, bits_half, bits_one, lift_one, lift_mul, lift_add, lift_sub]

/-! ## The results -/

theorem out_dh (R : Reads V a) :
    mulf (res_main_v29 V) (res_main_v119 V) = fun j : S8192x1024.Idx => ((a.dh (j 0) (j 1) : ℝ) : EReal) := by
  funext j; idx_vars j
  pointwise [v29 R, v119 R]
  simp only [lift_mul, Args.dh]
  congr 1; ring

theorem out_dy (R : Reads V a) :
    mulf (res_main_v46 V) (res_main_v115 V) = fun j : S8192x1024.Idx => ((a.dy (j 0) (j 1) : ℝ) : EReal) := by
  funext j; idx_vars j
  pointwise [v46 R, v115 R]
  simp only [lift_mul, Args.dy]

theorem out_dgr (R : Reads V a) :
    addf (addf (mulf (res_main_v123 V) (res_main_v28 V)) (res_main_v130 V))
        (mulf (mulf (Host.divf (res_main_v130 V) (broadcastInDim S8192x1024 ![] bcast_S_S8192x1024 (constant S_ .f32 0x49742400#32)))
            (broadcastInDim S8192x1024 ![] bcast_S_S8192x1024 (constant S_ .f32 0x472EAB00#32)))
          (mulf (broadcastInDim S8192x1024 ![] bcast_S_S8192x1024 (constant S_ .f32 0x40400000#32))
            (mulf (res_main_v0 V) (res_main_v0 V))))
      = fun j : S8192x1024.Idx => ((a.dgr (j 0) (j 1) : ℝ) : EReal) := by
  funext j; idx_vars j
  pointwise [v123 R, v28 R, v130 R, v0 R]
  simp only [bits_44715, bits_million, bits_three, lift_mul, lift_add, lift_div_million]
  exact congrArg _ (dgelu_eq _ _)

theorem out_dga (R : Reads V a) :
    mulf (mulf (res_main_v115 V) (res_main_v30 V))
        (mulf (res_main_v36 V) (subf (broadcastInDim S8192x1024 ![] bcast_S_S8192x1024 (constant S_ .f32 0x3F800000#32)) (res_main_v36 V)))
      = fun j : S8192x1024.Idx => ((a.dga (j 0) (j 1) : ℝ) : EReal) := by
  funext j; idx_vars j
  pointwise [v115 R, v30 R, v36 R]
  simp only [bits_one, lift_one, lift_mul, lift_sub, Args.dga]

theorem out_dgb (R : Reads V a) :
    mulf (mulf (res_main_v115 V) (V (Proc.devRef .tc main_arg4)))
        (mulf (res_main_v46 V) (subf (broadcastInDim S8192x1024 ![] bcast_S_S8192x1024 (constant S_ .f32 0x3F800000#32)) (res_main_v46 V)))
      = fun j : S8192x1024.Idx => ((a.dgb (j 0) (j 1) : ℝ) : EReal) := by
  funext j; idx_vars j
  pointwise [v115 R, R.y, v46 R]
  simp only [bits_one, lift_one, lift_mul, lift_sub, Args.dgb]

/-- The three branches' gradients side by side. -/
theorem out_d3 (X Y Z : FVec Ideal S8192x1024 .f32) (hX : X = fun j : S8192x1024.Idx => ((a.dgr (j 0) (j 1) : ℝ) : EReal))
    (hY : Y = fun j : S8192x1024.Idx => ((a.dga (j 0) (j 1) : ℝ) : EReal))
    (hZ : Z = fun j : S8192x1024.Idx => ((a.dgb (j 0) (j 1) : ℝ) : EReal)) :
    concatenate S8192x3072 1 [⟨S8192x1024, X⟩, ⟨S8192x1024, Y⟩, ⟨S8192x1024, Z⟩]
        concatenates_S8192x1024_S8192x1024_S8192x1024_S8192x3072_d1
      = fun j : S8192x3072.Idx => ((a.d3 (j 0) (j 1) : ℝ) : EReal) := by
  funext j; idx_vars j
  pointwise [hX, hY, hZ]
  unfold Args.d3
  split_ifs <;> rfl

theorem out_dw (R : Reads V a) :
    transpose S1024x1024 [1, 0]
        (Host.dotGeneral (φ₁ := .f32) (φ₂ := .f32) dot_S8192x1024_S8192x1024_S1024x1024_0_0_1_1_n_n none (res_main_v112 V) (res_main_v51 V))
        transposes_S1024x1024_S1024x1024_1_0
      = fun j : S1024x1024.Idx => ((a.dw (j 0) (j 1) : ℝ) : EReal) := by
  funext j; idx_vars j
  pointwise [v112 R, v51 R]
  simp only [lift_mul, lift_sum, Args.dw]
  exact congrArg _ (Finset.sum_congr rfl fun r _ => mul_comm _ _)

theorem out_dg (R : Reads V a) :
    shapeCast S1x1024 (Host.reduceAdd (mulf (res_main_v76 V) (res_main_v81 V)) (constant S_ .f32 0x00000000#32)
        reducesTo_S8192x1024_S1024_d0 h_S_) shapeCasts_S1024_S1x1024
      = fun j : S1x1024.Idx => ((a.dg (j 1) : ℝ) : EReal) := by
  funext j; idx_vars j
  pointwise [v76 R, v81 R]
  simp only [lift_zero, lift_mul, lift_sum, lift_add, zero_add, Args.dg]
  exact congrArg _ (Finset.sum_congr rfl fun r _ => mul_comm _ _)

theorem out_db (R : Reads V a) :
    shapeCast S1x1024 (Host.reduceAdd (F := Ideal) (φ := .f32) (V (Proc.devRef .tc main_arg0)) (constant S_ .f32 0x00000000#32)
        reducesTo_S8192x1024_S1024_d0 h_S_) shapeCasts_S1024_S1x1024
      = fun j : S1x1024.Idx => ((a.db (j 1) : ℝ) : EReal) := by
  funext j; idx_vars j
  pointwise [R.ct]
  simp only [lift_zero, lift_sum, lift_add, zero_add, Args.db]

end Cert.RefValue

end
-- ==== Proof.KernelBlocks.lean ====
/-
  The kernel's input blocks at finite arguments: at a grid point each staged block is the coercion of 256 rows of a real
  array of `Reals.lean`, the layer norm's input among them, which the host computes before the call.
-/
module

public import proofs.«01_k».proof.Proof.Gen.KernelIdeal.Value
public import proofs.«01_k».proof.Proof.Reals
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen Cert.Reals

/-- The launch memory's arguments on device `c` are the reals of `a`. -/
structure Reads (m : (ℓ : Loc nD τ sig) → Buf (Elt Ideal) ℓ) (c : Dev nD) (a : Args) : Prop where
  ct : m ((c : Thread nD τ).loc main_arg0) = fun j : S8192x1024.Idx => ((a.ct (j 0) (j 1) : ℝ) : EReal)
  x : m ((c : Thread nD τ).loc main_arg1) = fun j : S8192x1024.Idx => ((a.x (j 0) (j 1) : ℝ) : EReal)
  rnn : m ((c : Thread nD τ).loc main_arg2) = fun j : S8192x4096.Idx => ((a.rnn (j 0) (j 1) : ℝ) : EReal)
  h : m ((c : Thread nD τ).loc main_arg3) = fun j : S8192x1024.Idx => ((a.h (j 0) (j 1) : ℝ) : EReal)
  y : m ((c : Thread nD τ).loc main_arg4) = fun j : S8192x1024.Idx => ((a.y (j 0) (j 1) : ℝ) : EReal)
  w : m ((c : Thread nD τ).loc main_arg5) = fun j : S1024x1024.Idx => ((a.w (j 0) (j 1) : ℝ) : EReal)
  g : m ((c : Thread nD τ).loc main_arg6) = fun j : S4x1024.Idx => ((a.g (j 0) (j 1) : ℝ) : EReal)

variable {m : (ℓ : Loc nD τ sig) → Buf (Elt Ideal) ℓ} {c : Dev nD} {a : Args}

/-- The kernel's cubic coefficient. -/
theorem named_a : Named.named (F := Ideal) κ "gelu_a" (φ := .f32) 0x3D372713#32 = (cA : EReal) :=
  IdealRules.named_const.ideal_named_scalar _ _ _ _ rfl
/-- The kernel's coefficient of the square in the derivative. -/
theorem named_3a : Named.named (F := Ideal) κ "gelu_3a" (φ := .f32) 0x3E095D4F#32 = (cA3 : EReal) :=
  IdealRules.named_const.ideal_named_scalar _ _ _ _ rfl

/-- Row `i` of grid point `t`'s block. -/
def row (t : Fin cfg0.N) (i : Fin 256) : Fin 8192 :=
  ⟨t.val * 256 + i, by have := lt_of_lt_of_eq t.isLt N_0; omega⟩

theorem idx : ∀ t : Fin cfg0.N, win0_0.index t = ![t.val, 0] ∧ win0_1.index t = ![t.val, 0] ∧ win0_2.index t = ![t.val, 1]
    ∧ win0_3.index t = ![t.val, 2] ∧ win0_4.index t = ![t.val, 3] ∧ win0_5.index t = ![t.val, 0] ∧ win0_6.index t = ![t.val, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![0, 0] ∧ win0_14.index t = ![0, 0]
    ∧ win0_15.index t = ![0, 0] :=
  (by decide +kernel : ∀ t : Fin grid0.N, _)

theorem blk0 (R : Reads m c a) (t : Fin cfg0.N) :
    iblk m c 0 t = fun j : S256x1024.Idx => ((a.ct (row t (j 0)) (j 1) : ℝ) : EReal) := by
  funext j; idx_vars j
  refine Eq.trans (b := m ((c : Thread nD τ).loc main_arg0) (ix2 (row t j0) j1)) ?_ (by rw [R.ct]; rfl)
  blk_ext [iblk, V, idx t, row]

theorem hostz (R : Reads m c a) : V m c main_v37 = fun j : S8192x1024.Idx => ((a.z (j 0) (j 1) : ℝ) : EReal) := by
  entry_read
  funext j; idx_vars j
  pointwise [R.rnn, R.h, R.y, R.x, R.w]
  simp only [bits_resid, bits_half, bits_one, bits_gelu, bits_44715, bits_million, lift_one, lift_neg, lift_mul, lift_add,
    Ideal.exp_coe, lift_div_exp, lift_div_million, Ideal.tanh_coe, th_cubic, lift_sum]
  refine congrArg _ (congrArg (_ + ·) (Finset.sum_congr rfl fun k _ => ?_))
  simp only [Args.mg, Args.yr, gelu, th, sg, Args.gr, Args.ga, Args.gb]
  ring

theorem blk1 (R : Reads m c a) (t : Fin cfg0.N) :
    iblk m c 1 t = fun j : S256x1024.Idx => ((a.z (row t (j 0)) (j 1) : ℝ) : EReal) := by
  funext j; idx_vars j
  refine Eq.trans (b := V m c main_v37 (ix2 (row t j0) j1)) ?_ (by rw [hostz R]; rfl)
  blk_ext [iblk, idx t, row]

theorem blk2 (R : Reads m c a) (t : Fin cfg0.N) :
    iblk m c 2 t = fun j : S256x1024.Idx => ((a.gr (row t (j 0)) (j 1) : ℝ) : EReal) := by
  funext j; idx_vars j
  refine Eq.trans (b := m ((c : Thread nD τ).loc main_arg2) (ix2 (row t j0) ⟨1024 + j1, by omega⟩)) ?_ (by rw [R.rnn]; rfl)
  blk_ext [iblk, V, idx t, row]

theorem blk3 (R : Reads m c a) (t : Fin cfg0.N) :
    iblk m c 3 t = fun j : S256x1024.Idx => ((a.ga (row t (j 0)) (j 1) : ℝ) : EReal) := by
  funext j; idx_vars j
  refine Eq.trans (b := m ((c : Thread nD τ).loc main_arg2) (ix2 (row t j0) ⟨2048 + j1, by omega⟩)) ?_ (by rw [R.rnn]; rfl)
  blk_ext [iblk, V, idx t, row]

theorem blk4 (R : Reads m c a) (t : Fin cfg0.N) :
    iblk m c 4 t = fun j : S256x1024.Idx => ((a.gb (row t (j 0)) (j 1) : ℝ) : EReal) := by
  funext j; idx_vars j
  refine Eq.trans (b := m ((c : Thread nD τ).loc main_arg2) (ix2 (row t j0) ⟨3072 + j1, by omega⟩)) ?_ (by rw [R.rnn]; rfl)
  blk_ext [iblk, V, idx t, row]

theorem blk5 (R : Reads m c a) (t : Fin cfg0.N) :
    iblk m c 5 t = fun j : S256x1024.Idx => ((a.h (row t (j 0)) (j 1) : ℝ) : EReal) := by
  funext j; idx_vars j
  refine Eq.trans (b := m ((c : Thread nD τ).loc main_arg3) (ix2 (row t j0) j1)) ?_ (by rw [R.h]; rfl)
  blk_ext [iblk, V, idx t, row]

theorem blk6 (R : Reads m c a) (t : Fin cfg0.N) :
    iblk m c 6 t = fun j : S256x1024.Idx => ((a.y (row t (j 0)) (j 1) : ℝ) : EReal) := by
  funext j; idx_vars j
  refine Eq.trans (b := m ((c : Thread nD τ).loc main_arg4) (ix2 (row t j0) j1)) ?_ (by rw [R.y]; rfl)
  blk_ext [iblk, V, idx t, row]

theorem hostw (R : Reads m c a) : V m c main_v38 = fun j : S1024x1024.Idx => ((a.w (j 0) (j 1) : ℝ) : EReal) := by
  entry_read
  funext j; idx_vars j
  pointwise [R.w]

theorem blk7 (R : Reads m c a) (t : Fin cfg0.N) :
    iblk m c 7 t = fun j : S1024x1024.Idx => ((a.w (j 0) (j 1) : ℝ) : EReal) := by
  funext j; idx_vars j
  refine Eq.trans (b := V m c main_v38 (ix2 j0 j1)) ?_ (by rw [hostw R]; rfl)
  blk_ext [iblk, idx t]

theorem blk8 (R : Reads m c a) (t : Fin cfg0.N) :
    iblk m c 8 t = fun j : S4x1024.Idx => ((a.g (j 0) (j 1) : ℝ) : EReal) := by
  funext j; idx_vars j
  refine Eq.trans (b := m ((c : Thread nD τ).loc main_arg6) (ix2 j0 j1)) ?_ (by rw [R.g]; rfl)
  blk_ext [iblk, V, idx t]

/-! ## The layer norm's part of the body, at a block of rows -/

section Norm

variable {ct z : FVec Ideal S256x1024 .f32} {rc rz : Fin 256 → Fin 1024 → ℝ}

theorem cen_pay (hz : z = fun j => ((rz (j 0) (j 1) : ℝ) : EReal)) :
    k0_pay7 (F := Ideal) z = fun j : S256x1024.Idx => ((cen (rz (j 0)) (j 1) : ℝ) : EReal) := by
  funext j; idx_vars j
  pointwise [k0_pay7, hz]
  simp only [bits_1024, lift_sum, lift_div_1024, lift_sub, cen, mean]

theorem rstd_pay (hz : z = fun j => ((rz (j 0) (j 1) : ℝ) : EReal)) :
    k0_pay8 (F := Ideal) z = fun j : S256x1.Idx => ((rstd (rz (j 0)) : ℝ) : EReal) := by
  funext j; idx_vars j
  pointwise [k0_pay8, cen_pay hz]
  simp only [bits_1024, bits_eps, lift_mul, lift_sum, lift_div_1024, lift_add]
  exact lift_rsqrt (vare_pos _)

theorem xhat_pay (hz : z = fun j => ((rz (j 0) (j 1) : ℝ) : EReal)) :
    k0_pay9 (F := Ideal) z = fun j : S256x1024.Idx => ((xhat (rz (j 0)) (j 1) : ℝ) : EReal) := by
  funext j; idx_vars j
  pointwise [k0_pay9, cen_pay hz, rstd_pay hz]
  simp only [lift_mul, xhat]

theorem dz_pay {g : FVec Ideal S1x1024 .f32} {rg : Fin 1024 → ℝ} (hc : ct = fun j => ((rc (j 0) (j 1) : ℝ) : EReal))
    (hz : z = fun j => ((rz (j 0) (j 1) : ℝ) : EReal)) (hg : g = fun j => ((rg (j 1) : ℝ) : EReal)) :
    k0_pay10 (F := Ideal) ct z g = fun j : S256x1024.Idx => ((lnGrad (rc (j 0)) rg (rz (j 0)) (j 1) : ℝ) : EReal) := by
  funext j; idx_vars j
  pointwise [k0_pay10, hc, hg, rstd_pay hz, xhat_pay hz]
  simp only [bits_1024, lift_mul, lift_sum, lift_div_1024, lift_sub]
  rfl

end Norm

theorem dz_blk (R : Reads m c a) (t : Fin cfg0.N) {g : FVec Ideal S1x1024 .f32}
    (hg : g = fun j : S1x1024.Idx => ((a.g 3 (j 1) : ℝ) : EReal)) :
    k0_pay10 (F := Ideal) (iblk m c 0 t) (iblk m c 1 t) g
      = fun j : S256x1024.Idx => ((a.dz (row t (j 0)) (j 1) : ℝ) : EReal) :=
  dz_pay (rc := fun i => a.ct (row t i)) (rz := fun i => a.z (row t i)) (blk0 R t) (blk1 R t) hg

end Cert.KernelValue

end
-- ==== Proof.KernelTiles.lean ====
/-
  The kernel's outputs that each grid point writes once: the gradient with respect to the layer norm's input, to the
  recurrence's states, to the attention's output, and to the three gates side by side. Each array after the run is the
  coercion of the real array of `Reals.lean`.
-/
module

public import proofs.«01_k».proof.Proof.KernelBlocks

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen Cert.Reals

variable {m : (ℓ : Loc nD τ sig) → Buf (Elt Ideal) ℓ} {c : Dev nD} {a : Args}

theorem d3_gr_at (a : Args) {r r' : Fin 8192} {k : Fin 3072} (n : ℕ) (hn : n < 1024) (hr : r = r') (h : (k : ℕ) = n) :
    ((a.dgr r' ⟨n, hn⟩ : ℝ) : EReal) = ((a.d3 r k : ℝ) : EReal) := by
  rw [hr, Args.d3_gr a r' (k' := ⟨n, hn⟩) h]
theorem d3_ga_at (a : Args) {r r' : Fin 8192} {k : Fin 3072} (n : ℕ) (hn : n < 1024) (hr : r = r') (h : (k : ℕ) = 1024 + n) :
    ((a.dga r' ⟨n, hn⟩ : ℝ) : EReal) = ((a.d3 r k : ℝ) : EReal) := by
  rw [hr, Args.d3_ga a r' (k' := ⟨n, hn⟩) h]
theorem d3_gb_at (a : Args) {r r' : Fin 8192} {k : Fin 3072} (n : ℕ) (hn : n < 1024) (hr : r = r') (h : (k : ℕ) = 2048 + n) :
    ((a.dgb r' ⟨n, hn⟩ : ℝ) : EReal) = ((a.d3 r k : ℝ) : EReal) := by
  rw [hr, Args.d3_gb a r' (k' := ⟨n, hn⟩) h]

theorem final9 (R : Reads m c a) :
    (dats m 0 c).arrAt 9 (cfgs 0).N = fun j : S8192x1024.Idx => ((a.dz (j 0) (j 1) : ℝ) : EReal) := by
  refine (dats m 0 c).arrAt_eq_of_covers 9 _ (by decide +kernel) fun t hf y => ?_
  blk_simp
  rw [after0_9]
  refine Eq.trans (b := ((a.dz (row t (y 0)) (y 1) : ℝ) : EReal)) ?_
    (congrArg₂ (fun i k => ((a.dz i k : ℝ) : EReal)) (Fin.ext (by blk_simp [idx t, row])) (Fin.ext (by blk_simp [idx t])))
  by_cases h : t.val % 32 = 0
  on_goal 1 => rw [outsAt0_A m c t h]
  on_goal 2 => rw [outsAt0_B m c t h]
  all_goals
    frame_out
    rw [dz_blk R t (by funext j; idx_vars j; pointwise [blk8 R t])]

theorem final10 (R : Reads m c a) :
    (dats m 0 c).arrAt 10 (cfgs 0).N = fun j : S8192x1024.Idx => ((a.dh (j 0) (j 1) : ℝ) : EReal) := by
  refine (dats m 0 c).arrAt_eq_of_covers 10 _ (by decide +kernel) fun t hf y => ?_
  blk_simp
  rw [after0_10]
  refine Eq.trans (b := ((a.dh (row t (y 0)) (y 1) : ℝ) : EReal)) ?_
    (congrArg₂ (fun i k => ((a.dh i k : ℝ) : EReal)) (Fin.ext (by blk_simp [idx t, row])) (Fin.ext (by blk_simp [idx t])))
  by_cases h : t.val % 32 = 0
  on_goal 1 => rw [outsAt0_A m c t h]
  on_goal 2 => rw [outsAt0_B m c t h]
  all_goals
    frame_out
    rw [dz_blk R t (by funext j; idx_vars j; pointwise [blk8 R t])]
    generalize hD : (fun j : S256x1024.Idx => ((a.dz (row t (j 0)) (j 1) : ℝ) : EReal)) = D
    replace hD := hD.symm
    clear h
    canon_tiles x h
    all_goals
      refine Eq.trans ?_ (congrArg₂ (fun i k => ((a.dh i k : ℝ) : EReal))
        (congrArg (row t) (Fin.ext h0.symm : (x 0 : Fin 256) = y 0))
        (Fin.ext h1.symm : (⟨_, by first | omega | exact lt_trans x1_lt (by norm_num)⟩ : Fin 1024) = y 1))
      open_payloads
      pointwise [hD, blk2 R t, blk3 R t, blk7 R t]
      simp only [bits_half, bits_one, bits_gelu, named_a, lift_one, lift_zero, lift_sub, lift_mul, lift_add, Ideal.exp_coe, lift_div_exp, zero_sub,
        Ideal.tanh_coe, lift_sum, Args.dh, Args.dm, gelu, th, sg]
      refine congrArg _ ?_
      ring

theorem final11 (R : Reads m c a) :
    (dats m 0 c).arrAt 11 (cfgs 0).N = fun j : S8192x1024.Idx => ((a.dy (j 0) (j 1) : ℝ) : EReal) := by
  refine (dats m 0 c).arrAt_eq_of_covers 11 _ (by decide +kernel) fun t hf y => ?_
  blk_simp
  rw [after0_11]
  refine Eq.trans (b := ((a.dy (row t (y 0)) (y 1) : ℝ) : EReal)) ?_
    (congrArg₂ (fun i k => ((a.dy i k : ℝ) : EReal)) (Fin.ext (by blk_simp [idx t, row])) (Fin.ext (by blk_simp [idx t])))
  by_cases h : t.val % 32 = 0
  on_goal 1 => rw [outsAt0_A m c t h]
  on_goal 2 => rw [outsAt0_B m c t h]
  all_goals
    frame_out
    rw [dz_blk R t (by funext j; idx_vars j; pointwise [blk8 R t])]
    generalize hD : (fun j : S256x1024.Idx => ((a.dz (row t (j 0)) (j 1) : ℝ) : EReal)) = D
    replace hD := hD.symm
    clear h
    canon_tiles x h
    all_goals
      refine Eq.trans ?_ (congrArg₂ (fun i k => ((a.dy i k : ℝ) : EReal))
        (congrArg (row t) (Fin.ext h0.symm : (x 0 : Fin 256) = y 0))
        (Fin.ext h1.symm : (⟨_, by first | omega | exact lt_trans x1_lt (by norm_num)⟩ : Fin 1024) = y 1))
      open_payloads
      pointwise [hD, blk4 R t, blk7 R t]
      simp only [bits_one, lift_one, lift_zero, lift_sub, lift_mul, lift_add, Ideal.exp_coe, lift_div_exp, zero_sub,
        Ideal.tanh_coe, lift_sum, Args.dy, Args.dm, gelu, th, sg]
      refine congrArg _ ?_
      ring

theorem final12 (R : Reads m c a) :
    (dats m 0 c).arrAt 12 (cfgs 0).N = fun j : S8192x3072.Idx => ((a.d3 (j 0) (j 1) : ℝ) : EReal) := by
  refine (dats m 0 c).arrAt_eq_of_covers 12 _ (by decide +kernel) fun t hf y => ?_
  blk_simp
  rw [after0_12]
  refine Eq.trans (b := ((a.d3 (row t (y 0)) (y 1) : ℝ) : EReal)) ?_
    (congrArg₂ (fun i k => ((a.d3 i k : ℝ) : EReal)) (Fin.ext (by blk_simp [idx t, row])) (Fin.ext (by blk_simp [idx t])))
  by_cases h : t.val % 32 = 0
  on_goal 1 => rw [outsAt0_A m c t h]
  on_goal 2 => rw [outsAt0_B m c t h]
  all_goals
    frame_out
    rw [dz_blk R t (by funext j; idx_vars j; pointwise [blk8 R t])]
    generalize hD : (fun j : S256x1024.Idx => ((a.dz (row t (j 0)) (j 1) : ℝ) : EReal)) = D
    replace hD := hD.symm
    clear h
    canon_tiles x h
    case' piece0 => refine Eq.trans ?_ (d3_gb_at a (768 + (x 1 : ℕ)) (by omega) (congrArg (row t) (Fin.ext h0)) (h1.trans (by omega)))
    case' piece1 => refine Eq.trans ?_ (d3_ga_at a (768 + (x 1 : ℕ)) (by omega) (congrArg (row t) (Fin.ext h0)) (h1.trans (by omega)))
    case' piece2 => refine Eq.trans ?_ (d3_gr_at a (768 + (x 1 : ℕ)) (by omega) (congrArg (row t) (Fin.ext h0)) (h1.trans (by omega)))
    case' piece3 => refine Eq.trans ?_ (d3_gb_at a (512 + (x 1 : ℕ)) (by omega) (congrArg (row t) (Fin.ext h0)) (h1.trans (by omega)))
    case' piece4 => refine Eq.trans ?_ (d3_ga_at a (512 + (x 1 : ℕ)) (by omega) (congrArg (row t) (Fin.ext h0)) (h1.trans (by omega)))
    case' piece5 => refine Eq.trans ?_ (d3_gr_at a (512 + (x 1 : ℕ)) (by omega) (congrArg (row t) (Fin.ext h0)) (h1.trans (by omega)))
    case' piece6 => refine Eq.trans ?_ (d3_gb_at a (256 + (x 1 : ℕ)) (by omega) (congrArg (row t) (Fin.ext h0)) (h1.trans (by omega)))
    case' piece7 => refine Eq.trans ?_ (d3_ga_at a (256 + (x 1 : ℕ)) (by omega) (congrArg (row t) (Fin.ext h0)) (h1.trans (by omega)))
    case' piece8 => refine Eq.trans ?_ (d3_gr_at a (256 + (x 1 : ℕ)) (by omega) (congrArg (row t) (Fin.ext h0)) (h1.trans (by omega)))
    case' piece9 => refine Eq.trans ?_ (d3_gb_at a ((x 1 : ℕ)) (lt_trans x1_lt (by norm_num)) (congrArg (row t) (Fin.ext h0)) (h1.trans (by omega)))
    case' piece10 => refine Eq.trans ?_ (d3_ga_at a ((x 1 : ℕ)) (lt_trans x1_lt (by norm_num)) (congrArg (row t) (Fin.ext h0)) (h1.trans (by omega)))
    case' piece11 => refine Eq.trans ?_ (d3_gr_at a ((x 1 : ℕ)) (lt_trans x1_lt (by norm_num)) (congrArg (row t) (Fin.ext h0)) (h1.trans (by omega)))
    all_goals
      open_payloads
      pointwise [hD, blk2 R t, blk3 R t, blk4 R t, blk5 R t, blk6 R t, blk7 R t]
      simp only [bits_half, bits_one, bits_gelu, named_a, named_3a, lift_one, lift_zero, lift_sub, lift_mul, lift_add,
        Ideal.exp_coe, lift_div_exp, zero_sub, Ideal.tanh_coe, lift_sum, Args.dgr, Args.dga, Args.dgb, Args.yr, Args.dm,
        dgelu, gelu, th, sg]
      refine congrArg _ ?_
      ring

end Cert.KernelValue

end
-- ==== Proof.KernelSums.lean ====
/-
  The kernel's outputs that the grid accumulates: the gradients with respect to the output projection and to the layer
  norm's gain and bias. The blocks are zeroed at the first point and added into at every point, so each array after
  the run is a sum over the points, which is the sum over all rows.
-/
module

public import proofs.«01_k».proof.Proof.KernelBlocks

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen Cert.Reals

variable {m : (ℓ : Loc nD τ sig) → Buf (Elt Ideal) ℓ} {c : Dev nD} {a : Args}

/-- A sum over the points of the run and the rows of each point's block is the sum over all rows. -/
theorem sum_rows (f : Fin 8192 → ℝ) (t : Fin cfg0.N) (h : ∀ s : Fin 32, 32 * (t.val / 32) + s.val < cfg0.N) :
    ∑ s : Fin 32, ((∑ i, f (row ⟨32 * (t.val / 32) + s.val, h s⟩ i) : ℝ) : EReal) = ((∑ r, f r : ℝ) : EReal) := by
  have ht : t.val / 32 = 0 := Nat.div_eq_of_lt (lt_of_lt_of_eq t.isLt N_0)
  rw [lift_sum]
  refine congrArg _ (Fin.sum_mul_add_congr fun s k hl => congrArg f (Fin.ext ?_))
  simp only [row, ht]
  omega

theorem pay_dg (R : Reads m c a) (t : Fin cfg0.N) (acc : FVec Ideal S1x1024 .f32) (j : S1x1024.Idx) :
    k0_pay11 (iblk m c 0 t) (k0_pay9 (iblk m c 1 t)) acc j
      = acc j + ((∑ i, a.ct (row t i) (j 1) * xhat (a.z (row t i)) (j 1) : ℝ) : EReal) := by
  idx_vars j
  pointwise [k0_pay11, blk0 R t, xhat_pay (rz := fun i => a.z (row t i)) (blk1 R t)]
  simp only [lift_mul, lift_sum]

theorem pay_db (R : Reads m c a) (t : Fin cfg0.N) (acc : FVec Ideal S1x1024 .f32) (j : S1x1024.Idx) :
    k0_pay12 (iblk m c 0 t) acc j = acc j + ((∑ i, a.ct (row t i) (j 1) : ℝ) : EReal) := by
  idx_vars j
  pointwise [k0_pay12, blk0 R t]
  simp only [lift_sum]

theorem zero_dg (j : S1x1024.Idx) : k0_pay5 (F := Ideal) j = 0 := by pointwise [k0_pay5]
theorem zero_db (j : S1x1024.Idx) : k0_pay6 (F := Ideal) j = 0 := by pointwise [k0_pay6]

theorem final14 (R : Reads m c a) :
    (dats m 0 c).arrAt 14 (cfgs 0).N = fun j : S1x1024.Idx => ((a.dg (j 1) : ℝ) : EReal) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.1) 32 (fun _ => 0)
    (fun p j => ((∑ i, a.ct (row p i) (j 1) * xhat (a.z (row p i)) (j 1) : ℝ) : EReal))
    (fun t h j => by rw [outsAt0_A m c t h]; frame_out; rw [pay_dg R t, zero_dg])
    (fun t h j => by rw [outsAt0_B m c t h]; frame_out; rw [pay_dg R t])
    t ((flush0_14 t).mp hf) _, zero_add]
  refine (sum_rows (fun r => a.ct r (y 1) * xhat (a.z r) (y 1)) t _).trans
    (congrArg (fun k => ((a.dg k : ℝ) : EReal)) (Fin.ext (by blk_simp [idx t])))

theorem final15 (R : Reads m c a) :
    (dats m 0 c).arrAt 15 (cfgs 0).N = fun j : S1x1024.Idx => ((a.db (j 1) : ℝ) : EReal) := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2) 32 (fun _ => 0)
    (fun p j => ((∑ i, a.ct (row p i) (j 1) : ℝ) : EReal))
    (fun t h j => by rw [outsAt0_A m c t h]; frame_out; rw [pay_db R t, zero_db])
    (fun t h j => by rw [outsAt0_B m c t h]; frame_out; rw [pay_db R t])
    t ((flush0_15 t).mp hf) _, zero_add]
  refine (sum_rows (fun r => a.ct r (y 1)) t _).trans
    (congrArg (fun k => ((a.db k : ℝ) : EReal)) (Fin.ext (by blk_simp [idx t])))

/-- Stores under others that cover an index do not show at that index. -/
theorem canon_drop {Val : EltTy → Type} [∀ e, Nonempty (Val e)] {S : Shape} {e : EltTy} (L' : List (View.Piece Val S e)) (y : S.Idx) :
    ∀ L : List (View.Piece Val S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      obtain ⟨r, w⟩ := p
      exact (View.canon_cons_emb r w (L ++ L') x).trans (View.canon_cons_emb r w L x).symm
    · rw [List.cons_append, View.canon_cons_of_not_mem p _ hm, View.canon_cons_of_not_mem p _ hm]
      refine canon_drop L' y L ?_
      obtain ⟨q, hq, hy⟩ := h
      rcases List.mem_cons.mp hq with rfl | hq
      · exact absurd hy hm
      · exact ⟨q, hq, hy⟩

/-- A slab of 256 whole rows holds the indices of those rows. -/
theorem mem_slab (o : ℕ) (inb : ∀ a, ![o, 0] a + ![256, 1024] a ≤ S1024x1024.size a) (y : S1024x1024.Idx)
    (h : o ≤ (y 0 : ℕ)) (h' : (y 0 : ℕ) < o + 256) : y ∈ (Rect.unit (s := S1024x1024) ![o, 0] ![256, 1024] inb).set := by
  refine Rect.mem_set_unit.mpr fun b => ?_
  have hb : b = 0 ∨ b = 1 := by revert b; decide
  rcases hb with rfl | rfl
  · exact ⟨h, h'⟩
  · exact ⟨Nat.zero_le _, lt_of_lt_of_eq (y 1).isLt (by rfl)⟩

set_option maxHeartbeats 1600000 in
/-- What a point leaves in the accumulated block of the output projection's gradient: the contents before it, zero at the
    first point, and the products of its rows. -/
theorem step_dw (R : Reads m c a) (t : Fin cfg0.N) (y : S1024x1024.Idx) :
    (outsAt0 m c t.val t.isLt).2.2.2.2.1 y
      = (if t.val % 32 = 0 then (0 : EReal)
          else (outsAt0 m c (t.val - 1) (Nat.lt_of_le_of_lt (Nat.sub_le _ _) t.isLt)).2.2.2.2.1 y)
        + ((∑ i, a.mg (row t i) (y 0) * a.dz (row t i) (y 1) : ℝ) : EReal) := by
  by_cases h : t.val % 32 = 0
  on_goal 1 => rw [if_pos h, outsAt0_A m c t h]
  on_goal 2 => rw [if_neg h, outsAt0_B m c t h]
  all_goals
    frame_out
    rw [dz_blk R t (by funext j; idx_vars j; pointwise [blk8 R t])]
    generalize hD : (fun j : S256x1024.Idx => ((a.dz (row t (j 0)) (j 1) : ℝ) : EReal)) = D
    replace hD := hD.symm
  on_goal 1 =>
    simp (discharger := decide) only [↓ View.readCov_skip, ↓ View.readCov_fill]
    refine (canon_drop [_] y [_, _, _, _] ?_).trans ?_
    · have hy0 : (y 0 : ℕ) < 1024 := (y 0).isLt
      have hy1 : (y 1 : ℕ) < 1024 := (y 1).isLt
      by_cases h3 : 768 ≤ (y 0 : ℕ)
      · exact ⟨_, List.mem_cons_self, mem_slab 768 inb_S1024x1024_S256x1024_768_0 y (by omega) (by omega)⟩
      by_cases h2 : 512 ≤ (y 0 : ℕ)
      · exact ⟨_, .tail _ List.mem_cons_self, mem_slab 512 inb_S1024x1024_S256x1024_512_0 y (by omega) (by omega)⟩
      by_cases h1 : 256 ≤ (y 0 : ℕ)
      · exact ⟨_, .tail _ (.tail _ List.mem_cons_self), mem_slab 256 inb_S1024x1024_S256x1024_256_0 y (by omega) (by omega)⟩
      · exact ⟨_, .tail _ (.tail _ (.tail _ List.mem_cons_self)), mem_slab 0 inb_S1024x1024_S256x1024_0_0 y (by omega) (by omega)⟩
    obtain ⟨acc, hacc⟩ : ∃ acc : FVec Ideal S1024x1024 .f32, acc = k0_pay4 := ⟨_, rfl⟩
    rw [← hacc, show (0 : EReal) = acc y by rw [hacc]; pointwise [k0_pay4]]
    clear hacc
  on_goal 2 =>
    generalize (outsAt0 m c (t.val - 1) (Nat.lt_of_le_of_lt (Nat.sub_le _ _) t.isLt)).2.2.2.2.1 = acc
  all_goals
    clear h
    canon_tiles x h
    all_goals
      rw [show y = ix2 (⟨_, by first | omega | exact lt_trans x0_lt (by norm_num)⟩ : Fin 1024) (x 1) from
        (eq_ix2 y).trans ((ix2_inj ..).2 ⟨Fin.ext h0, Fin.ext h1⟩)]
      open_payloads
      pointwise [hD, blk2 R t, blk3 R t, blk4 R t, blk5 R t, blk6 R t]
      simp only [bits_half, bits_one, bits_gelu, named_a, lift_one, lift_zero, lift_sub, lift_mul, lift_add, Ideal.exp_coe,
        lift_div_exp, zero_sub, Ideal.tanh_coe, lift_sum]
      refine congrArg (_ + ·) (congrArg _ (Finset.sum_congr rfl fun i _ => ?_))
      simp only [Args.mg, Args.yr, gelu, th, sg]

theorem final13 (R : Reads m c a) :
    (dats m 0 c).arrAt 13 (cfgs 0).N = fun j : S1024x1024.Idx => ((a.dw (j 0) (j 1) : ℝ) : EReal) := by
  refine (dats m 0 c).arrAt_eq_of_covers 13 _ (by decide +kernel) fun t hf y => ?_
  blk_simp
  rw [after0_13, Pipeline.eq_sum_fin_of_reset_step_apply_of_flush (fun n h => (outsAt0 m c n h).2.2.2.2.1) 32 (fun _ => 0)
    (fun p j => ((∑ i, a.mg (row p i) (j 0) * a.dz (row p i) (j 1) : ℝ) : EReal))
    (fun t h j => by rw [step_dw R t j, if_pos h])
    (fun t h j => by rw [step_dw R t j, if_neg h])
    t ((flush0_13 t).mp hf) _, zero_add]
  refine (sum_rows (fun r => a.mg r (y 0) * a.dz r (y 1)) t _).trans
    (congrArg₂ (fun i k => ((a.dw i k : ℝ) : EReal)) (Fin.ext (by blk_simp [idx t])) (Fin.ext (by blk_simp [idx t])))

end Cert.KernelValue

end
-- ==== Proof.Claims.lean ====
/-
  From the precondition to the value claim: finite arguments are real arrays, both programs read the same ones, and
  each result of the kernel is the reference's.
-/
module

public import proofs.«01_k».proof.Defs
public import proofs.«01_k».proof.Proof.Gen.Pre_finite
public import proofs.«01_k».proof.Proof.RefValue
public import proofs.«01_k».proof.Proof.Gen.KernelIdeal.Value
public import proofs.«01_k».proof.Proof.KernelTiles
public import proofs.«01_k».proof.Proof.KernelSums
public import Idealize.ShloMosaic.Adequacy
public import Idealize.ShloMosaic.Init

@[expose] public section

set_option maxRecDepth 16384

noncomputable section

namespace Cert.Claims

open Idealize.ShloMosaic Idealize.ShloMosaic.TcCoe Idealize.SL.Sem Cert.Reals

/-- An array all of whose entries lie strictly under `+∞` in absolute value is an array of reals. -/
theorem reals_of_abs_lt {p q : ℕ} (X : FVec Ideal ⟨2, ![p, q]⟩ .f32) (hb : (⟨0, ![]⟩ : Shape).BroadcastsInDim ⟨2, ![p, q]⟩ ![])
    (h : cmpf .olt (Host.absf X) (broadcastInDim ⟨2, ![p, q]⟩ ![] hb (constant ⟨0, ![]⟩ .f32 0x7F800000#32)) = fun _ => 1#1) :
    ∃ f : Fin p → Fin q → ℝ, X = fun j => ((f (j 0) (j 1) : ℝ) : EReal) := by
  have key : ∀ i k, ∃ r : ℝ, X (ix2 i k) = r := by
    intro i k
    have h' := congrFun h (ix2 i k)
    refine finite_of_abs_lt ?_
    have hinf : Ideal.ofBits (φ := .f32) 0x7F800000#32 = (⊤ : EReal) := by
      simp [Ideal.ofBits, Ideal.ieee]
    simp only [cmpf, Host.absf, broadcastInDim, constant] at h'
    have h2 : Ideal.cmp .olt (max (X (ix2 i k)) (-X (ix2 i k))) (Ideal.ofBits .f32 0x7F800000#32) = 1#1 := h'
    rw [hinf] at h2
    by_contra hc
    simp [Ideal.cmp, hc] at h2
  choose f hf using key
  exact ⟨f, funext fun j => by rw [eq_ix2 j]; exact hf _ _⟩

theorem reads (m : (ℓ : Loc Cert.KernelIdeal.nD Cert.KernelIdeal.τ Cert.KernelIdeal.sig) → Buf (Elt Ideal) ℓ)
    (h : @Pre_KernelIdeal_finite Cert.Pre_finite.Gen.facts m) (c : Dev Cert.KernelIdeal.nD) :
    ∃ a : Args, KernelValue.Reads m c a := by
  obtain ⟨h0, h1, h2, h3, h4, h5, h6⟩ := h c
  obtain ⟨f0, e0⟩ := reals_of_abs_lt _ _ h0
  obtain ⟨f1, e1⟩ := reals_of_abs_lt _ _ h1
  obtain ⟨f2, e2⟩ := reals_of_abs_lt _ _ h2
  obtain ⟨f3, e3⟩ := reals_of_abs_lt _ _ h3
  obtain ⟨f4, e4⟩ := reals_of_abs_lt _ _ h4
  obtain ⟨f5, e5⟩ := reals_of_abs_lt _ _ h5
  obtain ⟨f6, e6⟩ := reals_of_abs_lt _ _ h6
  exact ⟨⟨f0, f1, f2, f3, f4, f5, f6⟩, ⟨e0, e1, e2, e3, e4, e5, e6⟩⟩

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

set_option maxHeartbeats 8000000 in
theorem mixout : @algebraic_KernelIdeal_ReferenceIdeal_pre_finite Cert.KernelIdeal.Gen.facts Cert.ReferenceIdeal.Gen.facts
    Cert.Pre_finite.Gen.facts := by
  intro m g m' g' hpre hagree
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N, ?_, ?_⟩
  · exact (θ_run _ _ _).mono (fun r h c => h c) (Cert.KernelIdeal.Value.run_blocks m g)
  · refine (θ_run _ _ _).mono (fun r h c => ?_) (Cert.ReferenceIdeal.Value.run m' g')
    obtain ⟨a, R⟩ := reads m hpre c
    obtain ⟨e0, e1, e2, e3, e4, e5, e6⟩ := hagree c
    have R' : RefValue.Reads (StableHlo.launchContents m' c) a :=
      ⟨e0.trans R.ct, e1.trans R.x, e2.trans R.rnn, e3.trans R.h, e4.trans R.y, e5.trans R.w, e6.trans R.g⟩
    obtain ⟨h0, h1, h2, h3, h4, h5, h6, hk⟩ := h c
    exact ⟨h0.trans ((RefValue.v112 R').trans (KernelValue.final9 R).symm),
      h1.trans ((RefValue.out_dh R').trans (KernelValue.final10 R).symm),
      h2.trans ((RefValue.out_dy R').trans (KernelValue.final11 R).symm),
      h3.trans ((RefValue.out_d3 _ _ _ (RefValue.out_dgr R') (RefValue.out_dga R') (RefValue.out_dgb R')).trans (KernelValue.final12 R).symm),
      h4.trans ((RefValue.out_dw R').trans (KernelValue.final13 R).symm),
      h5.trans ((RefValue.out_dg R').trans (KernelValue.final14 R).symm),
      h6.trans ((RefValue.out_db R').trans (KernelValue.final15 R).symm), hk⟩

end Cert.Claims

end
-- ==== Proof.UpDx.lean ====
/-
  The gradient of the ConvFFN's input through its residual and its up projection: a tile of rows at a time, each the
  whole product with the transposed weights, against one product of the whole arrays.
-/
module

public import proofs.«01_k».proof.Defs
public import proofs.«01_k».proof.Proof.Gen.UpDx
public import proofs.«01_k».proof.Proof.Gen.UpDxIdeal.Value
public import proofs.«01_k».proof.Proof.Gen.UpDxRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

namespace Cert.UpDxProof

open Idealize.ShloMosaic Idealize.ShloMosaic.TcCoe Idealize.SL.Sem
open Cert.UpDxIdeal Cert.UpDxIdeal.Gen

/-- The reference runs from every memory, leaves its arguments as launched, and has no semaphores. -/
theorem frame_reference : @quiescent_UpDxRefIdeal Cert.UpDxRefIdeal.Gen.facts := fun m ρ _ =>
  (θ_run Cert.UpDxRefIdeal.defs _ _).mono
    (fun r h => ⟨fun c => (h c).2, Idealize.ShloMosaic.sem_eq_zero_of_no_sems (by decide) r.2⟩)
    (Cert.UpDxRefIdeal.Value.run (F := Ideal) m ρ)

variable (m : (ℓ : Loc nD τ sig) → Buf (Elt Ideal) ℓ) (c : Dev nD)

/-- Row `i` of grid point `t`'s tile. -/
def row (t : Fin cfg0.N) (i : Fin 256) : Fin 8192 := ⟨t.val * 256 + i, by have := t.isLt; have h : cfg0.N = 32 := rfl; omega⟩

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem blk0 (t : Fin cfg0.N) : iblk m c 0 t = fun j : S256x6144.Idx => m ((c : Thread nD τ).loc main_arg0) (ix2 (row t (j 0)) (j 1)) := by
  funext j; idx_vars j
  blk_ext [iblk, V, idx t, row]

theorem blk1 (t : Fin cfg0.N) : iblk m c 1 t = fun j : S1024x6144.Idx => m ((c : Thread nD τ).loc main_arg1) j := by
  have h : V m c main_v0 = fun j : S1024x6144.Idx => m ((c : Thread nD τ).loc main_arg1) j := by
    entry_read; rfl
  funext j; idx_vars j
  refine Eq.trans (b := V m c main_v0 (ix2 j0 j1)) ?_ (by rw [h])
  blk_ext [iblk, idx t]

theorem blk2 (t : Fin cfg0.N) : iblk m c 2 t = fun j : S256x1024.Idx => m ((c : Thread nD τ).loc main_arg2) (ix2 (row t (j 0)) (j 1)) := by
  funext j; idx_vars j
  blk_ext [iblk, V, idx t, row]

/-- One entry of the gradient. -/
def grad (A : FVec Ideal S8192x6144 .bf16) (W : FVec Ideal S1024x6144 .f32) (Z : FVec Ideal S8192x1024 .f32) (i : Fin 8192) (k : Fin 1024) : EReal :=
  Ideal.ofBits .f32 0x3FD744FD#32 * Z (ix2 i k) + ∑ l : Fin 6144, A (ix2 i l) * W (ix2 k l)

theorem final : (dats m 0 c).arrAt 3 (cfgs 0).N = fun j : S8192x1024.Idx =>
    grad (m ((c : Thread nD τ).loc main_arg0)) (m ((c : Thread nD τ).loc main_arg1)) (m ((c : Thread nD τ).loc main_arg2)) (j 0) (j 1) := by
  refine (dats m 0 c).arrAt_eq_of_covers 3 _ (by decide +kernel) fun t hf y => ?_
  blk_simp
  rw [after0_3]
  refine Eq.trans (b := grad (m ((c : Thread nD τ).loc main_arg0)) (m ((c : Thread nD τ).loc main_arg1)) (m ((c : Thread nD τ).loc main_arg2)) (row t (y 0)) (y 1)) ?_
    (congrArg₂ (fun i k => grad _ _ _ i k) (Fin.ext (by blk_simp [idx t, row])) (Fin.ext (by blk_simp [idx t])))
  frame_out
  idx_vars y
  pointwise [k0_pay1, blk0 m c t, blk1 m c t, blk2 m c t]
  rfl

theorem product : @algebraic_UpDxIdeal_UpDxRefIdeal Cert.UpDxIdeal.Gen.facts Cert.UpDxRefIdeal.Gen.facts := by
  intro m g m' g' hpre hagree
  refine ⟨fun c => (dats m 0 c).arrAt 3 cfg0.N, ?_, ?_⟩
  · exact (θ_run _ _ _).mono (fun r h c => h c) (Cert.UpDxIdeal.Value.run_blocks m g)
  · refine (θ_run _ _ _).mono (fun r h c => ?_) (Cert.UpDxRefIdeal.Value.run m' g')
    obtain ⟨e0, e1, e2⟩ := hagree c
    obtain ⟨h0, hk⟩ := h c
    refine ⟨h0.trans (Eq.trans ?_ (final m c).symm), hk⟩
    rw [e0, e1, e2]
    funext j; idx_vars j
    pointwise [grad]
    exact add_comm _ _

end Cert.UpDxProof

end
-- ==== Proof.UpDw.lean ====
/-
  The gradient of the up projection's weights: tiles of 2048 of its columns, each accumulated over eight tiles of 1024 rows,
  against one product of the whole arrays.
-/
module

public import proofs.«01_k».proof.Defs
public import proofs.«01_k».proof.Proof.Gen.UpDw
public import proofs.«01_k».proof.Proof.Gen.UpDwIdeal.Value
public import proofs.«01_k».proof.Proof.Gen.UpDwRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

namespace Cert.UpDwProof

open Idealize.ShloMosaic Idealize.ShloMosaic.TcCoe Idealize.SL.Sem
open Cert.UpDwIdeal Cert.UpDwIdeal.Gen

/-- The reference runs from every memory, leaves its arguments as launched, and has no semaphores. -/
theorem frame_reference : @quiescent_UpDwRefIdeal Cert.UpDwRefIdeal.Gen.facts := fun m ρ _ =>
  (θ_run Cert.UpDwRefIdeal.defs _ _).mono
    (fun r h => ⟨fun c => (h c).2, Idealize.ShloMosaic.sem_eq_zero_of_no_sems (by decide) r.2⟩)
    (Cert.UpDwRefIdeal.Value.run (F := Ideal) m ρ)

variable (m : (ℓ : Loc nD τ sig) → Buf (Elt Ideal) ℓ) (c : Dev nD)

theorem lt_N (t : Fin cfg0.N) : t.val < 24 := lt_of_lt_of_eq t.isLt N_0

/-- Row `i` of grid point `t`'s tile. -/
def row (t : Fin cfg0.N) (i : Fin 1024) : Fin 8192 := ⟨t.val % 8 * 1024 + i, by omega⟩

/-- Column `k` of grid point `t`'s tile. -/
def col (t : Fin cfg0.N) (k : Fin 2048) : Fin 6144 := ⟨t.val / 8 * 2048 + k, by have := lt_N t; omega⟩

theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

theorem blk0 (t : Fin cfg0.N) : iblk m c 0 t = fun j : S1024x1024.Idx => m ((c : Thread nD τ).loc main_arg0) (ix2 (row t (j 0)) (j 1)) := by
  funext j; idx_vars j
  blk_ext [iblk, V, idx t, row]

theorem blk1 (t : Fin cfg0.N) : iblk m c 1 t = fun j : S1024x2048.Idx => m ((c : Thread nD τ).loc main_arg1) (ix2 (row t (j 0)) (col t (j 1))) := by
  funext j; idx_vars j
  blk_ext [iblk, V, idx t, row, col]

/-- One entry of the gradient. -/
def grad (A : FVec Ideal S8192x1024 .f32) (B : FVec Ideal S8192x6144 .bf16) (k : Fin 1024) (l : Fin 6144) : EReal :=
  ∑ r : Fin 8192, A (ix2 r k) * B (ix2 r l)

/-- What grid point `t` adds to an entry. -/
def term (A : FVec Ideal S8192x1024 .f32) (B : FVec Ideal S8192x6144 .bf16) (t : Fin cfg0.N) (j : S1024x2048.Idx) : EReal :=
  ∑ i : Fin 1024, A (ix2 (row t i) (j 0)) * B (ix2 (row t i) (col t (j 1)))

theorem pay (t : Fin cfg0.N) (acc : FVec Ideal S1024x2048 .f32) (j : S1024x2048.Idx) :
    k0_pay2 (F := Ideal) acc (iblk m c 0 t) (iblk m c 1 t) j = acc j + term (m ((c : Thread nD τ).loc main_arg0)) (m ((c : Thread nD τ).loc main_arg1)) t j := by
  idx_vars j
  pointwise [k0_pay2, blk0 m c t, blk1 m c t, term]

theorem zero (j : S1024x2048.Idx) : k0_pay1 (F := Ideal) j = 0 := by pointwise [k0_pay1]

theorem final : (dats m 0 c).arrAt 2 (cfgs 0).N = fun j : S1024x6144.Idx =>
    grad (m ((c : Thread nD τ).loc main_arg0)) (m ((c : Thread nD τ).loc main_arg1)) (j 0) (j 1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (term (m ((c : Thread nD τ).loc main_arg0)) (m ((c : Thread nD τ).loc main_arg1)))
    (fun t h j => by rw [outsAt0_A m c t h, Value.out_A_2_eq, pay m c t, zero])
    (fun t h j => by rw [outsAt0_B m c t h, Value.out_B_2_eq, pay m c t])
    t ((flush0_2 t).mp hf) _, zero_add]
  refine Eq.trans (b := grad (m ((c : Thread nD τ).loc main_arg0)) (m ((c : Thread nD τ).loc main_arg1)) (y 0) (col t (y 1))) ?_
    (congrArg₂ (fun i k => grad _ _ i k) (Fin.ext (by blk_simp [idx t])) (Fin.ext (by blk_simp [idx t, col])))
  have := lt_N t
  unfold grad term
  generalize m ((c : Thread nD τ).loc main_arg0) = A
  generalize m ((c : Thread nD τ).loc main_arg1) = B
  refine Fin.sum_mul_add_congr fun s k hl => ?_
  refine congrArg₂ (· * ·) (congrArg A (congrArg (ix2 · _) (Fin.ext ?_))) (congrArg B (congrArg₂ ix2 (Fin.ext ?_) (Fin.ext ?_)))
  · simp only [row]; omega
  · simp only [row]; omega
  · simp only [col]; omega

theorem product : @algebraic_UpDwIdeal_UpDwRefIdeal Cert.UpDwIdeal.Gen.facts Cert.UpDwRefIdeal.Gen.facts := by
  intro m g m' g' hpre hagree
  refine ⟨fun c => (dats m 0 c).arrAt 2 cfg0.N, ?_, ?_⟩
  · exact (θ_run _ _ _).mono (fun r h c => h c) (Cert.UpDwIdeal.Value.run_blocks m g)
  · refine (θ_run _ _ _).mono (fun r h c => ?_) (Cert.UpDwRefIdeal.Value.run m' g')
    obtain ⟨e0, e1⟩ := hagree c
    obtain ⟨h0, hk⟩ := h c
    refine ⟨h0.trans (Eq.trans ?_ (final m c).symm), hk⟩
    rw [e0, e1]
    funext j; idx_vars j
    pointwise [grad]
    exact Finset.sum_congr rfl fun r _ => mul_comm _ _

end Cert.UpDwProof

end
-- ==== Proof.DownDw.lean ====
/-
  The gradient of the down projection's weights: tiles of 512 of its columns, each accumulated over eight tiles of 1024 rows,
  against one product of the whole arrays.
-/
module

public import proofs.«01_k».proof.Defs
public import proofs.«01_k».proof.Proof.Gen.DownDw
public import proofs.«01_k».proof.Proof.Gen.DownDwIdeal.Value
public import proofs.«01_k».proof.Proof.Gen.DownDwRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

namespace Cert.DownDwProof

open Idealize.ShloMosaic Idealize.ShloMosaic.TcCoe Idealize.SL.Sem
open Cert.DownDwIdeal Cert.DownDwIdeal.Gen

/-- The reference runs from every memory, leaves its arguments as launched, and has no semaphores. -/
theorem frame_reference : @quiescent_DownDwRefIdeal Cert.DownDwRefIdeal.Gen.facts := fun m ρ _ =>
  (θ_run Cert.DownDwRefIdeal.defs _ _).mono
    (fun r h => ⟨fun c => (h c).2, Idealize.ShloMosaic.sem_eq_zero_of_no_sems (by decide) r.2⟩)
    (Cert.DownDwRefIdeal.Value.run (F := Ideal) m ρ)

variable (m : (ℓ : Loc nD τ sig) → Buf (Elt Ideal) ℓ) (c : Dev nD)

theorem lt_N (t : Fin cfg0.N) : t.val < 16 := lt_of_lt_of_eq t.isLt N_0

/-- Row `i` of grid point `t`'s tile. -/
def row (t : Fin cfg0.N) (i : Fin 1024) : Fin 8192 := ⟨t.val % 8 * 1024 + i, by omega⟩

/-- Column `k` of grid point `t`'s tile. -/
def col (t : Fin cfg0.N) (k : Fin 512) : Fin 1024 := ⟨t.val / 8 * 512 + k, by have := lt_N t; omega⟩

theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

theorem blk0 (t : Fin cfg0.N) : iblk m c 0 t = fun j : S1024x3072.Idx => m ((c : Thread nD τ).loc main_arg0) (ix2 (row t (j 0)) (j 1)) := by
  funext j; idx_vars j
  blk_ext [iblk, V, idx t, row]

theorem blk1 (t : Fin cfg0.N) : iblk m c 1 t = fun j : S1024x512.Idx => m ((c : Thread nD τ).loc main_arg1) (ix2 (row t (j 0)) (col t (j 1))) := by
  funext j; idx_vars j
  blk_ext [iblk, V, idx t, row, col]

/-- One entry of the gradient. -/
def grad (A : FVec Ideal S8192x3072 .bf16) (B : FVec Ideal S8192x1024 .f32) (k : Fin 3072) (l : Fin 1024) : EReal :=
  ∑ r : Fin 8192, A (ix2 r k) * B (ix2 r l)

/-- What grid point `t` adds to an entry. -/
def term (A : FVec Ideal S8192x3072 .bf16) (B : FVec Ideal S8192x1024 .f32) (t : Fin cfg0.N) (j : S3072x512.Idx) : EReal :=
  ∑ i : Fin 1024, A (ix2 (row t i) (j 0)) * B (ix2 (row t i) (col t (j 1)))

theorem pay (t : Fin cfg0.N) (acc : FVec Ideal S3072x512 .f32) (j : S3072x512.Idx) :
    k0_pay2 (F := Ideal) acc (iblk m c 0 t) (iblk m c 1 t) j = acc j + term (m ((c : Thread nD τ).loc main_arg0)) (m ((c : Thread nD τ).loc main_arg1)) t j := by
  idx_vars j
  pointwise [k0_pay2, blk0 m c t, blk1 m c t, term]

theorem zero (j : S3072x512.Idx) : k0_pay1 (F := Ideal) j = 0 := by pointwise [k0_pay1]

theorem final : (dats m 0 c).arrAt 2 (cfgs 0).N = fun j : S3072x1024.Idx =>
    grad (m ((c : Thread nD τ).loc main_arg0)) (m ((c : Thread nD τ).loc main_arg1)) (j 0) (j 1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (term (m ((c : Thread nD τ).loc main_arg0)) (m ((c : Thread nD τ).loc main_arg1)))
    (fun t h j => by rw [outsAt0_A m c t h, Value.out_A_2_eq, pay m c t, zero])
    (fun t h j => by rw [outsAt0_B m c t h, Value.out_B_2_eq, pay m c t])
    t ((flush0_2 t).mp hf) _, zero_add]
  refine Eq.trans (b := grad (m ((c : Thread nD τ).loc main_arg0)) (m ((c : Thread nD τ).loc main_arg1)) (y 0) (col t (y 1))) ?_
    (congrArg₂ (fun i k => grad _ _ i k) (Fin.ext (by blk_simp [idx t])) (Fin.ext (by blk_simp [idx t, col])))
  have := lt_N t
  unfold grad term
  generalize m ((c : Thread nD τ).loc main_arg0) = A
  generalize m ((c : Thread nD τ).loc main_arg1) = B
  refine Fin.sum_mul_add_congr fun s k hl => ?_
  refine congrArg₂ (· * ·) (congrArg A (congrArg (ix2 · _) (Fin.ext ?_))) (congrArg B (congrArg₂ ix2 (Fin.ext ?_) (Fin.ext ?_)))
  · simp only [row]; omega
  · simp only [row]; omega
  · simp only [col]; omega

theorem product : @algebraic_DownDwIdeal_DownDwRefIdeal Cert.DownDwIdeal.Gen.facts Cert.DownDwRefIdeal.Gen.facts := by
  intro m g m' g' hpre hagree
  refine ⟨fun c => (dats m 0 c).arrAt 2 cfg0.N, ?_, ?_⟩
  · exact (θ_run _ _ _).mono (fun r h c => h c) (Cert.DownDwIdeal.Value.run_blocks m g)
  · refine (θ_run _ _ _).mono (fun r h c => ?_) (Cert.DownDwRefIdeal.Value.run m' g')
    obtain ⟨e0, e1⟩ := hagree c
    obtain ⟨h0, hk⟩ := h c
    refine ⟨h0.trans (Eq.trans ?_ (final m c).symm), hk⟩
    rw [e0, e1]
    funext j; idx_vars j
    pointwise [grad]
    exact Finset.sum_congr rfl fun r _ => mul_comm _ _

end Cert.DownDwProof

end
-- ==== Proof.InDx.lean ====
/-
  The gradient of a layer's input through its residual and its seven projections. The kernel multiplies by weights whose
  columns the host regroups and pads with zeros; the reference by the weights as they are.
-/
module

public import proofs.«01_k».proof.Defs
public import proofs.«01_k».proof.Proof.Gen.InDx
public import proofs.«01_k».proof.Proof.Gen.InDxIdeal.Value
public import proofs.«01_k».proof.Proof.Gen.InDxRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

namespace Cert.InDxProof

open Idealize.ShloMosaic Idealize.ShloMosaic.TcCoe Idealize.SL.Sem
open Cert.InDxIdeal Cert.InDxIdeal.Gen

/-- The reference runs from every memory, leaves its arguments as launched, and has no semaphores. -/
theorem frame_reference : @quiescent_InDxRefIdeal Cert.InDxRefIdeal.Gen.facts := fun m ρ _ =>
  (θ_run Cert.InDxRefIdeal.defs _ _).mono
    (fun r h => ⟨fun c => (h c).2.2, Idealize.ShloMosaic.sem_eq_zero_of_no_sems (by decide) r.2⟩)
    (Cert.InDxRefIdeal.Value.run (F := Ideal) m ρ)

/-- The gradients of the seven projections, in the five arrays that hold them. -/
structure Cts where
  xr : FVec Ideal S8192x1024 .f32
  g3 : FVec Ideal S8192x3072 .f32
  ql : FVec Ideal S8192x384 .f32
  kvl : FVec Ideal S8192x256 .f32
  kr : FVec Ideal S8192x128 .f32

/-- The five arrays side by side. -/
def Cts.cat (a : Cts) (i : Fin 8192) (l : Fin 4864) : EReal :=
  if h : l.val < 1024 then a.xr (ix2 i ⟨l, h⟩)
  else if h : l.val - 1024 < 3072 then a.g3 (ix2 i ⟨l - 1024, h⟩)
  else if h : l.val - 1024 - 3072 < 384 then a.ql (ix2 i ⟨l - 1024 - 3072, h⟩)
  else if h : l.val - 1024 - 3072 - 384 < 256 then a.kvl (ix2 i ⟨l - 1024 - 3072 - 384, h⟩)
  else a.kr (ix2 i ⟨l - 1024 - 3072 - 384 - 256, by omega⟩)

/-- The place among the five arrays' columns of column `l` of the projections. -/
def place (l : Fin 4768) : Fin 4864 :=
  if h : l.val < 2048 then ⟨l, by omega⟩
  else if h : l.val < 2688 then ⟨l + 2048, by omega⟩
  else if h : l.val < 2720 then ⟨l + 2112, by omega⟩
  else ⟨l - 672, by omega⟩

/-- The weights as the host regroups them. -/
def regroup (W : FVec Ideal S1024x4768 .f32) (k : Fin 1024) (l : Fin 4864) : EReal :=
  if h : l.val < 1024 then W (ix2 k ⟨l, by omega⟩)
  else if h : l.val - 1024 < 1024 then W (ix2 k ⟨1024 + (l - 1024), by omega⟩)
  else if h : l.val - 1024 - 1024 < 1024 then W (ix2 k ⟨2720 + (l - 1024 - 1024), by omega⟩)
  else if h : l.val - 1024 - 1024 - 1024 < 1024 then W (ix2 k ⟨3744 + (l - 1024 - 1024 - 1024), by omega⟩)
  else if h : l.val - 1024 - 1024 - 1024 - 1024 < 384 then W (ix2 k ⟨2048 + (l - 1024 - 1024 - 1024 - 1024), by omega⟩)
  else if h : l.val - 1024 - 1024 - 1024 - 1024 - 384 < 256 then W (ix2 k ⟨2432 + (l - 1024 - 1024 - 1024 - 1024 - 384), by omega⟩)
  else if h : l.val - 1024 - 1024 - 1024 - 1024 - 384 - 256 < 64 then 0
  else if h : l.val - 1024 - 1024 - 1024 - 1024 - 384 - 256 - 64 < 32 then
    W (ix2 k ⟨2688 + (l - 1024 - 1024 - 1024 - 1024 - 384 - 256 - 64), by omega⟩)
  else 0

/-- The gradients of the seven projections side by side, in the projections' order. -/
def Cts.parts (a : Cts) (i : Fin 8192) (l : Fin 4768) : EReal :=
  if h : l.val < 1024 then a.xr (ix2 i ⟨l, h⟩)
  else if h : l.val - 1024 < 1024 then a.g3 (ix2 i ⟨l - 1024, by omega⟩)
  else if h : l.val - 1024 - 1024 < 384 then a.ql (ix2 i ⟨l - 1024 - 1024, h⟩)
  else if h : l.val - 1024 - 1024 - 384 < 256 then a.kvl (ix2 i ⟨l - 1024 - 1024 - 384, h⟩)
  else if h : l.val - 1024 - 1024 - 384 - 256 < 32 then a.kr (ix2 i ⟨64 + (l - 1024 - 1024 - 384 - 256), by omega⟩)
  else if h : l.val - 1024 - 1024 - 384 - 256 - 32 < 1024 then a.g3 (ix2 i ⟨1024 + (l - 1024 - 1024 - 384 - 256 - 32), by omega⟩)
  else a.g3 (ix2 i ⟨2048 + (l - 1024 - 1024 - 384 - 256 - 32 - 1024), by omega⟩)

theorem place_inj : Function.Injective place := by
  intro l l' h
  have h := congrArg Fin.val h
  unfold place at h
  refine Fin.ext ?_
  split_ifs at h <;> simp only at h <;> omega

/-- A column without a place in the projections has zero weights. -/
theorem regroup_zero (W : FVec Ideal S1024x4768 .f32) (k : Fin 1024) (l : Fin 4864) (h : ∀ l', place l' ≠ l) : regroup W k l = 0 := by
  have key : (4736 ≤ l.val ∧ l.val < 4800) ∨ 4832 ≤ l.val := by
    by_contra hc
    rcases Nat.lt_or_ge l.val 2048 with h1 | h1
    · exact h ⟨l, by omega⟩ (by unfold place; rw [dif_pos (by simpa using h1)])
    rcases Nat.lt_or_ge l.val 4096 with h2 | h2
    · exact h ⟨l + 672, by omega⟩ (by unfold place; simp (discharger := omega) only [dif_neg]; exact Fin.ext (by simp))
    rcases Nat.lt_or_ge l.val 4736 with h3 | h3
    · exact h ⟨l - 2048, by omega⟩ (by unfold place; simp (discharger := omega) only [dif_neg, dif_pos]; exact Fin.ext (by simp only; omega))
    · exact h ⟨l - 2112, by omega⟩ (by unfold place; simp (discharger := omega) only [dif_neg, dif_pos]; exact Fin.ext (by simp only; omega))
  unfold regroup
  rcases key with ⟨h1, h2⟩ | h1
  · iterate 6 refine (dif_neg (by omega)).trans ?_
    exact dif_pos (by omega)
  · iterate 8 refine (dif_neg (by omega)).trans ?_
    rfl

theorem term_place (a : Cts) (W : FVec Ideal S1024x4768 .f32) (i : Fin 8192) (k : Fin 1024) (l : Fin 4768) :
    a.parts i l * W (ix2 k l) = a.cat i (place l) * regroup W k (place l) := by
  have hl := l.isLt
  rcases Nat.lt_or_ge l.val 1024 with h0 | h0
  · have hp : (place l).val = l.val := by unfold place; split_ifs <;> simp only <;> omega
    generalize place l = p at hp ⊢
    refine congrArg₂ (· * ·) ?_ ?_
    · unfold Cts.parts Cts.cat
      refine (dif_pos (by omega)).trans ?_
      refine Eq.trans ?_ (dif_pos (by omega)).symm
      exact congrArg (fun q => a.xr (ix2 i q)) (Fin.ext (by simp only; omega))
    · unfold regroup
      refine Eq.trans ?_ (dif_pos (by omega)).symm
      exact congrArg (fun q => W (ix2 k q)) (Fin.ext (by simp only; omega))
  rcases Nat.lt_or_ge l.val 2048 with h1 | h1
  · have hp : (place l).val = l.val := by unfold place; split_ifs <;> simp only <;> omega
    generalize place l = p at hp ⊢
    refine congrArg₂ (· * ·) ?_ ?_
    · unfold Cts.parts Cts.cat
      iterate 1 refine (dif_neg (by omega)).trans ?_
      refine (dif_pos (by omega)).trans ?_
      iterate 1 refine Eq.trans ?_ (dif_neg (by omega)).symm
      refine Eq.trans ?_ (dif_pos (by omega)).symm
      exact congrArg (fun q => a.g3 (ix2 i q)) (Fin.ext (by simp only; omega))
    · unfold regroup
      iterate 1 refine Eq.trans ?_ (dif_neg (by omega)).symm
      refine Eq.trans ?_ (dif_pos (by omega)).symm
      exact congrArg (fun q => W (ix2 k q)) (Fin.ext (by simp only; omega))
  rcases Nat.lt_or_ge l.val 2432 with h2 | h2
  · have hp : (place l).val = l.val + 2048 := by unfold place; split_ifs <;> simp only <;> omega
    generalize place l = p at hp ⊢
    refine congrArg₂ (· * ·) ?_ ?_
    · unfold Cts.parts Cts.cat
      iterate 2 refine (dif_neg (by omega)).trans ?_
      refine (dif_pos (by omega)).trans ?_
      iterate 2 refine Eq.trans ?_ (dif_neg (by omega)).symm
      refine Eq.trans ?_ (dif_pos (by omega)).symm
      exact congrArg (fun q => a.ql (ix2 i q)) (Fin.ext (by simp only; omega))
    · unfold regroup
      iterate 4 refine Eq.trans ?_ (dif_neg (by omega)).symm
      refine Eq.trans ?_ (dif_pos (by omega)).symm
      exact congrArg (fun q => W (ix2 k q)) (Fin.ext (by simp only; omega))
  rcases Nat.lt_or_ge l.val 2688 with h3 | h3
  · have hp : (place l).val = l.val + 2048 := by unfold place; split_ifs <;> simp only <;> omega
    generalize place l = p at hp ⊢
    refine congrArg₂ (· * ·) ?_ ?_
    · unfold Cts.parts Cts.cat
      iterate 3 refine (dif_neg (by omega)).trans ?_
      refine (dif_pos (by omega)).trans ?_
      iterate 3 refine Eq.trans ?_ (dif_neg (by omega)).symm
      refine Eq.trans ?_ (dif_pos (by omega)).symm
      exact congrArg (fun q => a.kvl (ix2 i q)) (Fin.ext (by simp only; omega))
    · unfold regroup
      iterate 5 refine Eq.trans ?_ (dif_neg (by omega)).symm
      refine Eq.trans ?_ (dif_pos (by omega)).symm
      exact congrArg (fun q => W (ix2 k q)) (Fin.ext (by simp only; omega))
  rcases Nat.lt_or_ge l.val 2720 with h4 | h4
  · have hp : (place l).val = l.val + 2112 := by unfold place; split_ifs <;> simp only <;> omega
    generalize place l = p at hp ⊢
    refine congrArg₂ (· * ·) ?_ ?_
    · unfold Cts.parts Cts.cat
      iterate 4 refine (dif_neg (by omega)).trans ?_
      refine (dif_pos (by omega)).trans ?_
      iterate 4 refine Eq.trans ?_ (dif_neg (by omega)).symm
      exact congrArg (fun q => a.kr (ix2 i q)) (Fin.ext (by simp only; omega))
    · unfold regroup
      iterate 7 refine Eq.trans ?_ (dif_neg (by omega)).symm
      refine Eq.trans ?_ (dif_pos (by omega)).symm
      exact congrArg (fun q => W (ix2 k q)) (Fin.ext (by simp only; omega))
  rcases Nat.lt_or_ge l.val 3744 with h5 | h5
  · have hp : (place l).val = l.val - 672 := by unfold place; split_ifs <;> simp only <;> omega
    generalize place l = p at hp ⊢
    refine congrArg₂ (· * ·) ?_ ?_
    · unfold Cts.parts Cts.cat
      iterate 5 refine (dif_neg (by omega)).trans ?_
      refine (dif_pos (by omega)).trans ?_
      iterate 1 refine Eq.trans ?_ (dif_neg (by omega)).symm
      refine Eq.trans ?_ (dif_pos (by omega)).symm
      exact congrArg (fun q => a.g3 (ix2 i q)) (Fin.ext (by simp only; omega))
    · unfold regroup
      iterate 2 refine Eq.trans ?_ (dif_neg (by omega)).symm
      refine Eq.trans ?_ (dif_pos (by omega)).symm
      exact congrArg (fun q => W (ix2 k q)) (Fin.ext (by simp only; omega))
  · have hp : (place l).val = l.val - 672 := by unfold place; split_ifs <;> simp only <;> omega
    generalize place l = p at hp ⊢
    refine congrArg₂ (· * ·) ?_ ?_
    · unfold Cts.parts Cts.cat
      iterate 6 refine (dif_neg (by omega)).trans ?_
      iterate 1 refine Eq.trans ?_ (dif_neg (by omega)).symm
      refine Eq.trans ?_ (dif_pos (by omega)).symm
      exact congrArg (fun q => a.g3 (ix2 i q)) (Fin.ext (by simp only; omega))
    · unfold regroup
      iterate 3 refine Eq.trans ?_ (dif_neg (by omega)).symm
      refine Eq.trans ?_ (dif_pos (by omega)).symm
      exact congrArg (fun q => W (ix2 k q)) (Fin.ext (by simp only; omega))

/-- The product with the regrouped weights is the product with the weights as they are. -/
theorem sum_place (a : Cts) (W : FVec Ideal S1024x4768 .f32) (i : Fin 8192) (k : Fin 1024) :
    ∑ l : Fin 4864, a.cat i l * regroup W k l = ∑ l : Fin 4768, a.parts i l * W (ix2 k l) :=
  (Finset.sum_of_injOn place place_inj.injOn (fun _ _ => Finset.mem_coe.mpr (Finset.mem_univ _))
    (fun l _ hl => by rw [regroup_zero W k l fun l' h => hl ⟨l', by simp, h⟩, mul_zero])
    (fun l _ => term_place a W i k l)).symm

variable (m : (ℓ : Loc nD τ sig) → Buf (Elt Ideal) ℓ) (c : Dev nD)

/-- Row `i` of grid point `t`'s tile. -/
def row (t : Fin cfg0.N) (i : Fin 256) : Fin 8192 := ⟨t.val * 256 + i, by have := lt_of_lt_of_eq t.isLt N_0; omega⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] :=
  (by decide +kernel : ∀ t : Fin grid0.N, _)

/-- The arguments of the launch memory on device `c`. -/
def args : Cts := ⟨m ((c : Thread nD τ).loc main_arg0), m ((c : Thread nD τ).loc main_arg1), m ((c : Thread nD τ).loc main_arg2),
  m ((c : Thread nD τ).loc main_arg3), m ((c : Thread nD τ).loc main_arg4)⟩

theorem blk0 (t : Fin cfg0.N) : iblk m c 0 t = fun j : S256x1024.Idx => (args m c).xr (ix2 (row t (j 0)) (j 1)) := by
  funext j; idx_vars j
  blk_ext [iblk, V, idx t, row, args]

theorem blk1 (t : Fin cfg0.N) : iblk m c 1 t = fun j : S256x3072.Idx => (args m c).g3 (ix2 (row t (j 0)) (j 1)) := by
  funext j; idx_vars j
  blk_ext [iblk, V, idx t, row, args]

theorem blk2 (t : Fin cfg0.N) : iblk m c 2 t = fun j : S256x384.Idx => (args m c).ql (ix2 (row t (j 0)) (j 1)) := by
  funext j; idx_vars j
  blk_ext [iblk, V, idx t, row, args]

theorem blk3 (t : Fin cfg0.N) : iblk m c 3 t = fun j : S256x256.Idx => (args m c).kvl (ix2 (row t (j 0)) (j 1)) := by
  funext j; idx_vars j
  blk_ext [iblk, V, idx t, row, args]

theorem blk4 (t : Fin cfg0.N) : iblk m c 4 t = fun j : S256x128.Idx => (args m c).kr (ix2 (row t (j 0)) (j 1)) := by
  funext j; idx_vars j
  blk_ext [iblk, V, idx t, row, args]

theorem blk5 (t : Fin cfg0.N) : iblk m c 5 t = fun j : S256x1024.Idx => m ((c : Thread nD τ).loc main_arg5) (ix2 (row t (j 0)) (j 1)) := by
  funext j; idx_vars j
  blk_ext [iblk, V, idx t, row]

/-- The host's regrouping of the weights, before the call. -/
theorem entry6_term : V m c main_v10 = truncf .bf16 (concatenate S1024x4864 1 [
    ⟨S1024x1024, extractStridedSlice S1024x1024 ![0, 0] (m ((c : Thread nD τ).loc main_arg6)) slices_S1024x4768_S1024x1024_0_0⟩,
    ⟨S1024x1024, extractStridedSlice S1024x1024 ![0, 1024] (m ((c : Thread nD τ).loc main_arg6)) slices_S1024x4768_S1024x1024_0_1024⟩,
    ⟨S1024x1024, extractStridedSlice S1024x1024 ![0, 2720] (m ((c : Thread nD τ).loc main_arg6)) slices_S1024x4768_S1024x1024_0_2720⟩,
    ⟨S1024x1024, extractStridedSlice S1024x1024 ![0, 3744] (m ((c : Thread nD τ).loc main_arg6)) slices_S1024x4768_S1024x1024_0_3744⟩,
    ⟨S1024x384, extractStridedSlice S1024x384 ![0, 2048] (m ((c : Thread nD τ).loc main_arg6)) slices_S1024x4768_S1024x384_0_2048⟩,
    ⟨S1024x256, extractStridedSlice S1024x256 ![0, 2432] (m ((c : Thread nD τ).loc main_arg6)) slices_S1024x4768_S1024x256_0_2432⟩,
    ⟨S1024x64, broadcastInDim S1024x64 ![] bcast_S_S1024x64 (constant (F := Ideal) S_ .f32 0x00000000#32)⟩,
    ⟨S1024x32, extractStridedSlice S1024x32 ![0, 2688] (m ((c : Thread nD τ).loc main_arg6)) slices_S1024x4768_S1024x32_0_2688⟩,
    ⟨S1024x32, broadcastInDim S1024x32 ![] bcast_S_S1024x32 (constant (F := Ideal) S_ .f32 0x00000000#32)⟩]
    concatenates_S1024x1024_S1024x1024_S1024x1024_S1024x1024_S1024x384_S1024x256_S1024x64_S1024x32_S1024x32_S1024x4864_d1 : FVec Ideal S1024x4864 .f32) bitsLt_bf16_f32 := by
  show StableHlo.after hostOps0 (fun b => m (c, b)) main_v10 = _
  after_results <;> rfl

theorem entry6 : V m c main_v10 = fun j : S1024x4864.Idx => regroup (m ((c : Thread nD τ).loc main_arg6)) (j 0) (j 1) := by
  rw [entry6_term]
  generalize m ((c : Thread nD τ).loc main_arg6) = W
  funext j; idx_vars j
  pointwise
  rfl

theorem blk6 (t : Fin cfg0.N) : iblk m c 6 t = fun j : S1024x4864.Idx => regroup (m ((c : Thread nD τ).loc main_arg6)) (j 0) (j 1) := by
  funext j; idx_vars j
  refine Eq.trans (b := V m c main_v10 (ix2 j0 j1)) ?_ (congrFun (entry6 m c) _)
  blk_ext [iblk, idx t]

theorem cat_block (t : Fin cfg0.N) : k0_pay1 (F := Ideal) (iblk m c 0 t) (iblk m c 1 t) (iblk m c 2 t) (iblk m c 3 t) (iblk m c 4 t)
    = fun j : S256x4864.Idx => (args m c).cat (row t (j 0)) (j 1) := by
  funext j; idx_vars j
  pointwise [k0_pay1, blk0 m c t, blk1 m c t, blk2 m c t, blk3 m c t, blk4 m c t]
  rfl

/-- One entry of the input's gradient. -/
def grad (a : Cts) (Z : FVec Ideal S8192x1024 .f32) (W : FVec Ideal S1024x4768 .f32) (i : Fin 8192) (k : Fin 1024) : EReal :=
  Ideal.ofBits .f32 0x3FD744FD#32 * Z (ix2 i k) + ∑ l : Fin 4768, a.parts i l * W (ix2 k l)

theorem final7 : (dats m 0 c).arrAt 7 (cfgs 0).N = fun j : S8192x1024.Idx =>
    grad (args m c) (m ((c : Thread nD τ).loc main_arg5)) (m ((c : Thread nD τ).loc main_arg6)) (j 0) (j 1) := by
  refine (dats m 0 c).arrAt_eq_of_covers 7 _ (by decide +kernel) fun t hf y => ?_
  blk_simp
  rw [after0_7]
  refine Eq.trans (b := grad (args m c) (m ((c : Thread nD τ).loc main_arg5)) (m ((c : Thread nD τ).loc main_arg6)) (row t (y 0)) (y 1)) ?_
    (congrArg₂ (fun i k => grad _ _ _ i k) (Fin.ext (by blk_simp [idx t, row])) (Fin.ext (by blk_simp [idx t])))
  frame_out
  idx_vars y
  pointwise [k0_pay2, cat_block m c t, blk5 m c t, blk6 m c t]
  rw [sum_place]
  rfl

theorem final8 : (dats m 0 c).arrAt 8 (cfgs 0).N = fun j : S8192x4864.Idx => (args m c).cat (j 0) (j 1) := by
  refine (dats m 0 c).arrAt_eq_of_covers 8 _ (by decide +kernel) fun t hf y => ?_
  blk_simp
  rw [after0_8]
  refine Eq.trans (b := (args m c).cat (row t (y 0)) (y 1)) ?_
    (congrArg₂ (fun i k => (args m c).cat i k) (Fin.ext (by blk_simp [idx t, row])) (Fin.ext (by blk_simp [idx t])))
  frame_out
  rw [cat_block m c t]

theorem product : @algebraic_InDxIdeal_InDxRefIdeal Cert.InDxIdeal.Gen.facts Cert.InDxRefIdeal.Gen.facts := by
  intro m g m' g' hpre hagree
  refine ⟨fun c => (dats m 0 c).arrAt 7 cfg0.N, fun c => (dats m 0 c).arrAt 8 cfg0.N, ?_, ?_⟩
  · exact (θ_run _ _ _).mono (fun r h c => h c) (Cert.InDxIdeal.Value.run_blocks m g)
  · refine (θ_run _ _ _).mono (fun r h c => ?_) (Cert.InDxRefIdeal.Value.run m' g')
    obtain ⟨e0, e1, e2, e3, e4, e5, e6⟩ := hagree c
    obtain ⟨h0, h1, hk⟩ := h c
    refine ⟨h0.trans (Eq.trans ?_ (final7 m c).symm), h1.trans (Eq.trans ?_ (final8 m c).symm), hk⟩
    · rw [e0, e1, e2, e3, e4, e5, e6]
      funext j; idx_vars j
      pointwise [grad]
      exact add_comm _ _
    · rw [e0, e1, e2, e3, e4]
      funext j; idx_vars j
      pointwise
      rfl

end Cert.InDxProof

end
-- ==== Proof.InDw.lean ====
/-
  The gradient of the input projections' weights: tiles of 2432 of its columns, each accumulated over eight tiles of 1024 rows,
  against one product of the whole arrays.
-/
module

public import proofs.«01_k».proof.Defs
public import proofs.«01_k».proof.Proof.Gen.InDw
public import proofs.«01_k».proof.Proof.Gen.InDwIdeal.Value
public import proofs.«01_k».proof.Proof.Gen.InDwRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

namespace Cert.InDwProof

open Idealize.ShloMosaic Idealize.ShloMosaic.TcCoe Idealize.SL.Sem
open Cert.InDwIdeal Cert.InDwIdeal.Gen

/-- The reference runs from every memory, leaves its arguments as launched, and has no semaphores. -/
theorem frame_reference : @quiescent_InDwRefIdeal Cert.InDwRefIdeal.Gen.facts := fun m ρ _ =>
  (θ_run Cert.InDwRefIdeal.defs _ _).mono
    (fun r h => ⟨fun c => (h c).2, Idealize.ShloMosaic.sem_eq_zero_of_no_sems (by decide) r.2⟩)
    (Cert.InDwRefIdeal.Value.run (F := Ideal) m ρ)

variable (m : (ℓ : Loc nD τ sig) → Buf (Elt Ideal) ℓ) (c : Dev nD)

theorem lt_N (t : Fin cfg0.N) : t.val < 16 := lt_of_lt_of_eq t.isLt N_0

/-- Row `i` of grid point `t`'s tile. -/
def row (t : Fin cfg0.N) (i : Fin 1024) : Fin 8192 := ⟨t.val % 8 * 1024 + i, by omega⟩

/-- Column `k` of grid point `t`'s tile. -/
def col (t : Fin cfg0.N) (k : Fin 2432) : Fin 4864 := ⟨t.val / 8 * 2432 + k, by have := lt_N t; omega⟩

theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

theorem blk0 (t : Fin cfg0.N) : iblk m c 0 t = fun j : S1024x1024.Idx => m ((c : Thread nD τ).loc main_arg0) (ix2 (row t (j 0)) (j 1)) := by
  funext j; idx_vars j
  blk_ext [iblk, V, idx t, row]

theorem blk1 (t : Fin cfg0.N) : iblk m c 1 t = fun j : S1024x2432.Idx => m ((c : Thread nD τ).loc main_arg1) (ix2 (row t (j 0)) (col t (j 1))) := by
  funext j; idx_vars j
  blk_ext [iblk, V, idx t, row, col]

/-- One entry of the gradient. -/
def grad (A : FVec Ideal S8192x1024 .f32) (B : FVec Ideal S8192x4864 .bf16) (k : Fin 1024) (l : Fin 4864) : EReal :=
  ∑ r : Fin 8192, A (ix2 r k) * B (ix2 r l)

/-- What grid point `t` adds to an entry. -/
def term (A : FVec Ideal S8192x1024 .f32) (B : FVec Ideal S8192x4864 .bf16) (t : Fin cfg0.N) (j : S1024x2432.Idx) : EReal :=
  ∑ i : Fin 1024, A (ix2 (row t i) (j 0)) * B (ix2 (row t i) (col t (j 1)))

theorem pay (t : Fin cfg0.N) (acc : FVec Ideal S1024x2432 .f32) (j : S1024x2432.Idx) :
    k0_pay2 (F := Ideal) acc (iblk m c 0 t) (iblk m c 1 t) j = acc j + term (m ((c : Thread nD τ).loc main_arg0)) (m ((c : Thread nD τ).loc main_arg1)) t j := by
  idx_vars j
  pointwise [k0_pay2, blk0 m c t, blk1 m c t, term]

theorem zero (j : S1024x2432.Idx) : k0_pay1 (F := Ideal) j = 0 := by pointwise [k0_pay1]

theorem final : (dats m 0 c).arrAt 2 (cfgs 0).N = fun j : S1024x4864.Idx =>
    grad (m ((c : Thread nD τ).loc main_arg0)) (m ((c : Thread nD τ).loc main_arg1)) (j 0) (j 1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (term (m ((c : Thread nD τ).loc main_arg0)) (m ((c : Thread nD τ).loc main_arg1)))
    (fun t h j => by rw [outsAt0_A m c t h, Value.out_A_2_eq, pay m c t, zero])
    (fun t h j => by rw [outsAt0_B m c t h, Value.out_B_2_eq, pay m c t])
    t ((flush0_2 t).mp hf) _, zero_add]
  refine Eq.trans (b := grad (m ((c : Thread nD τ).loc main_arg0)) (m ((c : Thread nD τ).loc main_arg1)) (y 0) (col t (y 1))) ?_
    (congrArg₂ (fun i k => grad _ _ i k) (Fin.ext (by blk_simp [idx t])) (Fin.ext (by blk_simp [idx t, col])))
  have := lt_N t
  unfold grad term
  generalize m ((c : Thread nD τ).loc main_arg0) = A
  generalize m ((c : Thread nD τ).loc main_arg1) = B
  refine Fin.sum_mul_add_congr fun s k hl => ?_
  refine congrArg₂ (· * ·) (congrArg A (congrArg (ix2 · _) (Fin.ext ?_))) (congrArg B (congrArg₂ ix2 (Fin.ext ?_) (Fin.ext ?_)))
  · simp only [row]; omega
  · simp only [row]; omega
  · simp only [col]; omega

theorem product : @algebraic_InDwIdeal_InDwRefIdeal Cert.InDwIdeal.Gen.facts Cert.InDwRefIdeal.Gen.facts := by
  intro m g m' g' hpre hagree
  refine ⟨fun c => (dats m 0 c).arrAt 2 cfg0.N, ?_, ?_⟩
  · exact (θ_run _ _ _).mono (fun r h c => h c) (Cert.InDwIdeal.Value.run_blocks m g)
  · refine (θ_run _ _ _).mono (fun r h c => ?_) (Cert.InDwRefIdeal.Value.run m' g')
    obtain ⟨e0, e1⟩ := hagree c
    obtain ⟨h0, hk⟩ := h c
    refine ⟨h0.trans (Eq.trans ?_ (final m c).symm), hk⟩
    rw [e0, e1]
    funext j; idx_vars j
    pointwise [grad]
    exact Finset.sum_congr rfl fun r _ => mul_comm _ _

end Cert.InDwProof

end
-- ==== Proof.InFwd.lean ====
/-
  A layer's seven projections, in the four arrays the kernel writes. The kernel multiplies by weights whose columns the
  host regroups and pads with zeros; the reference multiplies by the weights as they are and regroups the product.
-/
module

public import proofs.«01_k».proof.Proof.InDx
public import proofs.«01_k».proof.Proof.Gen.InFwd
public import proofs.«01_k».proof.Proof.Gen.InFwdIdeal.Value
public import proofs.«01_k».proof.Proof.Gen.InFwdRefIdeal.Run

@[expose] public section

set_option maxRecDepth 16384

noncomputable section

namespace Cert.InFwdProof

open Idealize.ShloMosaic Idealize.ShloMosaic.TcCoe Idealize.SL.Sem
open Cert.InFwdIdeal Cert.InFwdIdeal.Gen
open Cert.InDxProof (regroup)

/-- The reference runs from every memory, leaves its arguments as launched, and has no semaphores. -/
theorem frame_reference : @quiescent_InFwdRefIdeal Cert.InFwdRefIdeal.Gen.facts := fun m ρ _ =>
  (θ_run Cert.InFwdRefIdeal.defs _ _).mono
    (fun r h => ⟨fun c => (h c).2.2.2.2, Idealize.ShloMosaic.sem_eq_zero_of_no_sems (by decide) r.2⟩)
    (Cert.InFwdRefIdeal.Value.run (F := Ideal) m ρ)

/-! Where the host puts each projection's columns. -/

theorem regroup_xr (W : FVec Ideal S1024x4768 .f32) (k : Fin 1024) {l : Fin 4864} {p : Fin 4768} (ha : 0 ≤ l.val) (hb : l.val < 1024)
    (hp : p.val = l.val) : regroup W k l = W (ix2 k p) := by
  unfold regroup
  refine (dif_pos (by omega)).trans ?_
  exact congrArg (fun q => W (ix2 k q)) (Fin.ext (by simp only; omega))

theorem regroup_gr (W : FVec Ideal S1024x4768 .f32) (k : Fin 1024) {l : Fin 4864} {p : Fin 4768} (ha : 1024 ≤ l.val) (hb : l.val < 2048)
    (hp : p.val = l.val) : regroup W k l = W (ix2 k p) := by
  unfold regroup
  iterate 1 refine (dif_neg (by omega)).trans ?_
  refine (dif_pos (by omega)).trans ?_
  exact congrArg (fun q => W (ix2 k q)) (Fin.ext (by simp only; omega))

theorem regroup_ga (W : FVec Ideal S1024x4768 .f32) (k : Fin 1024) {l : Fin 4864} {p : Fin 4768} (ha : 2048 ≤ l.val) (hb : l.val < 3072)
    (hp : p.val = l.val + 672) : regroup W k l = W (ix2 k p) := by
  unfold regroup
  iterate 2 refine (dif_neg (by omega)).trans ?_
  refine (dif_pos (by omega)).trans ?_
  exact congrArg (fun q => W (ix2 k q)) (Fin.ext (by simp only; omega))

theorem regroup_gb (W : FVec Ideal S1024x4768 .f32) (k : Fin 1024) {l : Fin 4864} {p : Fin 4768} (ha : 3072 ≤ l.val) (hb : l.val < 4096)
    (hp : p.val = l.val + 672) : regroup W k l = W (ix2 k p) := by
  unfold regroup
  iterate 3 refine (dif_neg (by omega)).trans ?_
  refine (dif_pos (by omega)).trans ?_
  exact congrArg (fun q => W (ix2 k q)) (Fin.ext (by simp only; omega))

theorem regroup_ql (W : FVec Ideal S1024x4768 .f32) (k : Fin 1024) {l : Fin 4864} {p : Fin 4768} (ha : 4096 ≤ l.val) (hb : l.val < 4480)
    (hp : l.val = p.val + 2048) : regroup W k l = W (ix2 k p) := by
  unfold regroup
  iterate 4 refine (dif_neg (by omega)).trans ?_
  refine (dif_pos (by omega)).trans ?_
  exact congrArg (fun q => W (ix2 k q)) (Fin.ext (by simp only; omega))

theorem regroup_kvl (W : FVec Ideal S1024x4768 .f32) (k : Fin 1024) {l : Fin 4864} {p : Fin 4768} (ha : 4480 ≤ l.val) (hb : l.val < 4736)
    (hp : l.val = p.val + 2048) : regroup W k l = W (ix2 k p) := by
  unfold regroup
  iterate 5 refine (dif_neg (by omega)).trans ?_
  refine (dif_pos (by omega)).trans ?_
  exact congrArg (fun q => W (ix2 k q)) (Fin.ext (by simp only; omega))

theorem regroup_kr (W : FVec Ideal S1024x4768 .f32) (k : Fin 1024) {l : Fin 4864} {p : Fin 4768} (ha : 4800 ≤ l.val) (hb : l.val < 4832)
    (hp : l.val = p.val + 2112) : regroup W k l = W (ix2 k p) := by
  unfold regroup
  iterate 7 refine (dif_neg (by omega)).trans ?_
  refine (dif_pos (by omega)).trans ?_
  exact congrArg (fun q => W (ix2 k q)) (Fin.ext (by simp only; omega))

/-- The columns of zeros on either side of the last projection. -/
theorem regroup_pad (W : FVec Ideal S1024x4768 .f32) (k : Fin 1024) {l : Fin 4864} (h : (4736 ≤ l.val ∧ l.val < 4800) ∨ 4832 ≤ l.val) :
    regroup W k l = 0 := by
  unfold regroup
  rcases h with ⟨h1, h2⟩ | h1
  · iterate 6 refine (dif_neg (by omega)).trans ?_
    exact dif_pos (by omega)
  · iterate 8 refine (dif_neg (by omega)).trans ?_
    rfl

/-- One entry of the product with the regrouped weights. -/
def prod (A : FVec Ideal S8192x1024 .f32) (W : FVec Ideal S1024x4768 .f32) (i : Fin 8192) (l : Fin 4864) : EReal :=
  ∑ k : Fin 1024, A (ix2 i k) * regroup W k l

variable (m : (ℓ : Loc nD τ sig) → Buf (Elt Ideal) ℓ) (c : Dev nD)

/-- Row `i` of grid point `t`'s tile. -/
def row (t : Fin cfg0.N) (i : Fin 256) : Fin 8192 := ⟨t.val * 256 + i, by have := lt_of_lt_of_eq t.isLt N_0; omega⟩

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

theorem blk0 (t : Fin cfg0.N) : iblk m c 0 t = fun j : S256x1024.Idx => m ((c : Thread nD τ).loc main_arg0) (ix2 (row t (j 0)) (j 1)) := by
  funext j; idx_vars j
  blk_ext [iblk, V, idx t, row]

/-- The host's regrouping of the weights, before the call. -/
theorem entry1_term : V m c main_v10 = truncf .bf16 (concatenate S1024x4864 1 [
    ⟨S1024x1024, extractStridedSlice S1024x1024 ![0, 0] (m ((c : Thread nD τ).loc main_arg1)) slices_S1024x4768_S1024x1024_0_0⟩,
    ⟨S1024x1024, extractStridedSlice S1024x1024 ![0, 1024] (m ((c : Thread nD τ).loc main_arg1)) slices_S1024x4768_S1024x1024_0_1024⟩,
    ⟨S1024x1024, extractStridedSlice S1024x1024 ![0, 2720] (m ((c : Thread nD τ).loc main_arg1)) slices_S1024x4768_S1024x1024_0_2720⟩,
    ⟨S1024x1024, extractStridedSlice S1024x1024 ![0, 3744] (m ((c : Thread nD τ).loc main_arg1)) slices_S1024x4768_S1024x1024_0_3744⟩,
    ⟨S1024x384, extractStridedSlice S1024x384 ![0, 2048] (m ((c : Thread nD τ).loc main_arg1)) slices_S1024x4768_S1024x384_0_2048⟩,
    ⟨S1024x256, extractStridedSlice S1024x256 ![0, 2432] (m ((c : Thread nD τ).loc main_arg1)) slices_S1024x4768_S1024x256_0_2432⟩,
    ⟨S1024x64, broadcastInDim S1024x64 ![] bcast_S_S1024x64 (constant (F := Ideal) S_ .f32 0x00000000#32)⟩,
    ⟨S1024x32, extractStridedSlice S1024x32 ![0, 2688] (m ((c : Thread nD τ).loc main_arg1)) slices_S1024x4768_S1024x32_0_2688⟩,
    ⟨S1024x32, broadcastInDim S1024x32 ![] bcast_S_S1024x32 (constant (F := Ideal) S_ .f32 0x00000000#32)⟩]
    concatenates_S1024x1024_S1024x1024_S1024x1024_S1024x1024_S1024x384_S1024x256_S1024x64_S1024x32_S1024x32_S1024x4864_d1 : FVec Ideal S1024x4864 .f32) bitsLt_bf16_f32 := by
  show StableHlo.after hostOps0 (fun b => m (c, b)) main_v10 = _
  after_results <;> rfl

theorem entry1 : V m c main_v10 = fun j : S1024x4864.Idx => regroup (m ((c : Thread nD τ).loc main_arg1)) (j 0) (j 1) := by
  rw [entry1_term]
  generalize m ((c : Thread nD τ).loc main_arg1) = W
  funext j; idx_vars j
  pointwise
  rfl

theorem blk1 (t : Fin cfg0.N) : iblk m c 1 t = fun j : S1024x4864.Idx => regroup (m ((c : Thread nD τ).loc main_arg1)) (j 0) (j 1) := by
  funext j; idx_vars j
  refine Eq.trans (b := V m c main_v10 (ix2 j0 j1)) ?_ (congrFun (entry1 m c) _)
  blk_ext [iblk, idx t]

/-- The product of the launch arguments on device `c`. -/
def out (i : Fin 8192) (l : Fin 4864) : EReal :=
  prod (m ((c : Thread nD τ).loc main_arg0)) (m ((c : Thread nD τ).loc main_arg1)) i l

theorem final2 : (dats m 0 c).arrAt 2 (cfgs 0).N = fun j : S8192x4096.Idx => out m c (j 0) ⟨(j 1).val, by have := (j 1).isLt; simp at this; omega⟩ := by
  refine (dats m 0 c).arrAt_eq_of_covers 2 _ (by decide +kernel) fun t hf y => ?_
  blk_simp
  rw [after0_2]
  refine Eq.trans (b := out m c (row t (y 0)) ⟨(y 1).val, by have := (y 1).isLt; simp at this; omega⟩) ?_
    (congrArg₂ (fun i k => out m c i k) (Fin.ext (by blk_simp [idx t, row])) (Fin.ext (by blk_simp [idx t])))
  frame_out
  canon_tiles x h
  all_goals
    refine Eq.trans ?_ (congrArg₂ (fun i k => out m c i k)
      (congrArg (row t) (Fin.ext h0.symm : (x 0 : Fin 256) = y 0))
      (Fin.ext h1.symm : (⟨_, by first | omega | exact lt_trans x1_lt (by norm_num)⟩ : Fin 4864) = ⟨(y 1).val, _⟩))
    open_payloads
    pointwise [blk0 m c t, blk1 m c t]
    rfl

theorem final3 : (dats m 0 c).arrAt 3 (cfgs 0).N = fun j : S8192x384.Idx => out m c (j 0) ⟨4096 + (j 1).val, by have := (j 1).isLt; simp at this; omega⟩ := by
  refine (dats m 0 c).arrAt_eq_of_covers 3 _ (by decide +kernel) fun t hf y => ?_
  blk_simp
  rw [after0_3]
  refine Eq.trans (b := out m c (row t (y 0)) ⟨4096 + (y 1).val, by have := (y 1).isLt; simp at this; omega⟩) ?_
    (congrArg₂ (fun i k => out m c i k) (Fin.ext (by blk_simp [idx t, row])) (Fin.ext (by blk_simp [idx t])))
  frame_out
  idx_vars y
  open_payloads
  pointwise [blk0 m c t, blk1 m c t]
  rfl

theorem final4 : (dats m 0 c).arrAt 4 (cfgs 0).N = fun j : S8192x256.Idx => out m c (j 0) ⟨4480 + (j 1).val, by have := (j 1).isLt; simp at this; omega⟩ := by
  refine (dats m 0 c).arrAt_eq_of_covers 4 _ (by decide +kernel) fun t hf y => ?_
  blk_simp
  rw [after0_4]
  refine Eq.trans (b := out m c (row t (y 0)) ⟨4480 + (y 1).val, by have := (y 1).isLt; simp at this; omega⟩) ?_
    (congrArg₂ (fun i k => out m c i k) (Fin.ext (by blk_simp [idx t, row])) (Fin.ext (by blk_simp [idx t])))
  frame_out
  idx_vars y
  open_payloads
  pointwise [blk0 m c t, blk1 m c t]
  rfl

theorem final5 : (dats m 0 c).arrAt 5 (cfgs 0).N = fun j : S8192x128.Idx => out m c (j 0) ⟨4736 + (j 1).val, by have := (j 1).isLt; simp at this; omega⟩ := by
  refine (dats m 0 c).arrAt_eq_of_covers 5 _ (by decide +kernel) fun t hf y => ?_
  blk_simp
  rw [after0_5]
  refine Eq.trans (b := out m c (row t (y 0)) ⟨4736 + (y 1).val, by have := (y 1).isLt; simp at this; omega⟩) ?_
    (congrArg₂ (fun i k => out m c i k) (Fin.ext (by blk_simp [idx t, row])) (Fin.ext (by blk_simp [idx t])))
  frame_out
  idx_vars y
  open_payloads
  pointwise [blk0 m c t, blk1 m c t]
  rfl

theorem product : @algebraic_InFwdIdeal_InFwdRefIdeal Cert.InFwdIdeal.Gen.facts Cert.InFwdRefIdeal.Gen.facts := by
  intro m g m' g' hpre hagree
  refine ⟨fun c => (dats m 0 c).arrAt 2 cfg0.N, fun c => (dats m 0 c).arrAt 3 cfg0.N, fun c => (dats m 0 c).arrAt 4 cfg0.N,
    fun c => (dats m 0 c).arrAt 5 cfg0.N, ?_, ?_⟩
  · exact (θ_run _ _ _).mono (fun r h c => h c) (Cert.InFwdIdeal.Value.run_blocks m g)
  · refine (θ_run _ _ _).mono (fun r h c => ?_) (Cert.InFwdRefIdeal.Value.run m' g')
    obtain ⟨e0, e1⟩ := hagree c
    obtain ⟨h0, h1, h2, h3, hk⟩ := h c
    refine ⟨h0.trans (Eq.trans ?_ (final2 m c).symm), h1.trans (Eq.trans ?_ (final3 m c).symm),
      h2.trans (Eq.trans ?_ (final4 m c).symm), h3.trans (Eq.trans ?_ (final5 m c).symm), hk⟩
    all_goals
      rw [e0, e1]
      unfold out
      generalize m ((c : Thread nD τ).loc main_arg1) = W
      funext j; idx_vars j
      pointwise [prod]
    · rcases Nat.lt_or_ge j1.val 1024 with h0 | h0
      · refine (dif_pos (by omega)).trans (Finset.sum_congr rfl fun k _ => congrArg _ ?_)
        exact (regroup_xr W k (Nat.zero_le _) h0 rfl).symm
      rcases Nat.lt_or_ge j1.val 2048 with h1 | h1
      · iterate 1 refine (dif_neg (by omega)).trans ?_
        refine (dif_pos (by omega)).trans (Finset.sum_congr rfl fun k _ => congrArg _ ?_)
        exact (regroup_gr W k (by simp only; omega) (by simp only; omega) (by simp only; omega)).symm
      rcases Nat.lt_or_ge j1.val 3072 with h2 | h2
      · iterate 2 refine (dif_neg (by omega)).trans ?_
        refine (dif_pos (by omega)).trans (Finset.sum_congr rfl fun k _ => congrArg _ ?_)
        exact (regroup_ga W k (by simp only; omega) (by simp only; omega) (by simp only; omega)).symm
      · iterate 3 refine (dif_neg (by omega)).trans ?_
        refine Finset.sum_congr rfl fun k _ => congrArg _ ?_
        exact (regroup_gb W k (by simp only; omega) (by simp only; omega) (by simp only; omega)).symm
    · refine Finset.sum_congr rfl fun k _ => congrArg _ ?_
      exact (regroup_ql W k (by simp only; omega) (by simp only; omega) (by simp only; omega)).symm
    · refine Finset.sum_congr rfl fun k _ => congrArg _ ?_
      exact (regroup_kvl W k (by simp only; omega) (by simp only; omega) (by simp only; omega)).symm
    · by_cases h : 64 ≤ j1.val ∧ j1.val - 64 < 32
      · refine (dif_pos h).trans (Finset.sum_congr rfl fun k _ => congrArg _ ?_)
        exact (regroup_kr W k (by simp only; omega) (by simp only; omega) (by simp only; omega)).symm
      · refine (dif_neg h).trans (Eq.trans ?_ (Finset.sum_eq_zero fun k _ => ?_).symm)
        · show (((0#32 : BitVec 32).toInt : ℝ) : EReal) = 0
          simp
        · refine (congrArg _ (regroup_pad W k ?_)).trans (mul_zero _)
          simp only; omega

end Cert.InFwdProof

end
-- ==== Proof.FfnUp.lean ====
module

public import proofs.«01_k».proof.Defs
public import proofs.«01_k».proof.Proof.Gen.FfnFwd
public import proofs.«01_k».proof.Proof.Gen.FfnFwdIdeal.Value
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.FfnFwdProof

open Idealize.ShloMosaic Idealize.ShloMosaic.TcCoe Idealize.SL.Sem
open Cert.FfnFwdIdeal Cert.FfnFwdIdeal.Gen

variable (m : (ℓ : Loc nD τ sig) → Buf (Elt Ideal) ℓ) (c : Dev nD)

/-- Row `i` of grid point `t`'s tile. -/
def row (t : Fin cfg0.N) (i : Fin 256) : Fin 8192 := ⟨t.val * 256 + i, by have := lt_of_lt_of_eq t.isLt N_0; omega⟩

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

theorem blk0 (t : Fin cfg0.N) : iblk m c 0 t = fun j : S256x1024.Idx => m ((c : Thread nD τ).loc main_arg0) (ix2 (row t (j 0)) (j 1)) := by
  funext j; idx_vars j
  blk_ext [iblk, V, idx t, row]

theorem blk1 (t : Fin cfg0.N) : iblk m c 1 t = fun j : S1024x6144.Idx => m ((c : Thread nD τ).loc main_arg1) j := by
  have h : V m c main_v0 = fun j : S1024x6144.Idx => m ((c : Thread nD τ).loc main_arg1) j := by
    entry_read; rfl
  funext j; idx_vars j
  refine Eq.trans (b := V m c main_v0 (ix2 j0 j1)) ?_ (by rw [h])
  blk_ext [iblk, idx t]

theorem blk2 (t : Fin cfg0.N) : iblk m c 2 t = fun j : S3x6144.Idx => m ((c : Thread nD τ).loc main_arg2) j := by
  funext j; idx_vars j
  blk_ext [iblk, V, idx t]

theorem blk3 (t : Fin cfg0.N) : iblk m c 3 t = fun j : S4x6144.Idx => m ((c : Thread nD τ).loc main_arg3) j := by
  funext j; idx_vars j
  blk_ext [iblk, V, idx t]

theorem blk4 (t : Fin cfg0.N) : iblk m c 4 t = fun j : S3072x1024.Idx => m ((c : Thread nD τ).loc main_arg4) j := by
  have h : V m c main_v1 = fun j : S3072x1024.Idx => m ((c : Thread nD τ).loc main_arg4) j := by
    entry_read; rfl
  funext j; idx_vars j
  refine Eq.trans (b := V m c main_v1 (ix2 j0 j1)) ?_ (by rw [h])
  blk_ext [iblk, idx t]

theorem blk5 (t : Fin cfg0.N) : iblk m c 5 t = fun j : S4x1024.Idx => m ((c : Thread nD τ).loc main_arg5) j := by
  funext j; idx_vars j
  blk_ext [iblk, V, idx t]

theorem blk6 (t : Fin cfg0.N) : iblk m c 6 t = fun j : S4x1024.Idx => m ((c : Thread nD τ).loc main_arg6) j := by
  funext j; idx_vars j
  blk_ext [iblk, V, idx t]

/-- One entry of the up projection. -/
def up (X : FVec Ideal S8192x1024 .f32) (W : FVec Ideal S1024x6144 .f32) (i : Fin 8192) (l : Fin 6144) : EReal :=
  ∑ k : Fin 1024, X (ix2 i k) * W (ix2 k l)

/-- The same entry of the kernel's own arguments. -/
def upm (i : Fin 8192) (l : Fin 6144) : EReal :=
  up (m ((c : Thread nD τ).loc main_arg0)) (m ((c : Thread nD τ).loc main_arg1)) i l

/-- A chunk of the up projection of one tile: the columns from `s` on. -/
def upChunk (t : Fin cfg0.N) (s : ℕ) (hs : s + 512 ≤ 6144) : FVec Ideal S256x512 .f32 := fun j =>
  upm m c (row t (j 0)) ⟨s + (j 1).val, by have := (j 1).isLt; simp at this; omega⟩

/-! Reading a list of stores to the halo buffer at a column: only the stores that meet a column range matter. -/

/-- Whether a store may meet the columns from `s` to `s + 512`. -/
def meets (s : ℕ) (p : View.Piece (Elt Ideal) S264x6144 .f32) : Bool :=
  !decide (p.1.stride 1 = 1) || (decide (p.1.off 1 < s + 512) && decide (s < p.1.off 1 + p.1.size 1))

theorem read_filter (v : View sig .tc .vmem S264x6144 .f32) (f : v.ty.Contents (Elt Ideal)) (s : ℕ) (y : S264x6144.Idx)
    (h1 : s ≤ (y 1).val) (h2 : (y 1).val < s + 512) (L : List (View.Piece (Elt Ideal) S264x6144 .f32)) :
    v.read (Elt Ideal) (v.writes (Elt Ideal) f L) y = v.read (Elt Ideal) (v.writes (Elt Ideal) f (L.filter (meets s))) y := by
  induction L with
  | nil => rfl
  | cons p L ih =>
    by_cases hp : meets s p = true
    · rw [List.filter_cons_of_pos hp]
      by_cases hy : y ∈ p.1.set
      · obtain ⟨r, w⟩ := p
        obtain ⟨x, -, rfl⟩ := Finset.mem_map.mp ((Rect.map_emb_univ r).symm ▸ hy)
        rw [View.read_writes_cons_emb, View.read_writes_cons_emb]
      · rw [View.read_writes_cons_miss v f p _ y hy, View.read_writes_cons_miss v f p _ y hy, ih]
    · rw [List.filter_cons_of_neg hp]
      simp only [meets, Bool.or_eq_true, Bool.not_eq_true', Bool.and_eq_true, decide_eq_true_eq, decide_eq_false_iff_not,
        not_or, not_not, not_and, not_lt] at hp
      refine (View.read_writes_cons_miss_of_axis v f p L y 1 _ _ rfl hp.1 rfl ?_).trans ih
      by_cases hlt : p.1.off 1 < s + 512
      · exact .inr ((hp.2 hlt).trans h1)
      · exact .inl (by omega)

/-- The up projection `d` rows back within the sequence, zero before its start. -/
def tap (X : FVec Ideal S8192x1024 .f32) (W : FVec Ideal S1024x6144 .f32) (d : ℕ) (i : Fin 8192) (l : Fin 6144) : EReal :=
  if i.val % 2048 < d then 0 else up X W ⟨i.val - d, by omega⟩ l

/-- The same of the kernel's own arguments. -/
def tapm (d : ℕ) (i : Fin 8192) (l : Fin 6144) : EReal :=
  tap (m ((c : Thread nD τ).loc main_arg0)) (m ((c : Thread nD τ).loc main_arg1)) d i l

/-- A chunk of it over one tile. -/
def tapChunk (t : Fin cfg0.N) (d s : ℕ) (hs : s + 512 ≤ 6144) : FVec Ideal S256x512 .f32 := fun j =>
  tapm m c d (row t (j 0)) ⟨s + (j 1).val, by have := (j 1).isLt; simp at this; omega⟩

/-- A read of the halo buffer after a chunk's own store, given what lay under it. -/
theorem read_halo (t : Fin cfg0.N) (d o s : ℕ) (hod : o + d = 8) (hs : s + 512 ≤ 6144)
    (v : View sig .tc .vmem S264x6144 .f32) (f : v.ty.Contents (Elt Ideal)) (L R : List (View.Piece (Elt Ideal) S264x6144 .f32))
    (inb : ∀ a, (![8, s] : Fin 2 → ℕ) a + (![256, 512] : Fin 2 → ℕ) a ≤ S264x6144.size a)
    (pay : FVec Ideal S256x512 .f32) (hL : L.filter (meets s) = ⟨Rect.unit (s := S264x6144) ![8, s] ![256, 512] inb, pay⟩ :: R)
    (hp : pay = upChunk m c t s hs) (y : S264x6144.Idx) (i : Fin 256) (k : Fin 512) (hy0 : (y 0).val = o + i.val) (hy1 : (y 1).val = s + k.val)
    (hR : o + i.val < 8 → v.read (Elt Ideal) (v.writes (Elt Ideal) f R) y = tapm m c d (row t i) ⟨s + k.val, by omega⟩) :
    v.read (Elt Ideal) (v.writes (Elt Ideal) f L) y = tapm m c d (row t i) ⟨s + k.val, by omega⟩ := by
  rw [read_filter v f s y (by omega) (by omega) L, hL]
  by_cases h8 : o + i.val < 8
  · rw [View.read_writes_cons_unit_of_not_mem v f inb pay R y rfl 0 (.inl (by rw [hy0]; exact h8))]
    exact hR h8
  · rw [View.read_writes_cons_unit_of_mem v f inb pay R y (ix2 (⟨o + i.val - 8, by omega⟩ : Fin 256) k) rfl
      (Fin.forall_fin_two.mpr ⟨by rw [hy0]; show o + i.val = 8 + (o + i.val - 8); omega, by rw [hy1]; rfl⟩), hp]
    have ht := row t i
    simp only [upChunk, tapm, tap, upm]
    rw [if_neg (by simp only [row]; omega)]
    exact congrArg₂ (up _ _) (Fin.ext (by show t.val * 256 + (o + i.val - 8) = t.val * 256 + i.val - d; omega)) rfl

/-- In a tile that does not start a sequence: a load of the halo buffer `d` rows back, after the chunk's own store, over the rows
    kept from the tile before. -/
theorem load_kept (t : Fin cfg0.N) (h : ¬ t.val % 8 = 0) (d o s : ℕ) (hod : o + d = 8) (hd : d ≤ 2) (hs : s + 512 ≤ 6144)
    (S : FVec Ideal S264x6144 .f32)
    (hS : ∀ (r : Fin 264) (l : Fin 6144) (hr : r.val < 8), S (ix2 r l)
      = upm m c ⟨t.val * 256 + r.val - 8, by have := lt_of_lt_of_eq t.isLt N_0; omega⟩ l)
    (hw : (Memref.whole cc0_scratch0).IsWhole) (L : List (View.Piece (Elt Ideal) S264x6144 .f32))
    (inb : ∀ a, (![8, s] : Fin 2 → ℕ) a + (![256, 512] : Fin 2 → ℕ) a ≤ S264x6144.size a)
    (inb' : ∀ a, (![o, s] : Fin 2 → ℕ) a + (![256, 512] : Fin 2 → ℕ) a ≤ S264x6144.size a)
    (hL : ∃ pay, L.filter (meets s) = [⟨Rect.unit (s := S264x6144) ![8, s] ![256, 512] inb, pay⟩] ∧ pay = upChunk m c t s hs) :
    View.ld (View.read (Elt Ideal) (View.whole cc0_scratch0) ((View.whole cc0_scratch0).writes (Elt Ideal) (hw.unread S) L))
      (Rect.unit (s := S264x6144) ![o, s] ![256, 512] inb') = tapChunk m c t d s hs := by
  obtain ⟨pay, hL, hp⟩ := hL
  funext j
  refine read_halo m c t d o s hod hs (View.whole cc0_scratch0) _ L [] inb pay hL hp _ (j 0) (j 1) ?_ ?_ fun hlt => ?_
  · show o + 1 * (j 0).val = _; omega
  · show s + 1 * (j 1).val = _; omega
  · have hj : (j 0).val < 256 := (j 0).isLt
    rw [View.writes_nil, read_unread_whole]
    have hj1 : (j 1).val < 512 := (j 1).isLt
    refine (congrArg S (?_ : _ = ix2 (⟨o + (j 0).val, by omega⟩ : Fin 264) (⟨s + (j 1).val, by omega⟩ : Fin 6144))).trans
      ((hS _ _ hlt).trans ?_)
    · funext a
      refine Fin.ext ?_
      revert a
      exact Fin.forall_fin_two.mpr ⟨by show o + 1 * (j 0).val = o + (j 0).val; omega, by show s + 1 * (j 1).val = s + (j 1).val; omega⟩
    · simp only [tapm, tap, upm]
      rw [if_neg (by simp only [row]; omega)]
      exact congrArg₂ (up _ _) (Fin.ext (by simp only [row]; omega)) rfl

/-- In a tile that starts a sequence the halo rows are zero. -/
theorem load_first (t : Fin cfg0.N) (h : t.val % 8 = 0) (d o s : ℕ) (hod : o + d = 8) (hd : d ≤ 2) (hs : s + 512 ≤ 6144)
    (L : List (View.Piece (Elt Ideal) S264x6144 .f32))
    (inb : ∀ a, (![8, s] : Fin 2 → ℕ) a + (![256, 512] : Fin 2 → ℕ) a ≤ S264x6144.size a)
    (inb0 : ∀ a, (![0, 0] : Fin 2 → ℕ) a + (![8, 6144] : Fin 2 → ℕ) a ≤ S264x6144.size a)
    (inb' : ∀ a, (![o, s] : Fin 2 → ℕ) a + (![256, 512] : Fin 2 → ℕ) a ≤ S264x6144.size a)
    (hL : ∃ pay, L.filter (meets s) = [⟨Rect.unit (s := S264x6144) ![8, s] ![256, 512] inb, pay⟩,
      ⟨Rect.unit (s := S264x6144) ![0, 0] ![8, 6144] inb0, k0_pay2 (F := Ideal)⟩] ∧ pay = upChunk m c t s hs) :
    (View.whole cc0_scratch0).readCov L (Rect.unit (s := S264x6144) ![o, s] ![256, 512] inb').toLoadRect = tapChunk m c t d s hs := by
  obtain ⟨pay, hL, hp⟩ := hL
  funext j
  refine read_halo m c t d o s hod hs (View.whole cc0_scratch0) _ L _ inb pay hL hp _ (j 0) (j 1) ?_ ?_ fun hlt => ?_
  · show o + 1 * (j 0).val = _; omega
  · show s + 1 * (j 1).val = _; omega
  · have hj : (j 0).val < 256 := (j 0).isLt
    have hj1 : (j 1).val < 512 := (j 1).isLt
    rw [View.read_writes_cons_unit_of_mem _ _ inb0 _ [] _ (ix2 (⟨o + (j 0).val, hlt⟩ : Fin 8) (⟨s + (j 1).val, by omega⟩ : Fin 6144)) rfl
      (Fin.forall_fin_two.mpr ⟨by show o + 1 * (j 0).val = 0 + (o + (j 0).val); omega, by show s + 1 * (j 1).val = 0 + (s + (j 1).val); omega⟩)]
    simp only [tapm, tap]
    rw [if_pos (by simp only [row]; omega)]
    pointwise [k0_pay2]

/-- The latest row back is never under the chunk's own store. -/
theorem load_own (t : Fin cfg0.N) (s : ℕ) (hs : s + 512 ≤ 6144) (L : List (View.Piece (Elt Ideal) S264x6144 .f32))
    (inb : ∀ a, (![8, s] : Fin 2 → ℕ) a + (![256, 512] : Fin 2 → ℕ) a ≤ S264x6144.size a)
    (inb' : ∀ a, (![8, s] : Fin 2 → ℕ) a + (![256, 512] : Fin 2 → ℕ) a ≤ S264x6144.size a)
    (hL : ∃ pay R, L.filter (meets s) = ⟨Rect.unit (s := S264x6144) ![8, s] ![256, 512] inb, pay⟩ :: R ∧ pay = upChunk m c t s hs) :
    (View.whole cc0_scratch0).readCov L (Rect.unit (s := S264x6144) ![8, s] ![256, 512] inb').toLoadRect = tapChunk m c t 0 s hs := by
  obtain ⟨pay, R, hL, hp⟩ := hL
  funext j
  refine read_halo m c t 0 8 s rfl hs (View.whole cc0_scratch0) _ L R inb pay hL hp _ (j 0) (j 1) ?_ ?_ fun hlt => by omega
  · show 8 + 1 * (j 0).val = _; omega
  · show s + 1 * (j 1).val = _; omega

/-! The chunk stores and the rows kept at the end of a tile. -/

theorem up_direct (t : Fin cfg0.N) (s : ℕ) (hs : s + 512 ≤ 6144)
    (inb : ∀ a, (![0, s] : Fin 2 → ℕ) a + (![1024, 512] : Fin 2 → ℕ) a ≤ S1024x6144.size a) :
    k0_pay5 (iblk m c 0 t) (View.ld (iblk m c 1 t) (Rect.unit (s := S1024x6144) ![0, s] ![1024, 512] inb)) = upChunk m c t s hs := by
  funext j; idx_vars j
  rw [blk0, blk1]
  open_payloads
  pointwise [upChunk, upm, up]

/-- The last rows of a chunk of the up projection. -/
def tailChunk (t : Fin cfg0.N) (s : ℕ) (hs : s + 512 ≤ 6144) : FVec Ideal S8x512 .f32 := fun j =>
  upm m c (row t ⟨248 + (j 0).val, by have := (j 0).isLt; simp at this; omega⟩) ⟨s + (j 1).val, by have := (j 1).isLt; simp at this; omega⟩

theorem canon_tail (t : Fin cfg0.N) (s : ℕ) (hs : s + 512 ≤ 6144) (L : List (View.Piece (Elt Ideal) S264x6144 .f32))
    (inb : ∀ a, (![0, s] : Fin 2 → ℕ) a + (![8, 512] : Fin 2 → ℕ) a ≤ S264x6144.size a)
    (hL : ∃ pay R, L.filter (meets s) = ⟨Rect.unit (s := S264x6144) ![0, s] ![8, 512] inb, pay⟩ :: R ∧ pay = tailChunk m c t s hs)
    (r : Fin 264) (l : Fin 6144) (hr : r.val < 8) (h1 : s ≤ l.val) (h2 : l.val < s + 512) :
    View.canon L (ix2 r l) = upm m c (row t ⟨248 + r.val, by omega⟩) l := by
  obtain ⟨pay, R, hL, hp⟩ := hL
  rw [← View.read_writes_junk_eq_canon (View.whole cc0_scratch0), read_filter _ _ s _ h1 h2 L, hL,
    View.read_writes_cons_unit_of_mem _ _ inb pay R (ix2 r l) (ix2 (⟨r.val, hr⟩ : Fin 8) (⟨l.val - s, by omega⟩ : Fin 512)) rfl
      (Fin.forall_fin_two.mpr ⟨by show r.val = 0 + r.val; omega, by show l.val = s + (l.val - s); omega⟩), hp]
  exact congrArg (upm m c _) (Fin.ext (by show s + (l.val - s) = _; omega))

theorem tail (t : Fin cfg0.N) (r : Fin 264) (l : Fin 6144) (hr : r.val < 8) : (outsAt0 m c t.val t.isLt).2.2.2 (ix2 r l)
    = upm m c (row t ⟨248 + r.val, by omega⟩) l := by
  have hl : (0 ≤ l.val ∧ l.val < 0 + 512)
      ∨ (512 ≤ l.val ∧ l.val < 512 + 512)
      ∨ (1024 ≤ l.val ∧ l.val < 1024 + 512)
      ∨ (1536 ≤ l.val ∧ l.val < 1536 + 512)
      ∨ (2048 ≤ l.val ∧ l.val < 2048 + 512)
      ∨ (2560 ≤ l.val ∧ l.val < 2560 + 512)
      ∨ (3072 ≤ l.val ∧ l.val < 3072 + 512)
      ∨ (3584 ≤ l.val ∧ l.val < 3584 + 512)
      ∨ (4096 ≤ l.val ∧ l.val < 4096 + 512)
      ∨ (4608 ≤ l.val ∧ l.val < 4608 + 512)
      ∨ (5120 ≤ l.val ∧ l.val < 5120 + 512)
      ∨ (5632 ≤ l.val ∧ l.val < 5632 + 512) := by
    have := l.isLt; omega
  by_cases h : t.val % 8 = 0
  on_goal 1 => rw [outsAt0_A m c t h]
  on_goal 2 => rw [outsAt0_B m c t h]
  all_goals
    frame_out
    rcases hl with ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩
    on_goal 1 => refine canon_tail m c t 0 (by omega) _ inb_S264x6144_S8x512_0_0 ⟨_, _, rfl, ?_⟩ r l hr h1 h2
    on_goal 2 => refine canon_tail m c t 512 (by omega) _ inb_S264x6144_S8x512_0_512 ⟨_, _, rfl, ?_⟩ r l hr h1 h2
    on_goal 3 => refine canon_tail m c t 1024 (by omega) _ inb_S264x6144_S8x512_0_1024 ⟨_, _, rfl, ?_⟩ r l hr h1 h2
    on_goal 4 => refine canon_tail m c t 1536 (by omega) _ inb_S264x6144_S8x512_0_1536 ⟨_, _, rfl, ?_⟩ r l hr h1 h2
    on_goal 5 => refine canon_tail m c t 2048 (by omega) _ inb_S264x6144_S8x512_0_2048 ⟨_, _, rfl, ?_⟩ r l hr h1 h2
    on_goal 6 => refine canon_tail m c t 2560 (by omega) _ inb_S264x6144_S8x512_0_2560 ⟨_, _, rfl, ?_⟩ r l hr h1 h2
    on_goal 7 => refine canon_tail m c t 3072 (by omega) _ inb_S264x6144_S8x512_0_3072 ⟨_, _, rfl, ?_⟩ r l hr h1 h2
    on_goal 8 => refine canon_tail m c t 3584 (by omega) _ inb_S264x6144_S8x512_0_3584 ⟨_, _, rfl, ?_⟩ r l hr h1 h2
    on_goal 9 => refine canon_tail m c t 4096 (by omega) _ inb_S264x6144_S8x512_0_4096 ⟨_, _, rfl, ?_⟩ r l hr h1 h2
    on_goal 10 => refine canon_tail m c t 4608 (by omega) _ inb_S264x6144_S8x512_0_4608 ⟨_, _, rfl, ?_⟩ r l hr h1 h2
    on_goal 11 => refine canon_tail m c t 5120 (by omega) _ inb_S264x6144_S8x512_0_5120 ⟨_, _, rfl, ?_⟩ r l hr h1 h2
    on_goal 12 => refine canon_tail m c t 5632 (by omega) _ inb_S264x6144_S8x512_0_5632 ⟨_, _, rfl, ?_⟩ r l hr h1 h2
    all_goals
      funext j; idx_vars j
      rw [blk0, blk1]
      open_payloads
      pointwise [tailChunk, upm, up]

/-- What the tile before kept, in this tile's rows. -/
theorem kept (t : Fin cfg0.N) (h : ¬ t.val % 8 = 0) (r : Fin 264) (l : Fin 6144) (hr : r.val < 8) :
    (outsAt0 m c (t.val - 1) (by have := t.isLt; omega)).2.2.2 (ix2 r l)
      = upm m c ⟨t.val * 256 + r.val - 8, by have := lt_of_lt_of_eq t.isLt N_0; omega⟩ l :=
  (tail m c ⟨t.val - 1, by have := t.isLt; omega⟩ r l hr).trans
    (congrArg (fun i => upm m c i l) (Fin.ext (by simp only [row]; omega)))

/-- The store of one chunk. -/
theorem up_stored (t : Fin cfg0.N) (s : ℕ) (hs : s + 512 ≤ 6144)
    (inb : ∀ a, (![0, s] : Fin 2 → ℕ) a + (![1024, 512] : Fin 2 → ℕ) a ≤ S1024x6144.size a) :
    k0_pay9 (iblk m c 0 t) (View.ld (iblk m c 1 t) (Rect.unit (s := S1024x6144) ![0, s] ![1024, 512] inb)) = upChunk m c t s hs := by
  funext j; idx_vars j
  rw [blk0, blk1]
  open_payloads
  pointwise [upChunk, upm, up]

theorem final7 : (dats m 0 c).arrAt 7 (cfgs 0).N = fun j : S8192x6144.Idx => upm m c (j 0) (j 1) := by
  refine (dats m 0 c).arrAt_eq_of_covers 7 _ (by decide +kernel) fun t hf y => ?_
  blk_simp
  rw [after0_7]
  have hy : (y : S256x6144.Idx) = y := rfl
  idx_vars y
  refine Eq.trans (b := upm m c (row t y0) y1) ?_ (congrArg₂ (upm m c) (Fin.ext (by blk_simp [idx t, row])) (Fin.ext (by blk_simp [idx t])))
  by_cases h : t.val % 8 = 0
  on_goal 1 => rw [outsAt0_A m c t h]
  on_goal 2 => rw [outsAt0_B m c t h]
  all_goals
    frame_out
    canon_tiles x h
    all_goals
      have h1' : y1.val = _ := h1
      refine Eq.trans ?_ (congrArg₂ (upm m c) (congrArg (row t) (Fin.ext h0.symm : (⟨(x 0).val, x0_lt⟩ : Fin 256) = y0))
        (Fin.ext h1'.symm : (⟨_, lt_of_eq_of_lt h1'.symm y1.isLt⟩ : Fin 6144) = y1))
      rw [blk0, blk1]
      open_payloads
      pointwise [upm, up]

end Cert.FfnFwdProof
end
-- ==== Proof.FfnZ.lean ====
module

public import proofs.«01_k».proof.Defs
public import proofs.«01_k».proof.Proof.FfnUp
public import proofs.«01_k».proof.Proof.Gen.FfnFwd
public import proofs.«01_k».proof.Proof.Gen.FfnFwdIdeal.Value
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.FfnFwdProof

open Idealize.ShloMosaic Idealize.ShloMosaic.TcCoe Idealize.SL.Sem
open Cert.FfnFwdIdeal Cert.FfnFwdIdeal.Gen

variable (m : (ℓ : Loc nD τ sig) → Buf (Elt Ideal) ℓ) (c : Dev nD)

/-- The width-three convolution along the sequence, with its bias. -/
def conv (X : FVec Ideal S8192x1024 .f32) (W : FVec Ideal S1024x6144 .f32) (w : FVec Ideal S3x6144 .f32) (b : FVec Ideal S4x6144 .f32)
    (i : Fin 8192) (l : Fin 6144) : EReal :=
  b (ix2 3 l) + w (ix2 0 l) * tap X W 2 i l + w (ix2 1 l) * tap X W 1 i l + w (ix2 2 l) * tap X W 0 i l

/-- The activation. -/
def gelu (h : EReal) : EReal :=
  Ideal.ofBits .f32 0x3F000000#32 * h
    * (1 + Ideal.tanh (Ideal.ofBits .f32 0x3F4C422A#32 * (h + Ideal.ofBits .f32 0x3D372713#32 * (h * h * h))))

/-- One term of the down projection. -/
def term (X : FVec Ideal S8192x1024 .f32) (W : FVec Ideal S1024x6144 .f32) (w : FVec Ideal S3x6144 .f32) (b : FVec Ideal S4x6144 .f32)
    (D : FVec Ideal S3072x1024 .f32) (i : Fin 8192) (j : Fin 1024) (f : Fin 3072) : EReal :=
  gelu (conv X W w b i ⟨f.val, by omega⟩) * conv X W w b i ⟨3072 + f.val, by omega⟩ * D (ix2 f j)

/-- The layer's value before its normalisation. -/
def z (X : FVec Ideal S8192x1024 .f32) (W : FVec Ideal S1024x6144 .f32) (w : FVec Ideal S3x6144 .f32) (b : FVec Ideal S4x6144 .f32)
    (D : FVec Ideal S3072x1024 .f32) (i : Fin 8192) (j : Fin 1024) : EReal :=
  Ideal.ofBits .f32 0x3FD744FD#32 * X (ix2 i j) + ∑ f : Fin 3072, term X W w b D i j f

/-- The same of the kernel's own arguments. -/
def zm (i : Fin 8192) (j : Fin 1024) : EReal :=
  z (m ((c : Thread nD τ).loc main_arg0)) (m ((c : Thread nD τ).loc main_arg1)) (m ((c : Thread nD τ).loc main_arg2))
    (m ((c : Thread nD τ).loc main_arg3)) (m ((c : Thread nD τ).loc main_arg4)) i j

/-- The kernel adds the down projection to its start by six parts. -/
theorem sum_parts (a : EReal) (F : Fin 3072 → EReal) : a + ∑ f, F f = a + (∑ k : Fin 512, F ⟨k.val, by omega⟩)
    + (∑ k : Fin 512, F ⟨512 + k.val, by omega⟩) + (∑ k : Fin 512, F ⟨1024 + k.val, by omega⟩) + (∑ k : Fin 512, F ⟨1536 + k.val, by omega⟩)
    + (∑ k : Fin 512, F ⟨2048 + k.val, by omega⟩) + (∑ k : Fin 512, F ⟨2560 + k.val, by omega⟩) := by
  rw [Fin.sum_univ_add (a := 2560) (b := 512) F, Fin.sum_univ_add (a := 2048) (b := 512), Fin.sum_univ_add (a := 1536) (b := 512),
    Fin.sum_univ_add (a := 1024) (b := 512), Fin.sum_univ_add (a := 512) (b := 512)]
  simp only [← add_assoc]
  rfl

set_option maxHeartbeats 1600000 in
theorem z_block (t : Fin cfg0.N) : (outsAt0 m c t.val t.isLt).2.1 = fun j : S256x1024.Idx => zm m c (row t (j 0)) (j 1) := by
  have hz : (fun j : S256x1024.Idx => zm m c (row t (j 0)) (j 1)) = fun j : S256x1024.Idx => _ :=
    funext fun j => sum_parts _ _
  rw [hz]
  clear hz
  by_cases h : t.val % 8 = 0
  · rw [outsAt0_A m c t h]
    frame_out
    rw [load_first m c t h 2 6 0 rfl (by omega) (by omega) _ inb_S264x6144_S256x512_8_0 inb_S264x6144_S8x6144_0_0 _ ?_]
    rw [load_first m c t h 1 7 0 rfl (by omega) (by omega) _ inb_S264x6144_S256x512_8_0 inb_S264x6144_S8x6144_0_0 _ ?_]
    rw [load_first m c t h 0 8 0 rfl (by omega) (by omega) _ inb_S264x6144_S256x512_8_0 inb_S264x6144_S8x6144_0_0 _ ?_]
    rw [load_first m c t h 2 6 512 rfl (by omega) (by omega) _ inb_S264x6144_S256x512_8_512 inb_S264x6144_S8x6144_0_0 _ ?_]
    rw [load_first m c t h 1 7 512 rfl (by omega) (by omega) _ inb_S264x6144_S256x512_8_512 inb_S264x6144_S8x6144_0_0 _ ?_]
    rw [load_first m c t h 0 8 512 rfl (by omega) (by omega) _ inb_S264x6144_S256x512_8_512 inb_S264x6144_S8x6144_0_0 _ ?_]
    rw [load_first m c t h 2 6 1024 rfl (by omega) (by omega) _ inb_S264x6144_S256x512_8_1024 inb_S264x6144_S8x6144_0_0 _ ?_]
    rw [load_first m c t h 1 7 1024 rfl (by omega) (by omega) _ inb_S264x6144_S256x512_8_1024 inb_S264x6144_S8x6144_0_0 _ ?_]
    rw [load_first m c t h 0 8 1024 rfl (by omega) (by omega) _ inb_S264x6144_S256x512_8_1024 inb_S264x6144_S8x6144_0_0 _ ?_]
    rw [load_first m c t h 2 6 1536 rfl (by omega) (by omega) _ inb_S264x6144_S256x512_8_1536 inb_S264x6144_S8x6144_0_0 _ ?_]
    rw [load_first m c t h 1 7 1536 rfl (by omega) (by omega) _ inb_S264x6144_S256x512_8_1536 inb_S264x6144_S8x6144_0_0 _ ?_]
    rw [load_first m c t h 0 8 1536 rfl (by omega) (by omega) _ inb_S264x6144_S256x512_8_1536 inb_S264x6144_S8x6144_0_0 _ ?_]
    rw [load_first m c t h 2 6 2048 rfl (by omega) (by omega) _ inb_S264x6144_S256x512_8_2048 inb_S264x6144_S8x6144_0_0 _ ?_]
    rw [load_first m c t h 1 7 2048 rfl (by omega) (by omega) _ inb_S264x6144_S256x512_8_2048 inb_S264x6144_S8x6144_0_0 _ ?_]
    rw [load_first m c t h 0 8 2048 rfl (by omega) (by omega) _ inb_S264x6144_S256x512_8_2048 inb_S264x6144_S8x6144_0_0 _ ?_]
    rw [load_first m c t h 2 6 2560 rfl (by omega) (by omega) _ inb_S264x6144_S256x512_8_2560 inb_S264x6144_S8x6144_0_0 _ ?_]
    rw [load_first m c t h 1 7 2560 rfl (by omega) (by omega) _ inb_S264x6144_S256x512_8_2560 inb_S264x6144_S8x6144_0_0 _ ?_]
    rw [load_first m c t h 0 8 2560 rfl (by omega) (by omega) _ inb_S264x6144_S256x512_8_2560 inb_S264x6144_S8x6144_0_0 _ ?_]
    rw [load_first m c t h 2 6 3072 rfl (by omega) (by omega) _ inb_S264x6144_S256x512_8_3072 inb_S264x6144_S8x6144_0_0 _ ?_]
    rw [load_first m c t h 1 7 3072 rfl (by omega) (by omega) _ inb_S264x6144_S256x512_8_3072 inb_S264x6144_S8x6144_0_0 _ ?_]
    rw [load_first m c t h 0 8 3072 rfl (by omega) (by omega) _ inb_S264x6144_S256x512_8_3072 inb_S264x6144_S8x6144_0_0 _ ?_]
    rw [load_first m c t h 2 6 3584 rfl (by omega) (by omega) _ inb_S264x6144_S256x512_8_3584 inb_S264x6144_S8x6144_0_0 _ ?_]
    rw [load_first m c t h 1 7 3584 rfl (by omega) (by omega) _ inb_S264x6144_S256x512_8_3584 inb_S264x6144_S8x6144_0_0 _ ?_]
    rw [load_first m c t h 0 8 3584 rfl (by omega) (by omega) _ inb_S264x6144_S256x512_8_3584 inb_S264x6144_S8x6144_0_0 _ ?_]
    rw [load_first m c t h 2 6 4096 rfl (by omega) (by omega) _ inb_S264x6144_S256x512_8_4096 inb_S264x6144_S8x6144_0_0 _ ?_]
    rw [load_first m c t h 1 7 4096 rfl (by omega) (by omega) _ inb_S264x6144_S256x512_8_4096 inb_S264x6144_S8x6144_0_0 _ ?_]
    rw [load_first m c t h 0 8 4096 rfl (by omega) (by omega) _ inb_S264x6144_S256x512_8_4096 inb_S264x6144_S8x6144_0_0 _ ?_]
    rw [load_first m c t h 2 6 4608 rfl (by omega) (by omega) _ inb_S264x6144_S256x512_8_4608 inb_S264x6144_S8x6144_0_0 _ ?_]
    rw [load_first m c t h 1 7 4608 rfl (by omega) (by omega) _ inb_S264x6144_S256x512_8_4608 inb_S264x6144_S8x6144_0_0 _ ?_]
    rw [load_first m c t h 0 8 4608 rfl (by omega) (by omega) _ inb_S264x6144_S256x512_8_4608 inb_S264x6144_S8x6144_0_0 _ ?_]
    rw [load_first m c t h 2 6 5120 rfl (by omega) (by omega) _ inb_S264x6144_S256x512_8_5120 inb_S264x6144_S8x6144_0_0 _ ?_]
    rw [load_first m c t h 1 7 5120 rfl (by omega) (by omega) _ inb_S264x6144_S256x512_8_5120 inb_S264x6144_S8x6144_0_0 _ ?_]
    rw [load_first m c t h 0 8 5120 rfl (by omega) (by omega) _ inb_S264x6144_S256x512_8_5120 inb_S264x6144_S8x6144_0_0 _ ?_]
    rw [load_first m c t h 2 6 5632 rfl (by omega) (by omega) _ inb_S264x6144_S256x512_8_5632 inb_S264x6144_S8x6144_0_0 _ ?_]
    rw [load_first m c t h 1 7 5632 rfl (by omega) (by omega) _ inb_S264x6144_S256x512_8_5632 inb_S264x6144_S8x6144_0_0 _ ?_]
    rw [load_first m c t h 0 8 5632 rfl (by omega) (by omega) _ inb_S264x6144_S256x512_8_5632 inb_S264x6144_S8x6144_0_0 _ ?_]
    · funext j; idx_vars j
      rw [blk0, blk2, blk3, blk4]
      open_payloads
      pointwise [tapChunk, tapm, term, gelu, conv, Nat.zero_add]
      simp only [← Nat.add_assoc, Nat.reduceAdd]
    all_goals exact ⟨_, rfl, up_stored m c t _ (by omega) _⟩
  · rw [outsAt0_B m c t h]
    frame_out
    rw [load_kept m c t h 2 6 0 rfl (by omega) (by omega) _ (kept m c t h) _ _ inb_S264x6144_S256x512_8_0 _ ?_]
    rw [load_kept m c t h 1 7 0 rfl (by omega) (by omega) _ (kept m c t h) _ _ inb_S264x6144_S256x512_8_0 _ ?_]
    rw [load_own m c t 0 (by omega) _ inb_S264x6144_S256x512_8_0 _ ?_]
    rw [load_kept m c t h 2 6 512 rfl (by omega) (by omega) _ (kept m c t h) _ _ inb_S264x6144_S256x512_8_512 _ ?_]
    rw [load_kept m c t h 1 7 512 rfl (by omega) (by omega) _ (kept m c t h) _ _ inb_S264x6144_S256x512_8_512 _ ?_]
    rw [load_own m c t 512 (by omega) _ inb_S264x6144_S256x512_8_512 _ ?_]
    rw [load_kept m c t h 2 6 1024 rfl (by omega) (by omega) _ (kept m c t h) _ _ inb_S264x6144_S256x512_8_1024 _ ?_]
    rw [load_kept m c t h 1 7 1024 rfl (by omega) (by omega) _ (kept m c t h) _ _ inb_S264x6144_S256x512_8_1024 _ ?_]
    rw [load_own m c t 1024 (by omega) _ inb_S264x6144_S256x512_8_1024 _ ?_]
    rw [load_kept m c t h 2 6 1536 rfl (by omega) (by omega) _ (kept m c t h) _ _ inb_S264x6144_S256x512_8_1536 _ ?_]
    rw [load_kept m c t h 1 7 1536 rfl (by omega) (by omega) _ (kept m c t h) _ _ inb_S264x6144_S256x512_8_1536 _ ?_]
    rw [load_own m c t 1536 (by omega) _ inb_S264x6144_S256x512_8_1536 _ ?_]
    rw [load_kept m c t h 2 6 2048 rfl (by omega) (by omega) _ (kept m c t h) _ _ inb_S264x6144_S256x512_8_2048 _ ?_]
    rw [load_kept m c t h 1 7 2048 rfl (by omega) (by omega) _ (kept m c t h) _ _ inb_S264x6144_S256x512_8_2048 _ ?_]
    rw [load_own m c t 2048 (by omega) _ inb_S264x6144_S256x512_8_2048 _ ?_]
    rw [load_kept m c t h 2 6 2560 rfl (by omega) (by omega) _ (kept m c t h) _ _ inb_S264x6144_S256x512_8_2560 _ ?_]
    rw [load_kept m c t h 1 7 2560 rfl (by omega) (by omega) _ (kept m c t h) _ _ inb_S264x6144_S256x512_8_2560 _ ?_]
    rw [load_own m c t 2560 (by omega) _ inb_S264x6144_S256x512_8_2560 _ ?_]
    rw [load_kept m c t h 2 6 3072 rfl (by omega) (by omega) _ (kept m c t h) _ _ inb_S264x6144_S256x512_8_3072 _ ?_]
    rw [load_kept m c t h 1 7 3072 rfl (by omega) (by omega) _ (kept m c t h) _ _ inb_S264x6144_S256x512_8_3072 _ ?_]
    rw [load_own m c t 3072 (by omega) _ inb_S264x6144_S256x512_8_3072 _ ?_]
    rw [load_kept m c t h 2 6 3584 rfl (by omega) (by omega) _ (kept m c t h) _ _ inb_S264x6144_S256x512_8_3584 _ ?_]
    rw [load_kept m c t h 1 7 3584 rfl (by omega) (by omega) _ (kept m c t h) _ _ inb_S264x6144_S256x512_8_3584 _ ?_]
    rw [load_own m c t 3584 (by omega) _ inb_S264x6144_S256x512_8_3584 _ ?_]
    rw [load_kept m c t h 2 6 4096 rfl (by omega) (by omega) _ (kept m c t h) _ _ inb_S264x6144_S256x512_8_4096 _ ?_]
    rw [load_kept m c t h 1 7 4096 rfl (by omega) (by omega) _ (kept m c t h) _ _ inb_S264x6144_S256x512_8_4096 _ ?_]
    rw [load_own m c t 4096 (by omega) _ inb_S264x6144_S256x512_8_4096 _ ?_]
    rw [load_kept m c t h 2 6 4608 rfl (by omega) (by omega) _ (kept m c t h) _ _ inb_S264x6144_S256x512_8_4608 _ ?_]
    rw [load_kept m c t h 1 7 4608 rfl (by omega) (by omega) _ (kept m c t h) _ _ inb_S264x6144_S256x512_8_4608 _ ?_]
    rw [load_own m c t 4608 (by omega) _ inb_S264x6144_S256x512_8_4608 _ ?_]
    rw [load_kept m c t h 2 6 5120 rfl (by omega) (by omega) _ (kept m c t h) _ _ inb_S264x6144_S256x512_8_5120 _ ?_]
    rw [load_kept m c t h 1 7 5120 rfl (by omega) (by omega) _ (kept m c t h) _ _ inb_S264x6144_S256x512_8_5120 _ ?_]
    rw [load_own m c t 5120 (by omega) _ inb_S264x6144_S256x512_8_5120 _ ?_]
    rw [load_kept m c t h 2 6 5632 rfl (by omega) (by omega) _ (kept m c t h) _ _ inb_S264x6144_S256x512_8_5632 _ ?_]
    rw [load_kept m c t h 1 7 5632 rfl (by omega) (by omega) _ (kept m c t h) _ _ inb_S264x6144_S256x512_8_5632 _ ?_]
    rw [load_own m c t 5632 (by omega) _ inb_S264x6144_S256x512_8_5632 _ ?_]
    rw [load_kept m c t h 2 6 1536 rfl (by omega) (by omega) _ (kept m c t h) _ _ inb_S264x6144_S256x512_8_1536 _ ?_]
    rw [load_kept m c t h 1 7 1536 rfl (by omega) (by omega) _ (kept m c t h) _ _ inb_S264x6144_S256x512_8_1536 _ ?_]

    · funext j; idx_vars j
      rw [blk0, blk2, blk3, blk4]
      open_payloads
      pointwise [tapChunk, tapm, term, gelu, conv, Nat.zero_add]
      simp only [← Nat.add_assoc, Nat.reduceAdd]
    all_goals first | exact ⟨_, rfl, up_stored m c t _ (by omega) _⟩ | exact ⟨_, _, rfl, up_stored m c t _ (by omega) _⟩

end Cert.FfnFwdProof
end
-- ==== Proof.FfnFwd.lean ====
module

public import proofs.«01_k».proof.Defs
public import proofs.«01_k».proof.Proof.FfnUp
public import proofs.«01_k».proof.Proof.FfnZ
public import proofs.«01_k».proof.Proof.Gen.FfnFwd
public import proofs.«01_k».proof.Proof.Gen.FfnFwdIdeal.Value
public import proofs.«01_k».proof.Proof.Gen.FfnFwdRefIdeal.Run
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.FfnFwdProof

open Idealize.ShloMosaic Idealize.ShloMosaic.TcCoe Idealize.SL.Sem
open Cert.FfnFwdIdeal Cert.FfnFwdIdeal.Gen

/-- The reference runs from every memory, leaves its arguments as launched, and has no semaphores. -/
theorem frame_reference : @quiescent_FfnFwdRefIdeal Cert.FfnFwdRefIdeal.Gen.facts := fun m ρ _ =>
  (θ_run Cert.FfnFwdRefIdeal.defs _ _).mono
    (fun r h => ⟨fun c => (h c).2.2.2, Idealize.ShloMosaic.sem_eq_zero_of_no_sems (by decide) r.2⟩)
    (Cert.FfnFwdRefIdeal.Value.run (F := Ideal) m ρ)

/-! The layer norm of one tile. -/

/-- A tile less its rows' means. -/
def centred (Z : FVec Ideal S256x1024 .f32) : FVec Ideal S256x1024 .f32 :=
  subf Z (broadcastTo S256x1024 (divf (shapeCast S256x1 (multiReduction .add [1] S256 Z 0x00000000#32 reduces_S256x1024_S256 (.inl rfl) rfl)
    shapeCasts_S256_S256x1) (broadcast S256x1 (Scalar.ofBits .f32 0x44800000#32))) broadcasts_S256x1_S256x1024)

/-- The tile's normalised value. -/
def normed (Z : FVec Ideal S256x1024 .f32) (g b : FVec Ideal S1x1024 .f32) : FVec Ideal S256x1024 .f32 :=
  k0_pay1 (centred Z) (divf (shapeCast S256x1 (multiReduction .add [1] S256 (mulf (centred Z) (centred Z)) 0x00000000#32 reduces_S256x1024_S256
    (.inl rfl) rfl) shapeCasts_S256_S256x1) (broadcast S256x1 (Scalar.ofBits .f32 0x44800000#32))) k0_pay68 g b

theorem normed_eq (a : FVec Ideal S256x1024 .f32) (b d : FVec Ideal S256x512 .f32) (e : FVec Ideal S512x1024 .bf16) (g h : FVec Ideal S1x1024 .f32) :
    k0_pay1 (k0_pay66 a b d e) (k0_pay67 a b d e) k0_pay68 g h = normed (k0_pay65 a b d e) g h := rfl

variable (m : (ℓ : Loc nD τ sig) → Buf (Elt Ideal) ℓ) (c : Dev nD)

theorem out_block (t : Fin cfg0.N) : (outsAt0 m c t.val t.isLt).2.2.1 = normed ((outsAt0 m c t.val t.isLt).2.1)
    (View.ld (iblk m c 5 t) (Rect.unit (s := S4x1024) ![3, 0] ![1, 1024] inb_S4x1024_S1x1024_3_0))
    (View.ld (iblk m c 6 t) (Rect.unit (s := S4x1024) ![3, 0] ![1, 1024] inb_S4x1024_S1x1024_3_0)) := by
  by_cases h : t.val % 8 = 0
  on_goal 1 => rw [outsAt0_A m c t h]
  on_goal 2 => rw [outsAt0_B m c t h]
  all_goals
    frame_out
    exact normed_eq _ _ _ _ _ _

/-- The layer norm of a row. -/
def norm (Z : Fin 8192 → Fin 1024 → EReal) (g b : FVec Ideal S4x1024 .f32) (i : Fin 8192) (j : Fin 1024) : EReal :=
  (Z i j - Ideal.div (∑ x, Z i x) (Ideal.ofBits .f32 0x44800000#32))
    * Ideal.rsqrt (Ideal.div (∑ x, (Z i x - Ideal.div (∑ x, Z i x) (Ideal.ofBits .f32 0x44800000#32))
      * (Z i x - Ideal.div (∑ x, Z i x) (Ideal.ofBits .f32 0x44800000#32))) (Ideal.ofBits .f32 0x44800000#32) + Ideal.ofBits .f32 0x358637BD#32)
    * g (ix2 3 j) + b (ix2 3 j)

theorem out_value (t : Fin cfg0.N) (j0 : Fin 256) (j1 : Fin 1024) : (outsAt0 m c t.val t.isLt).2.2.1 (ix2 j0 j1)
    = norm (zm m c) (m ((c : Thread nD τ).loc main_arg5)) (m ((c : Thread nD τ).loc main_arg6)) (row t j0) j1 := by
  rw [out_block, z_block, blk5, blk6]
  generalize zm m c = Z
  open_payloads
  pointwise [normed, centred, norm]

theorem final8 : (dats m 0 c).arrAt 8 (cfgs 0).N = fun j : S8192x1024.Idx => zm m c (j 0) (j 1) := by
  refine (dats m 0 c).arrAt_eq_of_covers 8 _ (by decide +kernel) fun t hf y => ?_
  blk_simp
  rw [after0_8]
  refine (congrFun (z_block m c t) y).trans ?_
  exact congrArg₂ (zm m c) (Fin.ext (by blk_simp [idx t, row])) (Fin.ext (by blk_simp [idx t]))

theorem final9 : (dats m 0 c).arrAt 9 (cfgs 0).N = fun j : S8192x1024.Idx =>
    norm (zm m c) (m ((c : Thread nD τ).loc main_arg5)) (m ((c : Thread nD τ).loc main_arg6)) (j 0) (j 1) := by
  refine (dats m 0 c).arrAt_eq_of_covers 9 _ (by decide +kernel) fun t hf y => ?_
  blk_simp
  rw [after0_9]
  idx_vars y
  refine (out_value m c t y0 y1).trans ?_
  exact congrArg₂ (norm _ _ _) (Fin.ext (by blk_simp [idx t, row])) (Fin.ext (by blk_simp [idx t]))

/-! The reference's terms. -/

section
open Cert.FfnFwdRefIdeal.Value
variable (V0 : Valuation Cert.FfnFwdRefIdeal.τ Cert.FfnFwdRefIdeal.sig (Elt Ideal))

/-- The up projection behind two rows of zeros. -/
theorem ref_pad (b : Fin 4) (r : Fin 2050) (l : Fin 6144) : res_main_v4 V0 (ix3 b r l)
    = (if 2 ≤ r.val then up (V0 (Proc.devRef .tc Cert.FfnFwdRefIdeal.main_arg0)) (V0 (Proc.devRef .tc Cert.FfnFwdRefIdeal.main_arg1))
        ⟨b.val * 2048 + (r.val - 2), by omega⟩ l else (0 : EReal)) := by
  have h0 : FloatOps.sitofp (F := Ideal) .f32 0#32 = 0 := by show (((0#32 : BitVec 32).toInt : ℝ) : EReal) = 0; simp
  pointwise [res_main_v4, up, h0]
  by_cases h : 2 ≤ r.val
  · rw [dif_pos ⟨h, by omega⟩, if_pos h]
  · rw [dif_neg (fun h' => h h'.1), if_neg h]

/-- Its slices are the rows back. -/
theorem ref_tap (d : ℕ) (i : Fin 8192) (r : Fin 2050) (l : Fin 6144) (q : Fin 4) (hq : q.val = i.val / 2048)
    (hr : r.val + d = 2 + i.val % 2048) (hd : d ≤ 2) :
    res_main_v4 V0 (ix3 q r l) = tap (V0 (Proc.devRef .tc Cert.FfnFwdRefIdeal.main_arg0)) (V0 (Proc.devRef .tc Cert.FfnFwdRefIdeal.main_arg1)) d i l := by
  refine (ref_pad V0 q r l).trans ?_
  unfold tap
  by_cases h : i.val % 2048 < d
  · rw [if_neg (by omega), if_pos h]
  · rw [if_pos (by omega), if_neg h]
    exact congrArg₂ (up _ _) (Fin.ext (by simp only; omega)) rfl

theorem ref_conv (i : Fin 8192) (l : Fin 6144) : res_main_v30 V0 (ix2 i l)
    = conv (V0 (Proc.devRef .tc Cert.FfnFwdRefIdeal.main_arg0)) (V0 (Proc.devRef .tc Cert.FfnFwdRefIdeal.main_arg1))
        (V0 (Proc.devRef .tc Cert.FfnFwdRefIdeal.main_arg2)) (V0 (Proc.devRef .tc Cert.FfnFwdRefIdeal.main_arg3)) i l := by
  pointwise [res_main_v30]
  rw [ref_tap V0 2 i ⟨i.val % 2048, by omega⟩ l ⟨i.val / 2048, by omega⟩ rfl (by simp only; omega) (by omega),
    ref_tap V0 1 i ⟨1 + i.val % 2048, by omega⟩ l ⟨i.val / 2048, by omega⟩ rfl (by simp only; omega) (by omega),
    ref_tap V0 0 i ⟨2 + i.val % 2048, by omega⟩ l ⟨i.val / 2048, by omega⟩ rfl (by simp only; omega) (by omega)]
  unfold conv
  rw [add_comm]
  simp only [add_assoc]

theorem ref_z (i : Fin 8192) (j : Fin 1024) : res_main_v50 V0 (ix2 i j)
    = z (V0 (Proc.devRef .tc Cert.FfnFwdRefIdeal.main_arg0)) (V0 (Proc.devRef .tc Cert.FfnFwdRefIdeal.main_arg1))
        (V0 (Proc.devRef .tc Cert.FfnFwdRefIdeal.main_arg2)) (V0 (Proc.devRef .tc Cert.FfnFwdRefIdeal.main_arg3))
        (V0 (Proc.devRef .tc Cert.FfnFwdRefIdeal.main_arg4)) i j := by
  pointwise [res_main_v50, res_main_v31]
  simp only [ref_conv]
  refine congrArg _ (Finset.sum_congr rfl fun f _ => ?_)
  unfold term gelu
  rw [mul_left_comm, ← mul_assoc (Ideal.ofBits .f32 0x3F000000#32)]

end

theorem product : @Cert.algebraic_FfnFwdIdeal_FfnFwdRefIdeal Cert.FfnFwdIdeal.Gen.facts Cert.FfnFwdRefIdeal.Gen.facts := by
  intro m g m' g' hpre hagree
  refine ⟨fun c => (dats m 0 c).arrAt 7 cfg0.N, fun c => (dats m 0 c).arrAt 8 cfg0.N, fun c => (dats m 0 c).arrAt 9 cfg0.N, ?_, ?_⟩
  · exact (θ_run _ _ _).mono (fun r h c => h c) (Cert.FfnFwdIdeal.Value.run_blocks m g)
  · refine (θ_run _ _ _).mono (fun r h c => ?_) (Cert.FfnFwdRefIdeal.Value.run m' g')
    obtain ⟨e0, e1, e2, e3, e4, e5, e6⟩ := hagree c
    obtain ⟨h0, h1, h2, hk⟩ := h c
    have hz : ∀ (i : Fin 8192) (j : Fin 1024), Cert.FfnFwdRefIdeal.Value.res_main_v50 (StableHlo.launchContents m' c) (ix2 i j) = zm m c i j := by
      intro i j
      refine (ref_z _ i j).trans ?_
      unfold zm
      rw [← e0, ← e1, ← e2, ← e3, ← e4]
    refine ⟨h0.trans (Eq.trans ?_ (final7 m c).symm), h1.trans (Eq.trans ?_ (final8 m c).symm), h2.trans (Eq.trans ?_ (final9 m c).symm), hk⟩
    · funext j; idx_vars j
      unfold upm up
      rw [← e0, ← e1]
      pointwise
    · funext j; idx_vars j
      exact hz j0 j1
    · funext j; idx_vars j
      rw [← e5, ← e6]
      pointwise [Cert.FfnFwdRefIdeal.Value.res_main_v58, Cert.FfnFwdRefIdeal.Value.res_main_v60, norm]
      simp only [hz]

end Cert.FfnFwdProof
end
-- ==== Proof.MixFwd.lean ====
/-
  The forward merge of the two branches, its output product and the layer's first norm: the kernel adds the product to the
  scaled residual by four groups of 256 columns, and norms each tile of 256 rows; the reference does both over whole arrays.
-/
module

public import proofs.«01_k».proof.Defs
public import proofs.«01_k».proof.Proof.Gen.MixFwd
public import proofs.«01_k».proof.Proof.Gen.MixFwdIdeal.Value
public import proofs.«01_k».proof.Proof.Gen.MixFwdRefIdeal.Run
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.MixFwdProof

open Idealize.ShloMosaic Idealize.ShloMosaic.TcCoe Idealize.SL.Sem
/-- The reference runs from every memory, leaves its arguments as launched, and has no semaphores. -/
theorem frame_reference : @quiescent_MixFwdRefIdeal Cert.MixFwdRefIdeal.Gen.facts := fun m ρ _ =>
  (θ_run Cert.MixFwdRefIdeal.defs _ _).mono
    (fun r h => ⟨fun c => (h c).2.2, Idealize.ShloMosaic.sem_eq_zero_of_no_sems (by decide) r.2⟩)
    (Cert.MixFwdRefIdeal.Value.run (F := Ideal) m ρ)

/-! The reference's terms. -/

section
open Cert.MixFwdRefIdeal Cert.MixFwdRefIdeal.Gen

/-- A constant over the whole array. -/
def refConst (b : BitVec 32) : FVec Ideal S8192x1024 .f32 := broadcastInDim S8192x1024 ![] bcast_S_S8192x1024 (constant S_ .f32 b)

/-- A gate. -/
def refGate (x : FVec Ideal S8192x1024 .f32) : FVec Ideal S8192x1024 .f32 :=
  Host.divf (refConst 0x3F800000#32) (addf (refConst 0x3F800000#32) (Host.exp (Host.negf x)))

/-- The activation. -/
def refGelu (x : FVec Ideal S8192x1024 .f32) : FVec Ideal S8192x1024 .f32 :=
  mulf x (mulf (refConst 0x3F000000#32) (addf (refConst 0x3F800000#32) (Host.tanh (mulf (refConst 0x3F4C422A#32)
    (addf x (mulf (refConst 0x3D372713#32) (mulf (mulf x x) x)))))))

/-- The residual and the product. -/
def refZ (X : FVec Ideal S8192x1024 .f32) (R : FVec Ideal S8192x4096 .f32) (H Y : FVec Ideal S8192x1024 .f32)
    (W : FVec Ideal S1024x1024 .f32) : FVec Ideal S8192x1024 .f32 :=
  addf (mulf (refConst 0x3FD744FD#32) X) (Host.dotGeneral dot_S8192x1024_S1024x1024_S8192x1024_1_0_0_1_n_n none (addf
    (mulf (refGate (extractStridedSlice S8192x1024 ![0, 2048] R slices_S8192x4096_S8192x1024_0_2048))
      (mulf (refGelu (extractStridedSlice S8192x1024 ![0, 1024] R slices_S8192x4096_S8192x1024_0_1024)) H))
    (mulf (refGate (extractStridedSlice S8192x1024 ![0, 3072] R slices_S8192x4096_S8192x1024_0_3072)) Y)) W)

/-- An array less its rows' means. -/
def refCentred (Z : FVec Ideal S8192x1024 .f32) : FVec Ideal S8192x1024 .f32 :=
  subf Z (broadcastInDim S8192x1024 ![0, 1] bcast_S8192x1_S8192x1024_0_1 (Host.divf (broadcastInDim S8192x1 ![0] bcast_S8192_S8192x1_0
    (Host.reduceAdd Z (constant S_ .f32 0x00000000#32) reducesTo_S8192x1024_S8192_d1 h_S_))
    (broadcastInDim S8192x1 ![] bcast_S_S8192x1 (constant S_ .f32 0x44800000#32))))

/-- One row of a layer's parameters over the whole array. -/
def refRow (g : FVec Ideal S4x1024 .f32) : FVec Ideal S8192x1024 .f32 :=
  broadcastInDim S8192x1024 ![0, 1] bcast_S1x1024_S8192x1024_0_1 (broadcastInDim S1x1024 ![1] bcast_S1024_S1x1024_1
    (shapeCast S1024 (extractStridedSlice S1x1024 ![3, 0] g slices_S4x1024_S1x1024_3_0) shapeCasts_S1x1024_S1024))

/-- The layer norm. -/
def refNorm (Z : FVec Ideal S8192x1024 .f32) (g b : FVec Ideal S4x1024 .f32) : FVec Ideal S8192x1024 .f32 :=
  addf (mulf (mulf (refCentred Z) (broadcastInDim S8192x1024 ![0, 1] bcast_S8192x1_S8192x1024_0_1 (Host.rsqrt (addf (Host.divf
    (broadcastInDim S8192x1 ![0] bcast_S8192_S8192x1_0 (Host.reduceAdd (mulf (refCentred Z) (refCentred Z)) (constant S_ .f32 0x00000000#32)
      reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))) (refRow g)) (refRow b)

theorem ref_out (m : (ℓ : Loc nD τ sig) → Buf (Elt Ideal) ℓ) (c : Dev nD) : Value.res_main_v64 m c
    = refNorm (refZ (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5))
      (m ((c.tc : Thread nD τ).loc main_arg6)) := rfl

end

open Cert.MixFwdIdeal Cert.MixFwdIdeal.Gen

variable (m : (ℓ : Loc nD τ sig) → Buf (Elt Ideal) ℓ) (c : Dev nD)

/-- Row `i` of grid point `t`'s tile. -/
def row (t : Fin cfg0.N) (i : Fin 256) : Fin 8192 := ⟨t.val * 256 + i, by have := lt_of_lt_of_eq t.isLt N_0; omega⟩

theorem idx : ∀ t : Fin cfg0.N, win0_0.index t = ![t.val, 0] ∧ win0_1.index t = ![t.val, 1] ∧ win0_2.index t = ![t.val, 2]
    ∧ win0_3.index t = ![t.val, 3] ∧ win0_4.index t = ![t.val, 0] ∧ win0_5.index t = ![t.val, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

/-! The blocks that a tile reads. -/

theorem blk0 (t : Fin cfg0.N) : iblk m c 0 t = fun j : S256x1024.Idx => m ((c : Thread nD τ).loc main_arg0) (ix2 (row t (j 0)) (j 1)) := by
  funext j; idx_vars j
  blk_ext [iblk, V, idx t, row]

theorem blk1 (t : Fin cfg0.N) : iblk m c 1 t = fun j : S256x1024.Idx =>
    m ((c : Thread nD τ).loc main_arg1) (ix2 (row t (j 0)) ⟨1024 + (j 1).val, by have := (j 1).isLt; simp at this; omega⟩) := by
  funext j; idx_vars j
  blk_ext [iblk, V, idx t, row]

theorem blk2 (t : Fin cfg0.N) : iblk m c 2 t = fun j : S256x1024.Idx =>
    m ((c : Thread nD τ).loc main_arg1) (ix2 (row t (j 0)) ⟨2048 + (j 1).val, by have := (j 1).isLt; simp at this; omega⟩) := by
  funext j; idx_vars j
  blk_ext [iblk, V, idx t, row]

theorem blk3 (t : Fin cfg0.N) : iblk m c 3 t = fun j : S256x1024.Idx =>
    m ((c : Thread nD τ).loc main_arg1) (ix2 (row t (j 0)) ⟨3072 + (j 1).val, by have := (j 1).isLt; simp at this; omega⟩) := by
  funext j; idx_vars j
  blk_ext [iblk, V, idx t, row]

theorem blk4 (t : Fin cfg0.N) : iblk m c 4 t = fun j : S256x1024.Idx => m ((c : Thread nD τ).loc main_arg2) (ix2 (row t (j 0)) (j 1)) := by
  funext j; idx_vars j
  blk_ext [iblk, V, idx t, row]

theorem blk5 (t : Fin cfg0.N) : iblk m c 5 t = fun j : S256x1024.Idx => m ((c : Thread nD τ).loc main_arg3) (ix2 (row t (j 0)) (j 1)) := by
  funext j; idx_vars j
  blk_ext [iblk, V, idx t, row]

theorem blk6 (t : Fin cfg0.N) : iblk m c 6 t = fun j : S1024x1024.Idx => m ((c : Thread nD τ).loc main_arg4) j := by
  have h : V m c main_v0 = fun j : S1024x1024.Idx => m ((c : Thread nD τ).loc main_arg4) j := by
    entry_read; rfl
  funext j; idx_vars j
  refine Eq.trans (b := V m c main_v0 (ix2 j0 j1)) ?_ (by rw [h])
  blk_ext [iblk, idx t]

theorem blk7 (t : Fin cfg0.N) : iblk m c 7 t = fun j : S4x1024.Idx => m ((c : Thread nD τ).loc main_arg5) j := by
  funext j; idx_vars j
  blk_ext [iblk, V, idx t]

theorem blk8 (t : Fin cfg0.N) : iblk m c 8 t = fun j : S4x1024.Idx => m ((c : Thread nD τ).loc main_arg6) j := by
  funext j; idx_vars j
  blk_ext [iblk, V, idx t]

/-! The norm's argument. -/

/-- The activation. -/
def gelu (h : EReal) : EReal :=
  Ideal.ofBits .f32 0x3F000000#32 * h
    * (1 + Ideal.tanh (Ideal.ofBits .f32 0x3F4C422A#32 * (h + Ideal.ofBits .f32 0x3D372713#32 * (h * h * h))))

/-- A gate. -/
def gate (x : EReal) : EReal := Ideal.div 1 (1 + Ideal.exp (-x))

/-- One term of the output product: the merged branches by the weight. -/
def term (R : FVec Ideal S8192x4096 .f32) (H Y : FVec Ideal S8192x1024 .f32) (W : FVec Ideal S1024x1024 .f32)
    (i : Fin 8192) (j k : Fin 1024) : EReal :=
  (gate (R (ix2 i ⟨2048 + k.val, by omega⟩)) * (gelu (R (ix2 i ⟨1024 + k.val, by omega⟩)) * H (ix2 i k))
    + gate (R (ix2 i ⟨3072 + k.val, by omega⟩)) * Y (ix2 i k)) * W (ix2 k j)

/-- The residual and the product. -/
def z (X : FVec Ideal S8192x1024 .f32) (R : FVec Ideal S8192x4096 .f32) (H Y : FVec Ideal S8192x1024 .f32)
    (W : FVec Ideal S1024x1024 .f32) (i : Fin 8192) (j : Fin 1024) : EReal :=
  Ideal.ofBits .f32 0x3FD744FD#32 * X (ix2 i j) + ∑ k : Fin 1024, term R H Y W i j k

/-- The same of the kernel's own arguments. -/
def zm (i : Fin 8192) (j : Fin 1024) : EReal :=
  z (m ((c : Thread nD τ).loc main_arg0)) (m ((c : Thread nD τ).loc main_arg1)) (m ((c : Thread nD τ).loc main_arg2))
    (m ((c : Thread nD τ).loc main_arg3)) (m ((c : Thread nD τ).loc main_arg4)) i j

/-- The kernel adds the product to its start by four parts. -/
theorem sum_parts (a : EReal) (F : Fin 1024 → EReal) : a + ∑ f, F f = a + (∑ k : Fin 256, F ⟨k.val, by omega⟩)
    + (∑ k : Fin 256, F ⟨256 + k.val, by omega⟩) + (∑ k : Fin 256, F ⟨512 + k.val, by omega⟩) + (∑ k : Fin 256, F ⟨768 + k.val, by omega⟩) := by
  rw [Fin.sum_univ_add (a := 768) (b := 256) F, Fin.sum_univ_add (a := 512) (b := 256), Fin.sum_univ_add (a := 256) (b := 256)]
  simp only [← add_assoc]
  rfl

theorem z_block (t : Fin cfg0.N) : out0_9 (iblk m c 0 t) (iblk m c 1 t) (iblk m c 2 t) (iblk m c 3 t) (iblk m c 4 t) (iblk m c 5 t)
    (iblk m c 6 t) (iblk m c 7 t) (iblk m c 8 t) = fun j : S256x1024.Idx => zm m c (row t (j 0)) (j 1) := by
  have hz : (fun j : S256x1024.Idx => zm m c (row t (j 0)) (j 1)) = fun j : S256x1024.Idx => _ :=
    funext fun j => sum_parts _ _
  rw [hz]
  clear hz
  frame_out
  funext j; idx_vars j
  rw [blk0, blk1, blk2, blk3, blk4, blk5, blk6]
  open_payloads
  pointwise [term, gelu, gate, Nat.zero_add]
  simp only [← Nat.add_assoc, Nat.reduceAdd, zero_sub]

/-! The layer norm of one tile. -/

/-- A tile less its rows' means. -/
def centred (Z : FVec Ideal S256x1024 .f32) : FVec Ideal S256x1024 .f32 :=
  subf Z (broadcastTo S256x1024 (divf (shapeCast S256x1 (multiReduction .add [1] S256 Z 0x00000000#32 reduces_S256x1024_S256 (.inl rfl) rfl)
    shapeCasts_S256_S256x1) (broadcast S256x1 (Scalar.ofBits .f32 0x44800000#32))) broadcasts_S256x1_S256x1024)

/-- The tile's normalised value. -/
def normed (Z : FVec Ideal S256x1024 .f32) (g b : FVec Ideal S1x1024 .f32) : FVec Ideal S256x1024 .f32 :=
  addf (mulf (mulf (centred Z) (broadcastTo S256x1024 (rsqrt (addf (divf (shapeCast S256x1 (multiReduction .add [1] S256
    (mulf (centred Z) (centred Z)) 0x00000000#32 reduces_S256x1024_S256 (.inl rfl) rfl) shapeCasts_S256_S256x1)
    (broadcast S256x1 (Scalar.ofBits .f32 0x44800000#32))) (broadcast S256x1 (Scalar.ofBits .f32 0x358637BD#32))))
    broadcasts_S256x1_S256x1024)) (broadcastTo S256x1024 g broadcasts_S1x1024_S256x1024))
    (broadcastTo S256x1024 b broadcasts_S1x1024_S256x1024)

theorem normed_eq (p : FVec Ideal S256x1024 .f32) (q r s u v w : FVec Ideal S256x256 .f32) (e : FVec Ideal S256x1024 .bf16)
    (g b : FVec Ideal S1x1024 .f32) : k0_pay18 p q r s u v w e g b = normed (k0_pay17 p q r s u v w e) g b := rfl

theorem out_block (t : Fin cfg0.N) : out0_10 (iblk m c 0 t) (iblk m c 1 t) (iblk m c 2 t) (iblk m c 3 t) (iblk m c 4 t) (iblk m c 5 t)
    (iblk m c 6 t) (iblk m c 7 t) (iblk m c 8 t) = normed (out0_9 (iblk m c 0 t) (iblk m c 1 t) (iblk m c 2 t) (iblk m c 3 t)
      (iblk m c 4 t) (iblk m c 5 t) (iblk m c 6 t) (iblk m c 7 t) (iblk m c 8 t))
    (View.ld (iblk m c 7 t) (Rect.unit (s := S4x1024) ![3, 0] ![1, 1024] inb_S4x1024_S1x1024_3_0))
    (View.ld (iblk m c 8 t) (Rect.unit (s := S4x1024) ![3, 0] ![1, 1024] inb_S4x1024_S1x1024_3_0)) := by
  frame_out
  exact normed_eq _ _ _ _ _ _ _ _ _ _

/-- The layer norm of a row. -/
def norm (Z : Fin 8192 → Fin 1024 → EReal) (g b : FVec Ideal S4x1024 .f32) (i : Fin 8192) (j : Fin 1024) : EReal :=
  (Z i j - Ideal.div (∑ x, Z i x) (Ideal.ofBits .f32 0x44800000#32))
    * Ideal.rsqrt (Ideal.div (∑ x, (Z i x - Ideal.div (∑ x, Z i x) (Ideal.ofBits .f32 0x44800000#32))
      * (Z i x - Ideal.div (∑ x, Z i x) (Ideal.ofBits .f32 0x44800000#32))) (Ideal.ofBits .f32 0x44800000#32) + Ideal.ofBits .f32 0x358637BD#32)
    * g (ix2 3 j) + b (ix2 3 j)

theorem out_value (t : Fin cfg0.N) (j0 : Fin 256) (j1 : Fin 1024) : out0_10 (iblk m c 0 t) (iblk m c 1 t) (iblk m c 2 t) (iblk m c 3 t)
    (iblk m c 4 t) (iblk m c 5 t) (iblk m c 6 t) (iblk m c 7 t) (iblk m c 8 t) (ix2 j0 j1)
    = norm (zm m c) (m ((c : Thread nD τ).loc main_arg5)) (m ((c : Thread nD τ).loc main_arg6)) (row t j0) j1 := by
  rw [out_block, z_block, blk7, blk8]
  generalize zm m c = Z
  pointwise [normed, centred, norm]

theorem final9 : (dats m 0 c).arrAt 9 (cfgs 0).N = fun j : S8192x1024.Idx => zm m c (j 0) (j 1) := by
  refine (dats m 0 c).arrAt_eq_of_covers 9 _ (by decide +kernel) fun t hf y => ?_
  blk_simp
  rw [after0_9]
  refine (congrFun (z_block m c t) y).trans ?_
  exact congrArg₂ (zm m c) (Fin.ext (by blk_simp [idx t, row])) (Fin.ext (by blk_simp [idx t]))

theorem final10 : (dats m 0 c).arrAt 10 (cfgs 0).N = fun j : S8192x1024.Idx =>
    norm (zm m c) (m ((c : Thread nD τ).loc main_arg5)) (m ((c : Thread nD τ).loc main_arg6)) (j 0) (j 1) := by
  refine (dats m 0 c).arrAt_eq_of_covers 10 _ (by decide +kernel) fun t hf y => ?_
  blk_simp
  rw [after0_10]
  idx_vars y
  refine (out_value m c t y0 y1).trans ?_
  exact congrArg₂ (norm _ _ _) (Fin.ext (by blk_simp [idx t, row])) (Fin.ext (by blk_simp [idx t]))

/-! The reference's terms are these. -/

theorem ref_z (X : FVec Ideal S8192x1024 .f32) (R : FVec Ideal S8192x4096 .f32) (H Y : FVec Ideal S8192x1024 .f32)
    (W : FVec Ideal S1024x1024 .f32) (i : Fin 8192) (j : Fin 1024) : refZ X R H Y W (ix2 i j) = z X R H Y W i j := by
  pointwise [refZ, refGate, refGelu, refConst]
  refine congrArg _ (Finset.sum_congr rfl fun k _ => ?_)
  unfold term gelu gate
  rw [mul_left_comm _ (Ideal.ofBits .f32 0x3F000000#32), ← mul_assoc (Ideal.ofBits .f32 0x3F000000#32)]

theorem ref_norm (Z : FVec Ideal S8192x1024 .f32) (F : Fin 8192 → Fin 1024 → EReal) (hz : ∀ i j, Z (ix2 i j) = F i j)
    (g b : FVec Ideal S4x1024 .f32) (i : Fin 8192) (j : Fin 1024) : refNorm Z g b (ix2 i j) = norm F g b i j := by
  pointwise [refNorm, refCentred, refRow, norm]
  simp only [hz]

theorem product : @Cert.algebraic_MixFwdIdeal_MixFwdRefIdeal Cert.MixFwdIdeal.Gen.facts Cert.MixFwdRefIdeal.Gen.facts := by
  intro m g m' g' hpre hagree
  refine ⟨fun c => (dats m 0 c).arrAt 9 cfg0.N, fun c => (dats m 0 c).arrAt 10 cfg0.N, ?_, ?_⟩
  · exact (θ_run _ _ _).mono (fun r h c => h c) (Cert.MixFwdIdeal.Value.run_blocks m g)
  · refine (θ_run _ _ _).mono (fun r h c => ?_) (Cert.MixFwdRefIdeal.Value.run m' g')
    obtain ⟨e0, e1, e2, e3, e4, e5, e6⟩ := hagree c
    obtain ⟨h0, h1, hk⟩ := h c
    refine ⟨h0.trans (Eq.trans ?_ (final9 m c).symm), (h1.trans (ref_out m' c)).trans (Eq.trans ?_ (final10 m c).symm), hk⟩
    · funext j; idx_vars j
      rw [e0, e1, e2, e3, e4]
      exact ref_z _ _ _ _ _ j0 j1
    · rw [e0, e1, e2, e3, e4, e5, e6]
      funext j; idx_vars j
      exact ref_norm _ _ (ref_z _ _ _ _ _) _ _ j0 j1

end Cert.MixFwdProof
end
-- ==== Proof.BwdReals.lean ====
/-
  The mathematics of the ConvFFN's gradient over the real numbers: the causal convolution of the up projection, the
  gated activation, the second layer norm, and their gradients.
-/
module

public import proofs.«01_k».proof.Proof.Reals

@[expose] public section

noncomputable section

namespace Cert.Bwd

open Idealize.ShloMosaic Cert.Reals

/-- The arguments of the call, as reals: the cotangent, the residual input, the up projection, the convolution's weights
    and biases, the down projection and the layer norms' gains. -/
structure Inputs where
  ct : Fin 8192 → Fin 1024 → ℝ
  x : Fin 8192 → Fin 1024 → ℝ
  up : Fin 8192 → Fin 6144 → ℝ
  w : Fin 3 → Fin 6144 → ℝ
  b : Fin 4 → Fin 6144 → ℝ
  d : Fin 3072 → Fin 1024 → ℝ
  g : Fin 4 → Fin 1024 → ℝ

namespace Inputs

variable (a : Inputs)

/-- The up projection `s` rows back in the same sequence, zero before its start. -/
def tap (s : ℕ) (r : Fin 8192) (l : Fin 6144) : ℝ := if r.val % 2048 < s then 0 else a.up ⟨r.val - s, by omega⟩ l
/-- The causal convolution. -/
def hc (r : Fin 8192) (l : Fin 6144) : ℝ := a.w 0 l * a.tap 2 r l + a.w 1 l * a.tap 1 r l + a.w 2 l * a.tap 0 r l + a.b 3 l
/-- The convolution's gate half. -/
def hg (r : Fin 8192) (f : Fin 3072) : ℝ := a.hc r ⟨f, by omega⟩
/-- The convolution's value half. -/
def hv (r : Fin 8192) (f : Fin 3072) : ℝ := a.hc r ⟨3072 + f, by omega⟩
/-- The gated activation. -/
def act (r : Fin 8192) (f : Fin 3072) : ℝ := gelu (a.hg r f) * a.hv r f
/-- The layer norm's input. -/
def z (r : Fin 8192) (c : Fin 1024) : ℝ := cR * a.x r c + ∑ f, a.act r f * a.d f c
/-- The gradient with respect to the layer norm's input. -/
def dz (r : Fin 8192) (c : Fin 1024) : ℝ := lnGrad (a.ct r) (a.g 3) (a.z r) c
/-- The gradient with respect to the activation. -/
def dact (r : Fin 8192) (f : Fin 3072) : ℝ := ∑ k, a.dz r k * a.d f k
/-- The gradient with respect to the gate half. -/
def dhg (r : Fin 8192) (f : Fin 3072) : ℝ := a.dact r f * a.hv r f * dgelu (a.hg r f)
/-- The gradient with respect to the value half. -/
def dhv (r : Fin 8192) (f : Fin 3072) : ℝ := a.dact r f * gelu (a.hg r f)
/-- The gradient with respect to the convolution. -/
def dh (r : Fin 8192) (l : Fin 6144) : ℝ := if h : (l : ℕ) < 3072 then a.dhg r ⟨l, h⟩ else a.dhv r ⟨l - 3072, by omega⟩
/-- That gradient `s` rows ahead in the same sequence, zero after its end. -/
def next (s : ℕ) (r : Fin 8192) (l : Fin 6144) : ℝ := if h : r.val % 2048 + s < 2048 then a.dh ⟨r.val + s, by omega⟩ l else 0
/-- The gradient with respect to the up projection. -/
def dup (r : Fin 8192) (l : Fin 6144) : ℝ := a.w 0 l * a.next 2 r l + a.w 1 l * a.next 1 r l + a.w 2 l * a.next 0 r l
/-- The gradient with respect to the convolution's weights. -/
def dw (k : Fin 3) (l : Fin 6144) : ℝ := ∑ r, a.dh r l * a.tap (2 - k) r l
/-- The gradient with respect to the convolution's bias. -/
def dbias (l : Fin 6144) : ℝ := ∑ r, a.dh r l
/-- The gradient with respect to the layer norm's gain. -/
def dg (c : Fin 1024) : ℝ := ∑ r, a.ct r c * xhat (a.z r) c
/-- The gradient with respect to the layer norm's bias. -/
def db (c : Fin 1024) : ℝ := ∑ r, a.ct r c

theorem dh_gate {r : Fin 8192} {l : Fin 6144} {f : Fin 3072} (h : (l : ℕ) = f) : a.dh r l = a.dhg r f := by
  unfold dh
  rw [dif_pos (by omega)]
  exact congrArg _ (Fin.ext h)
theorem dh_val {r : Fin 8192} {l : Fin 6144} {f : Fin 3072} (h : (l : ℕ) = 3072 + f) : a.dh r l = a.dhv r f := by
  unfold dh
  rw [dif_neg (by omega)]
  exact congrArg _ (Fin.ext (by simp only; omega))

end Inputs

end Cert.Bwd

end
-- ==== Proof.BwdRef.lean ====
/-
  The reference of the ConvFFN's gradient at finite arguments: each array its composed term names is the coercion of the
  real array of `BwdReals.lean`. The definitions are read in program order, one lemma each.
-/
module

public import proofs.«01_k».proof.Proof.Gen.FfnBwdRefIdeal.Run
public import proofs.«01_k».proof.Proof.BwdReals
public import Idealize.ShloMosaic.Lib.Pointwise

@[expose] public section

set_option maxRecDepth 16384

noncomputable section

namespace Cert.BwdRef

open Idealize.ShloMosaic Idealize.ShloMosaic.TcCoe Idealize.SL.Sem
open Cert.FfnBwdRefIdeal Cert.FfnBwdRefIdeal.Gen Cert.FfnBwdRefIdeal.Value Cert.Reals Cert.Bwd

/-- The reference's arguments are the reals of `a`. -/
structure Reads (V : Valuation τ sig (Elt Ideal)) (a : Inputs) : Prop where
  ct : V (Proc.devRef .tc main_arg0) = fun j : S8192x1024.Idx => ((a.ct (j 0) (j 1) : ℝ) : EReal)
  x : V (Proc.devRef .tc main_arg1) = fun j : S8192x1024.Idx => ((a.x (j 0) (j 1) : ℝ) : EReal)
  up : V (Proc.devRef .tc main_arg2) = fun j : S8192x6144.Idx => ((a.up (j 0) (j 1) : ℝ) : EReal)
  w : V (Proc.devRef .tc main_arg3) = fun j : S3x6144.Idx => ((a.w (j 0) (j 1) : ℝ) : EReal)
  b : V (Proc.devRef .tc main_arg4) = fun j : S4x6144.Idx => ((a.b (j 0) (j 1) : ℝ) : EReal)
  d : V (Proc.devRef .tc main_arg5) = fun j : S3072x1024.Idx => ((a.d (j 0) (j 1) : ℝ) : EReal)
  g : V (Proc.devRef .tc main_arg6) = fun j : S4x1024.Idx => ((a.g (j 0) (j 1) : ℝ) : EReal)

variable {V : Valuation τ sig (Elt Ideal)} {a : Inputs}

/-- Row `t` of sequence `s`. -/
def seq (s : Fin 4) (t : Fin 2048) : Fin 8192 := ⟨s.val * 2048 + t.val, by omega⟩

theorem v1 (R : Reads V a) : res_main_v1 V = fun j : S1x1024.Idx => ((a.g 3 (j 1) : ℝ) : EReal) := by
  funext j; idx_vars j
  pointwise [res_main_v1, R.g]

/-- The up projection behind two rows of zeros, read `s` rows back from row `t`. -/
theorem v7 (R : Reads V a) (s : ℕ) (hs : s ≤ 2) (q : Fin 4) (t : Fin 2048) (u : Fin 2050) (l : Fin 6144) (hu : u.val + s = 2 + t.val) :
    res_main_v7 V (ix3 q u l) = ((a.tap s (seq q t) l : ℝ) : EReal) := by
  pointwise [res_main_v7, R.up]
  have ht : (q.val * 2048 + t.val) % 2048 = t.val := by omega
  unfold Inputs.tap seq
  simp only [ht]
  by_cases h : t.val < s
  · rw [dif_pos (by omega), if_pos h, lift_zero]
  · rw [dif_neg (by omega), if_neg h]
    exact congrArg (fun r => ((a.up r l : ℝ) : EReal)) (Fin.ext (by simp only; omega))

theorem v11 (R : Reads V a) : res_main_v11 V = fun j : S4x2048x6144.Idx => ((a.tap 2 (seq (j 0) (j 1)) (j 2) : ℝ) : EReal) := by
  funext j; idx_vars j
  pointwise [res_main_v11]
  exact v7 R 2 (by omega) j0 j1 _ j2 (by simp only; omega)

theorem v19 (R : Reads V a) : res_main_v19 V = fun j : S4x2048x6144.Idx => ((a.tap 1 (seq (j 0) (j 1)) (j 2) : ℝ) : EReal) := by
  funext j; idx_vars j
  pointwise [res_main_v19]
  exact v7 R 1 (by omega) j0 j1 _ j2 (by simp only; omega)

theorem v26 (R : Reads V a) : res_main_v26 V = fun j : S4x2048x6144.Idx => ((a.tap 0 (seq (j 0) (j 1)) (j 2) : ℝ) : EReal) := by
  funext j; idx_vars j
  pointwise [res_main_v26]
  exact v7 R 0 (by omega) j0 j1 _ j2 (by simp only; omega)

theorem v12 (R : Reads V a) : res_main_v12 V = fun j : S1x1x6144.Idx => ((a.w 0 (j 2) : ℝ) : EReal) := by
  funext j; idx_vars j
  pointwise [res_main_v12, R.w]

theorem v20 (R : Reads V a) : res_main_v20 V = fun j : S1x1x6144.Idx => ((a.w 1 (j 2) : ℝ) : EReal) := by
  funext j; idx_vars j
  pointwise [res_main_v20, R.w]

theorem v27 (R : Reads V a) : res_main_v27 V = fun j : S1x1x6144.Idx => ((a.w 2 (j 2) : ℝ) : EReal) := by
  funext j; idx_vars j
  pointwise [res_main_v27, R.w]

theorem seq_split (r : Fin 8192) : seq ⟨r.val / 2048, by omega⟩ ⟨r.val % 2048, by omega⟩ = r := Fin.ext (by simp only [seq]; omega)

theorem v34 (R : Reads V a) : res_main_v34 V = fun j : S8192x6144.Idx => ((a.hc (j 0) (j 1) : ℝ) : EReal) := by
  funext j; idx_vars j
  pointwise [res_main_v34, v11 R, v12 R, v19 R, v20 R, v26 R, v27 R, R.b]
  simp only [seq_split, bits_zero, lift_zero, lift_mul, lift_add, zero_add, Inputs.hc]

theorem v35 (R : Reads V a) : res_main_v35 V = fun j : S8192x3072.Idx => ((a.hg (j 0) (j 1) : ℝ) : EReal) := by
  funext j; idx_vars j
  pointwise [res_main_v35, v34 R]
  rfl

theorem v36 (R : Reads V a) : res_main_v36 V = fun j : S8192x3072.Idx => ((a.hv (j 0) (j 1) : ℝ) : EReal) := by
  funext j; idx_vars j
  pointwise [res_main_v36, v34 R]
  rfl

theorem v49 (R : Reads V a) : res_main_v49 V = fun j : S8192x3072.Idx => ((th (a.hg (j 0) (j 1)) : ℝ) : EReal) := by
  funext j; idx_vars j
  pointwise [res_main_v49, v35 R]
  simp only [bits_gelu, bits_44715, bits_million, lift_mul, lift_add, lift_div_million, Ideal.tanh_coe, th_cubic, th]

theorem v58 (R : Reads V a) :
    res_main_v58 V = fun j : S8192x3072.Idx => ((1 / 2 * (1 + th (a.hg (j 0) (j 1))) : ℝ) : EReal) := by
  funext j; idx_vars j
  pointwise [res_main_v58, v49 R]
  simp only [bits_half, bits_one, lift_one, lift_mul, lift_add]

theorem v59 (R : Reads V a) : res_main_v59 V = fun j : S8192x3072.Idx => ((gelu (a.hg (j 0) (j 1)) : ℝ) : EReal) := by
  funext j; idx_vars j
  pointwise [res_main_v59, v58 R, v35 R]
  simp only [lift_mul, gelu]
  congr 1; ring

theorem v60 (R : Reads V a) : res_main_v60 V = fun j : S8192x3072.Idx => ((a.act (j 0) (j 1) : ℝ) : EReal) := by
  funext j; idx_vars j
  pointwise [res_main_v60, v59 R, v36 R]
  simp only [lift_mul, Inputs.act]

theorem v62 (R : Reads V a) : res_main_v62 V = fun j : S8192x1024.Idx => ((a.z (j 0) (j 1) : ℝ) : EReal) := by
  funext j; idx_vars j
  pointwise [res_main_v62, v60 R, R.x, R.d]
  simp only [bits_resid, lift_mul, lift_sum, lift_add, Inputs.z]

theorem v66 (R : Reads V a) : res_main_v66 V = fun j : S8192x1.Idx => ((mean (a.z (j 0)) : ℝ) : EReal) := by
  funext j; idx_vars j
  pointwise [res_main_v66, v62 R]
  simp only [bits_1024, lift_zero, lift_sum, lift_add, lift_div_1024, zero_add, mean]

theorem v68 (R : Reads V a) : res_main_v68 V = fun j : S8192x1024.Idx => ((cen (a.z (j 0)) (j 1) : ℝ) : EReal) := by
  funext j; idx_vars j
  pointwise [res_main_v68, v62 R, v66 R]
  simp only [lift_sub, cen]

theorem v77 (R : Reads V a) : res_main_v77 V = fun j : S8192x1024.Idx => ((cen (a.z (j 0)) (j 1) : ℝ) : EReal) := v68 R

theorem v79 (R : Reads V a) : res_main_v79 V = fun j : S8192x1.Idx => ((vare (a.z (j 0)) : ℝ) : EReal) := by
  funext j; idx_vars j
  pointwise [res_main_v79, v68 R]
  simp only [bits_1024, bits_eps, lift_zero, lift_mul, lift_sum, lift_add, lift_div_1024, zero_add, vare]

theorem v80 (R : Reads V a) : res_main_v80 V = fun j : S8192x1.Idx => ((rstd (a.z (j 0)) : ℝ) : EReal) := by
  funext j; idx_vars j
  pointwise [res_main_v80, v79 R]
  exact lift_rsqrt (vare_pos _)

theorem v85 (R : Reads V a) : res_main_v85 V = fun j : S8192x1024.Idx => ((xhat (a.z (j 0)) (j 1) : ℝ) : EReal) := by
  funext j; idx_vars j
  pointwise [res_main_v85, v77 R, v80 R]
  simp only [lift_mul, xhat]

theorem v90 (R : Reads V a) : res_main_v90 V = fun j : S8192x1024.Idx => ((a.ct (j 0) (j 1) : ℝ) : EReal) := by
  funext j; idx_vars j
  pointwise [res_main_v90, R.ct]

theorem v97 (R : Reads V a) :
    res_main_v97 V = fun j : S8192x1024.Idx => ((a.ct (j 0) (j 1) * a.g 3 (j 1) : ℝ) : EReal) := by
  funext j; idx_vars j
  pointwise [res_main_v97, v90 R, v1 R]
  simp only [lift_mul]

theorem v102 (R : Reads V a) :
    res_main_v102 V = fun j : S8192x1024.Idx => ((a.ct (j 0) (j 1) * a.g 3 (j 1) * rstd (a.z (j 0)) : ℝ) : EReal) := by
  funext j; idx_vars j
  pointwise [res_main_v102, v97 R, v80 R]
  simp only [lift_mul]

theorem v111 (R : Reads V a) :
    res_main_v111 V = fun j : S8192x1024.Idx =>
      (((∑ i, cen (a.z (j 0)) i * (a.ct (j 0) i * a.g 3 i)) * (-(1 / 2) * (rstd (a.z (j 0)) / vare (a.z (j 0)))) / 1024
          * (2 * cen (a.z (j 0)) (j 1)) : ℝ) : EReal) := by
  funext j; idx_vars j
  pointwise [res_main_v111, v77 R, v68 R, v97 R, v80 R, v79 R]
  simp only [bits_1024, bits_neg_half, bits_two, lift_zero, lift_mul, lift_sum, lift_add, lift_div (vare_pos _).ne', lift_div_1024,
    zero_add, Finset.univ_unique, Finset.sum_singleton]

theorem out_dz (R : Reads V a) :
    addf (addf (res_main_v102 V) (res_main_v111 V)) (broadcastInDim S8192x1024 ![0] bcast_S8192_S8192x1024_0 (Host.reduceAdd (Host.divf (addf (shapeCast _ (Host.reduceAdd (Host.negf (res_main_v102 V)) (constant S_ .f32 0x00000000#32) reducesTo_S8192x1024_S8192_d1 h_S_) shapeCasts_S8192_S8192x1) (shapeCast _ (Host.reduceAdd (Host.negf (res_main_v111 V)) (constant S_ .f32 0x00000000#32) reducesTo_S8192x1024_S8192_d1 h_S_) shapeCasts_S8192_S8192x1)) (broadcastInDim S8192x1 ![] bcast_S_S8192x1 (constant S_ .f32 0x44800000#32))) (constant S_ .f32 0x00000000#32) reducesTo_S8192x1_S8192_d1 h_S_))
      = fun j : S8192x1024.Idx => ((a.dz (j 0) (j 1) : ℝ) : EReal) := by
  funext j; idx_vars j
  pointwise [v102 R, v111 R]
  simp only [bits_1024, lift_zero, lift_neg, lift_sum, lift_add, lift_div_1024, zero_add, Finset.univ_unique, Finset.sum_singleton]
  exact congrArg _ (lnGrad_eq (a.ct j0) (a.g 3) (a.z j0) j1)

theorem v122 (R : Reads V a) : res_main_v122 V = fun j : S8192x3072.Idx => ((a.dact (j 0) (j 1) : ℝ) : EReal) := by
  unfold res_main_v122
  rw [out_dz R]
  funext j; idx_vars j
  pointwise [R.d]
  simp only [lift_mul, lift_sum, Inputs.dact]

theorem v124 (R : Reads V a) :
    res_main_v124 V = fun j : S8192x3072.Idx => ((a.dact (j 0) (j 1) * a.hv (j 0) (j 1) : ℝ) : EReal) := by
  funext j; idx_vars j
  pointwise [res_main_v124, v122 R, v36 R]
  simp only [lift_mul]

theorem v131 (R : Reads V a) :
    res_main_v131 V = fun j : S8192x3072.Idx =>
      ((cG * (1 / 2 * (a.hg (j 0) (j 1) * (a.dact (j 0) (j 1) * a.hv (j 0) (j 1)))
        * ((1 + th (a.hg (j 0) (j 1))) * (1 - th (a.hg (j 0) (j 1))))) : ℝ) : EReal) := by
  funext j; idx_vars j
  pointwise [res_main_v131, v124 R, v35 R, v49 R]
  simp only [bits_gelu, bits_half, bits_one, lift_one, lift_mul, lift_add, lift_sub]

/-- The gradient of the convolution, sequence by sequence. -/
theorem v140 (R : Reads V a) :
    res_main_v140 V = fun j : S4x2048x6144.Idx => ((a.dh (seq (j 0) (j 1)) (j 2) : ℝ) : EReal) := by
  funext j; idx_vars j
  pointwise [res_main_v140, v124 R, v58 R, v131 R, v35 R, v59 R, v122 R]
  unfold Inputs.dh
  by_cases h : j2.val < 3072
  · rw [dif_pos h, dif_pos h]
    simp only [bits_44715, bits_million, bits_three, lift_mul, lift_add, lift_div_million]
    exact congrArg _ (dgelu_eq _ _)
  · rw [dif_neg h, dif_neg h]
    simp only [lift_mul, Inputs.dhv]
    exact congrArg _ (mul_comm _ _)

/-! ## The results -/

theorem out_act (R : Reads V a) :
    truncf .bf16 (res_main_v60 V) bitsLt_bf16_f32 = fun j : S8192x3072.Idx => ((a.act (j 0) (j 1) : ℝ) : EReal) := by
  funext j; idx_vars j
  pointwise [v60 R]

theorem next_at (s : ℕ) (r : Fin 8192) (l : Fin 6144) (h : r.val % 2048 + s < 2048) (q : Fin 4) (t : Fin 2048)
    (hq : q.val = r.val / 2048) (ht : t.val = r.val % 2048 + s) : a.dh (seq q t) l = a.next s r l := by
  unfold Inputs.next
  rw [dif_pos h]
  exact congrArg (fun i => a.dh i l) (Fin.ext (by simp only [seq]; omega))

theorem next_end (s : ℕ) (r : Fin 8192) (l : Fin 6144) (h : ¬ r.val % 2048 + s < 2048) : a.next s r l = 0 := by
  unfold Inputs.next
  rw [dif_neg h]

set_option maxHeartbeats 1600000 in
theorem out_dup (R : Reads V a) :
    truncf .bf16 (shapeCast _ (extractStridedSlice S4x2048x6144 ![0, 2, 0] (res_main_v172 V) slices_S4x2050x6144_S4x2048x6144_0_2_0) shapeCasts_S4x2048x6144_S8192x6144) bitsLt_bf16_f32
      = fun j : S8192x6144.Idx => ((a.dup (j 0) (j 1) : ℝ) : EReal) := by
  funext j; idx_vars j
  pointwise [res_main_v172, v140 R, v12 R, v20 R, v27 R]
  rw [dif_pos (by omega), next_at 0 j0 j1 (by omega) _ _ rfl (by simp only; omega)]
  have h1 : (if h : j0.val / 2048 < 4 ∧ 1 ≤ 2 + j0.val % 2048 ∧ 2 + j0.val % 2048 - 1 < 2048 then
      ((a.w 1 j1 : ℝ) : EReal) * ((a.dh (seq ⟨j0.val / 2048, h.1⟩ ⟨2 + j0.val % 2048 - 1, h.2.2⟩) j1 : ℝ) : EReal) else 0)
      = ((a.w 1 j1 * a.next 1 j0 j1 : ℝ) : EReal) := by
    by_cases h : j0.val % 2048 + 1 < 2048
    · rw [dif_pos (by omega), next_at 1 j0 j1 h _ _ rfl (by simp only; omega), lift_mul]
    · rw [dif_neg (by omega), next_end 1 j0 j1 h, mul_zero, lift_zero]
  have h2 : (if h : j0.val / 2048 < 4 ∧ 2 + j0.val % 2048 < 2048 then
      ((a.w 0 j1 : ℝ) : EReal) * ((a.dh (seq ⟨j0.val / 2048, h.1⟩ ⟨2 + j0.val % 2048, h.2⟩) j1 : ℝ) : EReal) else 0)
      = ((a.w 0 j1 * a.next 2 j0 j1 : ℝ) : EReal) := by
    by_cases h : j0.val % 2048 + 2 < 2048
    · rw [dif_pos (by omega), next_at 2 j0 j1 h _ _ rfl (by simp only; omega), lift_mul]
    · rw [dif_neg (by omega), next_end 2 j0 j1 h, mul_zero, lift_zero]
  rw [h1, h2]
  simp only [lift_mul, lift_add, Inputs.dup]
  refine congrArg _ ?_
  ring

/-- A sum over all rows, sequence by sequence. -/
theorem sum_seq (f : Fin 8192 → ℝ) : ∑ p : Fin 4 × Fin 2048, f (seq p.1 p.2) = ∑ r, f r := by
  rw [← Equiv.sum_comp (finProdFinEquiv (m := 4) (n := 2048))]
  refine Finset.sum_congr rfl fun p _ => congrArg f (Fin.ext ?_)
  show p.1.val * 2048 + p.2.val = p.2.val + 2048 * p.1.val
  omega

/-- The host's sum over the first two of three axes. -/
theorem sum_two {n0 n1 n2 : ℕ} (h : (⟨3, ![n0, n1, n2]⟩ : Shape).ReducesTo [0, 1] ⟨1, ![n2]⟩) (X : (⟨3, ![n0, n1, n2]⟩ : Shape).Idx → EReal)
    (e : EReal) (l : Fin n2) : Ideal.hostReduceAdd h X e (ix1 l) = e + ∑ p : Fin n0 × Fin n1, X (ix3 p.1 p.2 l) := by
  refine congrArg (e + ·) (Finset.sum_filter_eq_sum_of_fiber _ (fun p : Fin n0 × Fin n1 => ix3 p.1 p.2 l)
    (fun p q e => Prod.ext (congrFun e 0) (congrFun e 1)) (fun i => ⟨fun e => ⟨(i 0, i 1), ?_⟩, ?_⟩) X)
  · funext x; apply Fin.ext
    match x with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- The reference's column sums: over the rows of every sequence, then over a pair of unit axes. -/
theorem col_sum (X : FVec Ideal S4x2048x6144 .f32) (f : Fin 8192 → Fin 6144 → ℝ)
    (hX : X = fun j : S4x2048x6144.Idx => ((f (seq (j 0) (j 1)) (j 2) : ℝ) : EReal)) :
    broadcastInDim S1x6144 ![1] bcast_S6144_S1x6144_1 (Host.reduceAdd (shapeCast _ (Host.reduceAdd X (constant S_ .f32 0x00000000#32) reducesTo_S4x2048x6144_S6144_d0_1 h_S_) shapeCasts_S6144_S1x1x6144) (constant S_ .f32 0x00000000#32) reducesTo_S1x1x6144_S6144_d0_1 h_S_)
      = fun j : S1x6144.Idx => ((∑ r, f r (j 1) : ℝ) : EReal) := by
  have h1 : (Host.reduceAdd X (constant S_ .f32 0x00000000#32) reducesTo_S4x2048x6144_S6144_d0_1 h_S_ : FVec Ideal S6144 .f32)
      = fun j : S6144.Idx => ((∑ r, f r (j 0) : ℝ) : EReal) := by
    funext j; idx_vars j
    refine (sum_two (n0 := 4) (n1 := 2048) (n2 := 6144) reducesTo_S4x2048x6144_S6144_d0_1 X _ j0).trans ?_
    rw [hX, show (constant (F := Ideal) S_ .f32 0x00000000#32 (Shape.Idx.first h_S_)) = ((0 : ℝ) : EReal) from bits_zero, lift_sum, lift_add, zero_add]
    exact congrArg _ (sum_seq fun r => f r j0)
  rw [h1]
  funext j; idx_vars j
  pointwise
  refine (sum_two (n0 := 1) (n1 := 1) (n2 := 6144) reducesTo_S1x1x6144_S6144_d0_1 _ _ j1).trans ?_
  pointwise
  simp

theorem out_dbias (R : Reads V a) :
    broadcastInDim S1x6144 ![1] bcast_S6144_S1x6144_1 (Host.reduceAdd (shapeCast _ (Host.reduceAdd (res_main_v140 V) (constant S_ .f32 0x00000000#32) reducesTo_S4x2048x6144_S6144_d0_1 h_S_) shapeCasts_S6144_S1x1x6144) (constant S_ .f32 0x00000000#32) reducesTo_S1x1x6144_S6144_d0_1 h_S_)
      = fun j : S1x6144.Idx => ((a.dbias (j 1) : ℝ) : EReal) :=
  col_sum _ a.dh (v140 R)

/-- The gradient at every row times the up projection `s` rows back. -/
theorem prod_tap (R : Reads V a) (s : ℕ) (T : FVec Ideal S4x2048x6144 .f32)
    (hT : T = fun j : S4x2048x6144.Idx => ((a.tap s (seq (j 0) (j 1)) (j 2) : ℝ) : EReal)) :
    mulf (res_main_v140 V) T
      = fun j : S4x2048x6144.Idx => (((fun r l => a.dh r l * a.tap s r l) (seq (j 0) (j 1)) (j 2) : ℝ) : EReal) := by
  funext j; idx_vars j
  pointwise [v140 R, hT]
  simp only [lift_mul]

theorem out_dw (R : Reads V a) :
    addf (addf (pad S3x6144 ![2, 0] ![0, 0] ![0, 0] (broadcastInDim S1x6144 ![1] bcast_S6144_S1x6144_1 (Host.reduceAdd (shapeCast _ (Host.reduceAdd (mulf (res_main_v140 V) (res_main_v26 V)) (constant S_ .f32 0x00000000#32) reducesTo_S4x2048x6144_S6144_d0_1 h_S_) shapeCasts_S6144_S1x1x6144) (constant S_ .f32 0x00000000#32) reducesTo_S1x1x6144_S6144_d0_1 h_S_)) (constant S_ .f32 0x00000000#32) pads_S1x6144_S3x6144_200_000 h_S_) (pad S3x6144 ![1, 0] ![1, 0] ![0, 0] (broadcastInDim S1x6144 ![1] bcast_S6144_S1x6144_1 (Host.reduceAdd (shapeCast _ (Host.reduceAdd (mulf (res_main_v140 V) (res_main_v19 V)) (constant S_ .f32 0x00000000#32) reducesTo_S4x2048x6144_S6144_d0_1 h_S_) shapeCasts_S6144_S1x1x6144) (constant S_ .f32 0x00000000#32) reducesTo_S1x1x6144_S6144_d0_1 h_S_)) (constant S_ .f32 0x00000000#32) pads_S1x6144_S3x6144_110_000 h_S_)) (pad S3x6144 ![0, 0] ![2, 0] ![0, 0] (broadcastInDim S1x6144 ![1] bcast_S6144_S1x6144_1 (Host.reduceAdd (shapeCast _ (Host.reduceAdd (mulf (res_main_v140 V) (res_main_v11 V)) (constant S_ .f32 0x00000000#32) reducesTo_S4x2048x6144_S6144_d0_1 h_S_) shapeCasts_S6144_S1x1x6144) (constant S_ .f32 0x00000000#32) reducesTo_S1x1x6144_S6144_d0_1 h_S_)) (constant S_ .f32 0x00000000#32) pads_S1x6144_S3x6144_020_000 h_S_)
      = fun j : S3x6144.Idx => ((a.dw (j 0) (j 1) : ℝ) : EReal) := by
  rw [col_sum _ (fun r l => a.dh r l * a.tap 0 r l) (prod_tap R 0 _ (v26 R)), col_sum _ (fun r l => a.dh r l * a.tap 1 r l) (prod_tap R 1 _ (v19 R)), col_sum _ (fun r l => a.dh r l * a.tap 2 r l) (prod_tap R 2 _ (v11 R))]
  funext j; idx_vars j
  pointwise
  unfold Inputs.dw
  have h3 : j0 = 0 ∨ j0 = 1 ∨ j0 = 2 := by revert j0; decide
  rcases h3 with rfl | rfl | rfl
  · rw [dif_neg (by decide), dif_neg (by decide), dif_pos (by decide), zero_add, zero_add]
    rfl
  · rw [dif_neg (by decide), dif_pos (by decide), dif_neg (by decide), zero_add, add_zero]
    rfl
  · rw [dif_pos (by decide), dif_neg (by decide), dif_neg (by decide), add_zero, add_zero]
    rfl

theorem out_dg (R : Reads V a) :
    shapeCast S1x1024 (Host.reduceAdd (mulf (res_main_v85 V) (res_main_v90 V)) (constant S_ .f32 0x00000000#32)
        reducesTo_S8192x1024_S1024_d0 h_S_) shapeCasts_S1024_S1x1024
      = fun j : S1x1024.Idx => ((a.dg (j 1) : ℝ) : EReal) := by
  funext j; idx_vars j
  pointwise [v85 R, v90 R]
  simp only [lift_zero, lift_mul, lift_sum, lift_add, zero_add, Inputs.dg]
  exact congrArg _ (Finset.sum_congr rfl fun r _ => mul_comm _ _)

theorem out_db (R : Reads V a) :
    shapeCast S1x1024 (Host.reduceAdd (F := Ideal) (φ := .f32) (V (Proc.devRef .tc main_arg0)) (constant S_ .f32 0x00000000#32)
        reducesTo_S8192x1024_S1024_d0 h_S_) shapeCasts_S1024_S1x1024
      = fun j : S1x1024.Idx => ((a.db (j 1) : ℝ) : EReal) := by
  funext j; idx_vars j
  pointwise [R.ct]
  simp only [lift_zero, lift_sum, lift_add, zero_add, Inputs.db]

end Cert.BwdRef

end
-- ==== Proof.BwdChunks.lean ====
/-
  The vector operations by which the kernel of the ConvFFN's gradient treats one chunk of 512 columns of a tile, written
  once, and what each computes on real entries. The payloads of the twelve chunks are instances of them.
-/
module

public import proofs.«01_k».proof.Proof.Gen.FfnBwdIdeal.Skeleton
public import proofs.«01_k».proof.Proof.BwdReals
public import Idealize.ShloMosaic.Lib.Pointwise

@[expose] public section

set_option maxRecDepth 16384

noncomputable section

namespace Cert.BwdValue

open Idealize.ShloMosaic Idealize.ShloMosaic.TcCoe Idealize.SL.Sem
open Cert.FfnBwdIdeal Cert.FfnBwdIdeal.Gen Cert.Reals Cert.Bwd

/-- The kernel's cubic coefficient. -/
theorem named_a : Named.named (F := Ideal) κ "gelu_a" (φ := .f32) 0x3D372713#32 = (cA : EReal) :=
  IdealRules.named_const.ideal_named_scalar _ _ _ _ rfl
/-- The kernel's coefficient of the square in the derivative. -/
theorem named_3a : Named.named (F := Ideal) κ "gelu_3a" (φ := .f32) 0x3E095D4F#32 = (cA3 : EReal) :=
  IdealRules.named_const.ideal_named_scalar _ _ _ _ rfl

/-- The chunk moved down by `s` rows, the halo's last rows above it. -/
abbrev down (s : BitVec 32) (U : FVec Ideal S256x512 .f32) (H : FVec Ideal S8x512 .f32) : FVec Ideal S256x512 .f32 :=
  concatenate S256x512 0
    [⟨S8x512, select (cmpi .slt (iota .tc S8x512 32 [0] iota_S8x512_d0_w32) (broadcast S8x512 s))
      (dynamicRotate 0 s none H rotates_S8x512_d0)
      (extractStridedSlice S8x512 ![0, 0] (dynamicRotate 0 s none U rotates_S256x512_d0) slices_S256x512_o0_0_S8x512)⟩,
     ⟨S248x512, extractStridedSlice S248x512 ![8, 0] (dynamicRotate 0 s none U rotates_S256x512_d0) slices_S256x512_o8_0_S248x512⟩]
    concatenates_S8x512_S248x512_S256x512_d0

/-- The chunk moved up by `256 - r = 8 - q` rows, the next tile's first rows below it. -/
abbrev up (r q : BitVec 32) (D : FVec Ideal S256x512 .f32) (N : FVec Ideal S8x512 .f32) : FVec Ideal S256x512 .f32 :=
  concatenate S256x512 0
    [⟨S248x512, extractStridedSlice S248x512 ![0, 0] (dynamicRotate 0 r none D rotates_S256x512_d0) slices_S256x512_o0_0_S248x512⟩,
     ⟨S8x512, select (cmpi .sge (iota .tc S8x512 32 [0] iota_S8x512_d0_w32) (broadcast S8x512 q))
      (dynamicRotate 0 q none N rotates_S8x512_d0)
      (extractStridedSlice S8x512 ![248, 0] (dynamicRotate 0 r none D rotates_S256x512_d0) slices_S256x512_o248_0_S8x512)⟩]
    concatenates_S248x512_S8x512_S256x512_d0

/-- The convolution of a chunk. -/
def conv (U : FVec Ideal S256x512 .f32) (H : FVec Ideal S8x512 .f32) (W0 W1 W2 B : FVec Ideal S1x512 .f32) : FVec Ideal S256x512 .f32 :=
  addf (addf (addf (broadcastTo S256x512 B broadcasts_S1x512_S256x512)
    (mulf (broadcastTo S256x512 W0 broadcasts_S1x512_S256x512) (down 2#32 U H)))
    (mulf (broadcastTo S256x512 W1 broadcasts_S1x512_S256x512) (down 1#32 U H)))
    (mulf (broadcastTo S256x512 W2 broadcasts_S1x512_S256x512) U)

/-- The transposed convolution of a chunk. -/
def back (D : FVec Ideal S256x512 .f32) (N : FVec Ideal S8x512 .f32) (W0 W1 W2 : FVec Ideal S1x512 .f32) : FVec Ideal S256x512 .bf16 :=
  truncf .bf16 (addf (addf (addf (broadcast S256x512 (Scalar.ofBits .f32 0x00000000#32))
    (mulf (broadcastTo S256x512 W0 broadcasts_S1x512_S256x512) (up 254#32 6#32 D N)))
    (mulf (broadcastTo S256x512 W1 broadcasts_S1x512_S256x512) (up 255#32 7#32 D N)))
    (mulf (broadcastTo S256x512 W2 broadcasts_S1x512_S256x512) D)) bitsLt_bf16_f32

/-- A row of sums over a chunk's rows, added to what was there. -/
def colsum (D : FVec Ideal S256x512 .f32) (A : FVec Ideal S1x512 .f32) : FVec Ideal S1x512 .f32 :=
  addf (shapeCast S1x512 A shapeCasts_S1x512_S1x512)
    (shapeCast S1x512 (multiReduction .add [0] S512 D 0x00000000#32 reduces_S256x512_S512 (.inl rfl) rfl) shapeCasts_S512_S1x512)

theorem select_lt (s : BitVec 32) (hs : s = 1#32 ∨ s = 2#32) (n : ℕ) (hn : n < 8) (x y : EReal) :
    Scalar.select (IntOp.cmpi .slt (BitVec.ofNat 32 n) s) x y = if n < s.toNat then x else y := by
  have h : ∀ k : Fin 8, IntOp.cmpi .slt (BitVec.ofNat 32 k.val) s = if k.val < s.toNat then 1#1 else 0#1 := by
    rcases hs with rfl | rfl <;> decide
  rw [h ⟨n, hn⟩]
  by_cases hlt : n < s.toNat
  · rw [if_pos hlt, if_pos hlt]; rfl
  · rw [if_neg hlt, if_neg hlt]; rfl

theorem select_ge (s : BitVec 32) (hs : s = 6#32 ∨ s = 7#32) (n : ℕ) (hn : n < 8) (x y : EReal) :
    Scalar.select (IntOp.cmpi .sge (BitVec.ofNat 32 n) s) x y = if s.toNat ≤ n then x else y := by
  have h : ∀ k : Fin 8, IntOp.cmpi .sge (BitVec.ofNat 32 k.val) s = if s.toNat ≤ k.val then 1#1 else 0#1 := by
    rcases hs with rfl | rfl <;> decide
  rw [h ⟨n, hn⟩]
  by_cases hlt : s.toNat ≤ n
  · rw [if_pos hlt, if_pos hlt]; rfl
  · rw [if_neg hlt, if_neg hlt]; rfl

theorem down_eq (s : BitVec 32) (hs : s = 1#32 ∨ s = 2#32) {U : FVec Ideal S256x512 .f32} {H : FVec Ideal S8x512 .f32}
    {u v : Fin 256 → Fin 512 → ℝ} {h : Fin 8 → Fin 512 → ℝ}
    (hU : U = fun j => ((u (j 0) (j 1) : ℝ) : EReal)) (hH : H = fun j => ((h (j 0) (j 1) : ℝ) : EReal))
    (h0 : ∀ (i : Fin 256) (k : Fin 8) (l : Fin 512), k.val + s.toNat = 8 + i.val → v i l = h k l)
    (h1 : ∀ (i k : Fin 256) (l : Fin 512), k.val + s.toNat = i.val → v i l = u k l) :
    down s U H = fun j => ((v (j 0) (j 1) : ℝ) : EReal) := by
  rcases hs with rfl | rfl
  all_goals
    funext j; idx_vars j
    pointwise [hU, hH]
    by_cases h8 : j0.val < 8
    · rw [dif_pos h8, select_lt _ (by decide) _ h8]
      simp only [BitVec.toNat_ofNat, Nat.reducePow, Nat.reduceMod] at h0 h1 ⊢
      split
      · exact congrArg _ (h0 _ _ _ (by simp only; omega)).symm
      · exact congrArg _ (h1 _ _ _ (by simp only; omega)).symm
    · rw [dif_neg h8]
      simp only [BitVec.toNat_ofNat, Nat.reducePow, Nat.reduceMod] at h1
      exact congrArg _ (h1 _ _ _ (by simp only; omega)).symm

theorem up_eq (r q : BitVec 32) (hs : (r = 254#32 ∧ q = 6#32) ∨ (r = 255#32 ∧ q = 7#32)) {D : FVec Ideal S256x512 .f32}
    {N : FVec Ideal S8x512 .f32} {d v : Fin 256 → Fin 512 → ℝ} {n : Fin 8 → Fin 512 → ℝ}
    (hD : D = fun j => ((d (j 0) (j 1) : ℝ) : EReal)) (hN : N = fun j => ((n (j 0) (j 1) : ℝ) : EReal))
    (h0 : ∀ (i : Fin 256) (k : Fin 8) (l : Fin 512), i.val = k.val + r.toNat → v i l = n k l)
    (h1 : ∀ (i k : Fin 256) (l : Fin 512), i.val + 256 = k.val + r.toNat → v i l = d k l) :
    up r q D N = fun j => ((v (j 0) (j 1) : ℝ) : EReal) := by
  rcases hs with ⟨rfl, rfl⟩ | ⟨rfl, rfl⟩
  all_goals
    funext j; idx_vars j
    pointwise [hD, hN]
    by_cases h8 : j0.val < 248
    · rw [dif_pos h8]
      simp only [BitVec.toNat_ofNat, Nat.reducePow, Nat.reduceMod] at h1
      exact congrArg _ (h1 _ _ _ (by simp only; omega)).symm
    · rw [dif_neg h8, select_ge _ (by decide) _ (by omega)]
      simp only [BitVec.toNat_ofNat, Nat.reducePow, Nat.reduceMod] at h0 h1 ⊢
      split
      · exact congrArg _ (h0 _ _ _ (by simp only; omega)).symm
      · exact congrArg _ (h1 _ _ _ (by simp only; omega)).symm

theorem conv_eq {U : FVec Ideal S256x512 .f32} {H : FVec Ideal S8x512 .f32} {W0 W1 W2 B : FVec Ideal S1x512 .f32}
    {u v1 v2 : Fin 256 → Fin 512 → ℝ} {w0 w1 w2 b : Fin 512 → ℝ}
    (hU : U = fun j => ((u (j 0) (j 1) : ℝ) : EReal)) (h1 : down 1#32 U H = fun j => ((v1 (j 0) (j 1) : ℝ) : EReal))
    (h2 : down 2#32 U H = fun j => ((v2 (j 0) (j 1) : ℝ) : EReal))
    (hW0 : W0 = fun j => ((w0 (j 1) : ℝ) : EReal)) (hW1 : W1 = fun j => ((w1 (j 1) : ℝ) : EReal))
    (hW2 : W2 = fun j => ((w2 (j 1) : ℝ) : EReal)) (hB : B = fun j => ((b (j 1) : ℝ) : EReal)) :
    conv U H W0 W1 W2 B = fun j => ((w0 (j 1) * v2 (j 0) (j 1) + w1 (j 1) * v1 (j 0) (j 1) + w2 (j 1) * u (j 0) (j 1) + b (j 1) : ℝ) : EReal) := by
  unfold conv
  rw [h1, h2]
  funext j; idx_vars j
  pointwise [hU, hW0, hW1, hW2, hB]
  simp only [lift_mul, lift_add]
  exact congrArg _ (by ring)

theorem back_eq {D : FVec Ideal S256x512 .f32} {N : FVec Ideal S8x512 .f32} {W0 W1 W2 : FVec Ideal S1x512 .f32}
    {d v1 v2 : Fin 256 → Fin 512 → ℝ} {w0 w1 w2 : Fin 512 → ℝ}
    (hD : D = fun j => ((d (j 0) (j 1) : ℝ) : EReal)) (h1 : up 255#32 7#32 D N = fun j => ((v1 (j 0) (j 1) : ℝ) : EReal))
    (h2 : up 254#32 6#32 D N = fun j => ((v2 (j 0) (j 1) : ℝ) : EReal))
    (hW0 : W0 = fun j => ((w0 (j 1) : ℝ) : EReal)) (hW1 : W1 = fun j => ((w1 (j 1) : ℝ) : EReal))
    (hW2 : W2 = fun j => ((w2 (j 1) : ℝ) : EReal)) :
    back D N W0 W1 W2 = fun j => ((w0 (j 1) * v2 (j 0) (j 1) + w1 (j 1) * v1 (j 0) (j 1) + w2 (j 1) * d (j 0) (j 1) : ℝ) : EReal) := by
  unfold back
  rw [h1, h2]
  funext j; idx_vars j
  pointwise [hD, hW0, hW1, hW2]
  simp only [lift_mul, lift_add, lift_zero, zero_add]

theorem colsum_eq {D : FVec Ideal S256x512 .f32} {A : FVec Ideal S1x512 .f32} {d : Fin 256 → Fin 512 → ℝ}
    (hD : D = fun j => ((d (j 0) (j 1) : ℝ) : EReal)) :
    colsum D A = fun j => A j + ((∑ i, d i (j 1) : ℝ) : EReal) := by
  funext j; idx_vars j
  pointwise [colsum, hD]
  simp only [lift_sum]

theorem act_eq {G X : FVec Ideal S256x512 .f32} {g x : Fin 256 → Fin 512 → ℝ}
    (hG : G = fun j => ((g (j 0) (j 1) : ℝ) : EReal)) (hX : X = fun j => ((x (j 0) (j 1) : ℝ) : EReal)) :
    truncf .bf16 (mulf (k0_pay28 (F := Ideal) G) X) bitsLt_bf16_f32 = fun j => ((gelu (g (j 0) (j 1)) * x (j 0) (j 1) : ℝ) : EReal) := by
  funext j; idx_vars j
  pointwise [k0_pay28, k0_pay27, hG, hX]
  simp only [bits_half, bits_one, bits_gelu, named_a, lift_one, lift_mul, lift_add, Ideal.tanh_coe, gelu, th]

theorem dact_eq {Z : FVec Ideal S256x1024 .bf16} {W : FVec Ideal S512x1024 .bf16} {z : Fin 256 → Fin 1024 → ℝ} {w : Fin 512 → Fin 1024 → ℝ}
    (hZ : Z = fun j => ((z (j 0) (j 1) : ℝ) : EReal)) (hW : W = fun j => ((w (j 0) (j 1) : ℝ) : EReal)) :
    k0_pay31 (F := Ideal) Z (k0_pay30 W) = fun j => ((∑ k, z (j 0) k * w (j 1) k : ℝ) : EReal) := by
  funext j; idx_vars j
  pointwise [k0_pay31, k0_pay30, hZ, hW]
  simp only [lift_mul, lift_sum, lift_zero, lift_add, zero_add]

theorem dgate_eq {Z : FVec Ideal S256x1024 .bf16} {W : FVec Ideal S512x1024 .bf16} {G X : FVec Ideal S256x512 .f32}
    {e g x : Fin 256 → Fin 512 → ℝ} (hE : k0_pay31 (F := Ideal) Z (k0_pay30 W) = fun j => ((e (j 0) (j 1) : ℝ) : EReal))
    (hG : G = fun j => ((g (j 0) (j 1) : ℝ) : EReal)) (hX : X = fun j => ((x (j 0) (j 1) : ℝ) : EReal)) :
    k0_pay32 (F := Ideal) Z G X (k0_pay27 G) (k0_pay30 W)
      = fun j => ((e (j 0) (j 1) * x (j 0) (j 1) * dgelu (g (j 0) (j 1)) : ℝ) : EReal) := by
  unfold k0_pay32
  rw [hE]
  funext j; idx_vars j
  pointwise [k0_pay27, hG, hX]
  simp only [bits_half, bits_one, bits_gelu, named_a, named_3a, lift_one, lift_mul, lift_add, lift_sub, Ideal.tanh_coe, dgelu, th]

theorem dval_eq {Z : FVec Ideal S256x1024 .bf16} {W : FVec Ideal S512x1024 .bf16} {G : FVec Ideal S256x512 .f32}
    {e g : Fin 256 → Fin 512 → ℝ} (hE : k0_pay31 (F := Ideal) Z (k0_pay30 W) = fun j => ((e (j 0) (j 1) : ℝ) : EReal))
    (hG : G = fun j => ((g (j 0) (j 1) : ℝ) : EReal)) :
    k0_pay33 (F := Ideal) Z (k0_pay28 G) (k0_pay30 W) = fun j => ((e (j 0) (j 1) * gelu (g (j 0) (j 1)) : ℝ) : EReal) := by
  unfold k0_pay33
  rw [hE]
  funext j; idx_vars j
  pointwise [k0_pay28, k0_pay27, hG]
  simp only [bits_half, bits_one, bits_gelu, named_a, lift_one, lift_mul, lift_add, Ideal.tanh_coe, gelu, th]

theorem keep_eq {D : FVec Ideal S256x512 .f32} {d : Fin 256 → Fin 512 → ℝ} (hD : D = fun j => ((d (j 0) (j 1) : ℝ) : EReal)) :
    k0_pay46 (F := Ideal) D = fun j : S8x512.Idx => ((d (Fin.castLE (by decide) (j 0 : Fin 8)) (j 1) : ℝ) : EReal) := by
  funext j; idx_vars j
  pointwise [k0_pay46, hD]
  rfl

end Cert.BwdValue

end
-- ==== Proof.BwdBlocks.lean ====
/-
  What the kernel of the ConvFFN's gradient reads at finite arguments: at a grid point each staged block is the coercion of
  a tile of a real array of `BwdReals.lean`, the layer norm's input among them, which the host computes before the call.
  The tiles of a sequence come last to first. Then the convolution and its gradient, chunk by chunk.
-/
module

public import proofs.«01_k».proof.Proof.BwdFrameIdeal
public import proofs.«01_k».proof.Proof.BwdChunks
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.BwdValue

open Idealize.ShloMosaic Idealize.ShloMosaic.TcCoe Idealize.SL.Sem
open Idealize.ShloMosaic.Pipeline (Dat)
open Cert.FfnBwdIdeal Cert.FfnBwdIdeal.Gen Cert.Reals Cert.Bwd

/-- The launch memory's arguments on device `c` are the reals of `a`. -/
structure Reads (m : (ℓ : Loc nD τ sig) → Buf (Elt Ideal) ℓ) (c : Dev nD) (a : Inputs) : Prop where
  ct : m ((c : Thread nD τ).loc main_arg0) = fun j : S8192x1024.Idx => ((a.ct (j 0) (j 1) : ℝ) : EReal)
  x : m ((c : Thread nD τ).loc main_arg1) = fun j : S8192x1024.Idx => ((a.x (j 0) (j 1) : ℝ) : EReal)
  up : m ((c : Thread nD τ).loc main_arg2) = fun j : S8192x6144.Idx => ((a.up (j 0) (j 1) : ℝ) : EReal)
  w : m ((c : Thread nD τ).loc main_arg3) = fun j : S3x6144.Idx => ((a.w (j 0) (j 1) : ℝ) : EReal)
  b : m ((c : Thread nD τ).loc main_arg4) = fun j : S4x6144.Idx => ((a.b (j 0) (j 1) : ℝ) : EReal)
  d : m ((c : Thread nD τ).loc main_arg5) = fun j : S3072x1024.Idx => ((a.d (j 0) (j 1) : ℝ) : EReal)
  g : m ((c : Thread nD τ).loc main_arg6) = fun j : S4x1024.Idx => ((a.g (j 0) (j 1) : ℝ) : EReal)

variable {m : (ℓ : Loc nD τ sig) → Buf (Elt Ideal) ℓ} {c : Dev nD} {a : Inputs}

/-! ## The host's part: the convolution and the layer norm's input -/

/-- The host's convolution. -/
def hostConv (U : FVec Ideal S8192x6144 .f32) (W : FVec Ideal S3x6144 .f32) (B : FVec Ideal S4x6144 .f32) : FVec Ideal S8192x6144 .f32 :=
  let X : FVec Ideal S4x2050x6144 .f32 := concatenate S4x2050x6144 1
    [⟨S4x2x6144, broadcastInDim S4x2x6144 ![] bcast_S_S4x2x6144 (constant S_ .f32 0x00000000#32)⟩,
     ⟨S4x2048x6144, shapeCast S4x2048x6144 U shapeCasts_S8192x6144_S4x2048x6144⟩] concatenates_S4x2x6144_S4x2048x6144_S4x2050x6144_d1
  let wide (w : FVec Ideal S1x6144 .f32) : FVec Ideal S4x2048x6144 .f32 := broadcastInDim S4x2048x6144 ![0, 1, 2] bcast_S1x1x6144_S4x2048x6144_0_1_2
    (broadcastInDim S1x1x6144 ![1, 2] bcast_S1x6144_S1x1x6144_1_2 w)
  shapeCast S8192x6144 (addf (addf (addf
    (mulf (wide (extractStridedSlice S1x6144 ![0, 0] W slices_S3x6144_S1x6144_0_0)) (extractStridedSlice S4x2048x6144 ![0, 0, 0] X slices_S4x2050x6144_S4x2048x6144_0_0_0))
    (mulf (wide (extractStridedSlice S1x6144 ![1, 0] W slices_S3x6144_S1x6144_1_0)) (extractStridedSlice S4x2048x6144 ![0, 1, 0] X slices_S4x2050x6144_S4x2048x6144_0_1_0)))
    (mulf (wide (extractStridedSlice S1x6144 ![2, 0] W slices_S3x6144_S1x6144_2_0)) (extractStridedSlice S4x2048x6144 ![0, 2, 0] X slices_S4x2050x6144_S4x2048x6144_0_2_0)))
    (wide (extractStridedSlice S1x6144 ![3, 0] B slices_S4x6144_S1x6144_3_0))) shapeCasts_S4x2048x6144_S8192x6144

/-- The host's activation and down projection. -/
def hostZ (H : FVec Ideal S8192x6144 .f32) (X : FVec Ideal S8192x1024 .f32) (D : FVec Ideal S3072x1024 .f32) : FVec Ideal S8192x1024 .f32 :=
  let k (b : BitVec 32) : FVec Ideal S8192x3072 .f32 := broadcastInDim S8192x3072 ![] bcast_S_S8192x3072 (constant S_ .f32 b)
  let G : FVec Ideal S8192x3072 .f32 := extractStridedSlice S8192x3072 ![0, 0] H slices_S8192x6144_S8192x3072_0_0
  addf (mulf (broadcastInDim S8192x1024 ![] bcast_S_S8192x1024 (constant S_ .f32 0x3FD744FD#32)) X)
    (Host.dotGeneral dot_S8192x3072_S3072x1024_S8192x1024_1_0_0_1_n_n none
      (mulf (mulf G (mulf (k 0x3F000000#32) (addf (k 0x3F800000#32) (Host.tanh (mulf (k 0x3F4C422A#32)
        (addf G (Host.divf (mulf (mulf (mulf G G) G) (k 0x472EAB00#32)) (k 0x49742400#32))))))))
        (extractStridedSlice S8192x3072 ![0, 3072] H slices_S8192x6144_S8192x3072_0_3072)) D)

/-- One row of the padded up projection. -/
theorem tap_at (s : ℕ) (hs : s ≤ 2) (r : Fin 8192) (n : ℕ) (hn : n + s = 2 + r.val % 2048) (l : Fin 6144) (q : ℕ) (hq : q = r.val / 2048)
    (h2 : ¬ n < 2 → q * 2048 + (n - 2) < 8192) :
    (if h : n < 2 then (0 : EReal) else ((a.up ⟨q * 2048 + (n - 2), h2 h⟩ l : ℝ) : EReal)) = ((a.tap s r l : ℝ) : EReal) := by
  unfold Inputs.tap
  by_cases h : r.val % 2048 < s
  · rw [dif_pos (by omega), if_pos h, lift_zero]
  · rw [dif_neg (by omega), if_neg h]
    exact congrArg (fun r => ((a.up r l : ℝ) : EReal)) (Fin.ext (by simp only; omega))

theorem tap_zero (a : Inputs) (r : Fin 8192) (l : Fin 6144) : a.tap 0 r l = a.up r l := by
  unfold Inputs.tap
  rw [if_neg (Nat.not_lt_zero _)]
  rfl

theorem hostConv_eq {U : FVec Ideal S8192x6144 .f32} {W : FVec Ideal S3x6144 .f32} {B : FVec Ideal S4x6144 .f32}
    (hU : U = fun j => ((a.up (j 0) (j 1) : ℝ) : EReal)) (hW : W = fun j => ((a.w (j 0) (j 1) : ℝ) : EReal))
    (hB : B = fun j => ((a.b (j 0) (j 1) : ℝ) : EReal)) :
    hostConv U W B = fun j : S8192x6144.Idx => ((a.hc (j 0) (j 1) : ℝ) : EReal) := by
  funext j; idx_vars j
  pointwise [hostConv, hU, hW, hB]
  rw [tap_at 2 (by omega) j0 _ (by omega) j1 _ rfl, tap_at 1 (by omega) j0 _ (by omega) j1 _ rfl, ← tap_zero]
  simp only [lift_mul, lift_add, Inputs.hc]

theorem hostZ_eq {H : FVec Ideal S8192x6144 .f32} {X : FVec Ideal S8192x1024 .f32} {D : FVec Ideal S3072x1024 .f32}
    (hH : H = fun j => ((a.hc (j 0) (j 1) : ℝ) : EReal)) (hX : X = fun j => ((a.x (j 0) (j 1) : ℝ) : EReal))
    (hD : D = fun j => ((a.d (j 0) (j 1) : ℝ) : EReal)) :
    hostZ H X D = fun j : S8192x1024.Idx => ((a.z (j 0) (j 1) : ℝ) : EReal) := by
  funext j; idx_vars j
  pointwise [hostZ, hH, hX, hD]
  simp only [bits_resid, bits_half, bits_one, bits_gelu, bits_44715, bits_million, lift_one, lift_mul, lift_add,
    lift_div_million, Ideal.tanh_coe, th_cubic, lift_sum]
  refine congrArg _ (congrArg (_ + ·) (Finset.sum_congr rfl fun k _ => ?_))
  simp only [Inputs.act, gelu, th, Inputs.hg, Inputs.hv]
  ring

/-! ## The staged blocks -/

/-- The tile of grid point `t`: a sequence's tiles are visited last to first. -/
def tile (t : ℕ) : ℕ := t / 8 * 8 + (7 - t % 8)

/-- Row `i` of grid point `t`'s tile. -/
def row (t : Fin cfg0.N) (i : Fin 256) : Fin 8192 :=
  ⟨tile t.val * 256 + i, by have := lt_of_lt_of_eq t.isLt N_0; unfold tile; omega⟩

theorem idx : ∀ t : Fin cfg0.N, win0_0.index t = ![tile t.val, 0] ∧ win0_1.index t = ![tile t.val, 0] ∧ win0_2.index t = ![tile t.val, 0]
    ∧ win0_3.index t = ![tile t.val * 32 - 1, 0] ∧ win0_4.index t = ![0, 0] ∧ win0_5.index t = ![0, 0] ∧ win0_6.index t = ![0, 0]
    ∧ win0_7.index t = ![0, 0] ∧ win0_8.index t = ![tile t.val, 0] ∧ win0_9.index t = ![tile t.val, 0] ∧ win0_10.index t = ![tile t.val, 0]
    ∧ win0_11.index t = ![0, 0] ∧ win0_12.index t = ![0, 0] ∧ win0_13.index t = ![0, 0] ∧ win0_14.index t = ![0, 0] :=
  (by decide +kernel : ∀ t : Fin grid0.N, _)

theorem hostw (R : Reads m c a) : V m c main_v47 = fun j : S3072x1024.Idx => ((a.d (j 0) (j 1) : ℝ) : EReal) := by
  entry_read
  funext j; idx_vars j
  pointwise [R.d]

theorem hostz (R : Reads m c a) : V m c main_v46 = fun j : S8192x1024.Idx => ((a.z (j 0) (j 1) : ℝ) : EReal) := by
  have e : V m c main_v46 = hostZ (hostConv (m ((c : Thread nD τ).loc main_arg2)) (m ((c : Thread nD τ).loc main_arg3))
      (m ((c : Thread nD τ).loc main_arg4))) (m ((c : Thread nD τ).loc main_arg1)) (m ((c : Thread nD τ).loc main_arg5)) := by
    entry_read; rfl
  rw [e]
  exact hostZ_eq (hostConv_eq R.up R.w R.b) R.x R.d

theorem blk0 (R : Reads m c a) (t : Fin cfg0.N) :
    iblk m c 0 t = fun j : S256x1024.Idx => ((a.ct (row t (j 0)) (j 1) : ℝ) : EReal) := by
  funext j; idx_vars j
  refine Eq.trans (b := m ((c : Thread nD τ).loc main_arg0) (ix2 (row t j0) j1)) ?_ (by rw [R.ct]; rfl)
  blk_ext [iblk, V, idx t, row]

theorem blk1 (R : Reads m c a) (t : Fin cfg0.N) :
    iblk m c 1 t = fun j : S256x1024.Idx => ((a.z (row t (j 0)) (j 1) : ℝ) : EReal) := by
  funext j; idx_vars j
  refine Eq.trans (b := V m c main_v46 (ix2 (row t j0) j1)) ?_ (by rw [hostz R]; rfl)
  blk_ext [iblk, idx t, row]

theorem blk2 (R : Reads m c a) (t : Fin cfg0.N) :
    iblk m c 2 t = fun j : S256x6144.Idx => ((a.up (row t (j 0)) (j 1) : ℝ) : EReal) := by
  funext j; idx_vars j
  refine Eq.trans (b := m ((c : Thread nD τ).loc main_arg2) (ix2 (row t j0) j1)) ?_ (by rw [R.up]; rfl)
  blk_ext [iblk, V, idx t, row]

theorem blk3 (R : Reads m c a) (t : Fin cfg0.N) :
    iblk m c 3 t = fun j : S8x6144.Idx => ((a.up ⟨(tile t.val * 32 - 1) * 8 + (j 0).val, by
      have := lt_of_lt_of_eq t.isLt N_0; have : (j 0).val < 8 := (j 0).isLt; unfold tile; omega⟩ (j 1) : ℝ) : EReal) := by
  have := lt_of_lt_of_eq t.isLt N_0
  funext j; idx_vars j
  refine Eq.trans (b := m ((c : Thread nD τ).loc main_arg2) (ix2 (⟨(tile t.val * 32 - 1) * 8 + j0.val, by unfold tile; omega⟩ : Fin 8192) j1)) ?_
    (by rw [R.up]; rfl)
  blk_ext [iblk, V, idx t]

theorem blk4 (R : Reads m c a) (t : Fin cfg0.N) :
    iblk m c 4 t = fun j : S3x6144.Idx => ((a.w (j 0) (j 1) : ℝ) : EReal) := by
  funext j; idx_vars j
  refine Eq.trans (b := m ((c : Thread nD τ).loc main_arg3) (ix2 j0 j1)) ?_ (by rw [R.w]; rfl)
  blk_ext [iblk, V, idx t]

theorem blk5 (R : Reads m c a) (t : Fin cfg0.N) :
    iblk m c 5 t = fun j : S4x6144.Idx => ((a.b (j 0) (j 1) : ℝ) : EReal) := by
  funext j; idx_vars j
  refine Eq.trans (b := m ((c : Thread nD τ).loc main_arg4) (ix2 j0 j1)) ?_ (by rw [R.b]; rfl)
  blk_ext [iblk, V, idx t]

theorem blk6 (R : Reads m c a) (t : Fin cfg0.N) :
    iblk m c 6 t = fun j : S3072x1024.Idx => ((a.d (j 0) (j 1) : ℝ) : EReal) := by
  funext j; idx_vars j
  refine Eq.trans (b := V m c main_v47 (ix2 j0 j1)) ?_ (by rw [hostw R]; rfl)
  blk_ext [iblk, idx t]

theorem blk7 (R : Reads m c a) (t : Fin cfg0.N) :
    iblk m c 7 t = fun j : S4x1024.Idx => ((a.g (j 0) (j 1) : ℝ) : EReal) := by
  funext j; idx_vars j
  refine Eq.trans (b := m ((c : Thread nD τ).loc main_arg6) (ix2 j0 j1)) ?_ (by rw [R.g]; rfl)
  blk_ext [iblk, V, idx t]

/-! ## One chunk of 512 columns -/

/-- A chunk is loaded in bounds. -/
theorem inb {p q n k : ℕ} (i o : ℕ) (h0 : i + n ≤ p) (h1 : o + k ≤ q) :
    ∀ x, (![i, o] : Fin 2 → ℕ) x + (![n, k] : Fin 2 → ℕ) x ≤ (⟨2, ![p, q]⟩ : Shape).size x :=
  Fin.forall_fin_two.mpr ⟨h0, h1⟩

/-- Column `l` of the chunk that starts at column `o`. -/
def col (o : ℕ) (ho : o + 512 ≤ 6144) (l : Fin 512) : Fin 6144 := ⟨o + l.val, by omega⟩

/-- A load of a rectangle of a real array. -/
theorem ld_eq {p q n k : ℕ} (X : (⟨2, ![p, q]⟩ : Shape).Idx → EReal) (f : Fin p → Fin q → ℝ)
    (hX : X = fun j => ((f (j 0) (j 1) : ℝ) : EReal)) (i o : ℕ) (h0 : i + n ≤ p) (h1 : o + k ≤ q)
    (h : ∀ x, (![i, o] : Fin 2 → ℕ) x + (![n, k] : Fin 2 → ℕ) x ≤ (⟨2, ![p, q]⟩ : Shape).size x) :
    (fun x : (⟨2, ![n, k]⟩ : Shape).Idx => X ((Rect.unit (s := ⟨2, ![p, q]⟩) ![i, o] ![n, k] h).idx x))
      = fun j : (⟨2, ![n, k]⟩ : Shape).Idx => ((f ⟨i + (j 0).val, Nat.lt_of_lt_of_le (Nat.add_lt_add_left (j 0).isLt i) h0⟩
          ⟨o + (j 1).val, Nat.lt_of_lt_of_le (Nat.add_lt_add_left (j 1).isLt o) h1⟩ : ℝ) : EReal) := by
  rw [hX]
  funext j
  exact congrArg₂ (fun r l => ((f r l : ℝ) : EReal)) (Fin.ext (congrArg (i + ·) (Nat.one_mul _))) (Fin.ext (congrArg (o + ·) (Nat.one_mul _)))

variable (m c)

abbrev ldU (t : Fin cfg0.N) (o : ℕ) (ho : o + 512 ≤ 6144) : FVec Ideal S256x512 .f32 :=
  View.ld (iblk m c 2 t) (Rect.unit (s := S256x6144) ![0, o] ![256, 512] (inb 0 o (by omega) ho))
abbrev ldH (t : Fin cfg0.N) (kp : Ideal .f32) (o : ℕ) (ho : o + 512 ≤ 6144) : FVec Ideal S8x512 .f32 :=
  mulf (View.ld (iblk m c 3 t) (Rect.unit (s := S8x6144) ![0, o] ![8, 512] (inb 0 o (by omega) ho)) : FVec Ideal S8x512 .f32) (broadcast S8x512 kp)
abbrev ldW (t : Fin cfg0.N) (k : ℕ) (hk : k + 1 ≤ 3) (o : ℕ) (ho : o + 512 ≤ 6144) : FVec Ideal S1x512 .f32 :=
  View.ld (iblk m c 4 t) (Rect.unit (s := S3x6144) ![k, o] ![1, 512] (inb k o hk ho))
abbrev ldB (t : Fin cfg0.N) (o : ℕ) (ho : o + 512 ≤ 6144) : FVec Ideal S1x512 .f32 :=
  View.ld (iblk m c 5 t) (Rect.unit (s := S4x6144) ![3, o] ![1, 512] (inb 3 o (by omega) ho))
abbrev ldD (t : Fin cfg0.N) (o : ℕ) (ho : o + 512 ≤ 3072) : FVec Ideal S512x1024 .bf16 :=
  View.ld (iblk m c 6 t) (Rect.unit (s := S3072x1024) ![o, 0] ![512, 1024] (inb o 0 ho (by omega)))
abbrev ldG (t : Fin cfg0.N) : FVec Ideal S1x1024 .f32 :=
  View.ld (iblk m c 7 t) (Rect.unit (s := S4x1024) ![3, 0] ![1, 1024] (inb 3 0 (by omega) (by omega)))

/-- The convolution of a chunk. -/
def cv (t : Fin cfg0.N) (kp : Ideal .f32) (o : ℕ) (ho : o + 512 ≤ 6144) : FVec Ideal S256x512 .f32 :=
  conv (ldU m c t o ho) (ldH m c t kp o ho) (ldW m c t 0 (by omega) o ho) (ldW m c t 1 (by omega) o ho) (ldW m c t 2 (by omega) o ho) (ldB m c t o ho)

/-- The gradient with respect to the layer norm's input. -/
def dzv (t : Fin cfg0.N) : FVec Ideal S256x1024 .f32 :=
  k0_pay13 (k0_pay8 (iblk m c 1 t)) (k0_pay9 (iblk m c 1 t)) (k0_pay11 (iblk m c 0 t) (ldG m c t)) (k0_pay12 (iblk m c 0 t) (iblk m c 1 t) (ldG m c t))

/-- The same in the matrix unit's format. -/
def dzb (t : Fin cfg0.N) : FVec Ideal S256x1024 .bf16 :=
  k0_pay16 (k0_pay8 (iblk m c 1 t)) (k0_pay9 (iblk m c 1 t)) (k0_pay11 (iblk m c 0 t) (ldG m c t)) (k0_pay12 (iblk m c 0 t) (iblk m c 1 t) (ldG m c t))

/-- The gradient of a chunk of the gate half. -/
def dgate (t : Fin cfg0.N) (kp : Ideal .f32) (o : ℕ) (ho : o + 512 ≤ 6144) (p : ℕ) (hp : p + 512 ≤ 6144) (ho' : o + 512 ≤ 3072) : FVec Ideal S256x512 .f32 :=
  k0_pay32 (dzb m c t) (cv m c t kp o ho) (cv m c t kp p hp) (k0_pay27 (cv m c t kp o ho)) (k0_pay30 (ldD m c t o ho'))

/-- The gradient of a chunk of the value half. -/
def dval (t : Fin cfg0.N) (kp : Ideal .f32) (o : ℕ) (ho : o + 512 ≤ 6144) (ho' : o + 512 ≤ 3072) : FVec Ideal S256x512 .f32 :=
  k0_pay33 (dzb m c t) (k0_pay28 (cv m c t kp o ho)) (k0_pay30 (ldD m c t o ho'))

variable {m c}

theorem ldU_eq (R : Reads m c a) (t : Fin cfg0.N) (o : ℕ) (ho : o + 512 ≤ 6144) :
    ldU m c t o ho = fun j : S256x512.Idx => ((a.up (row t (j 0)) (col o ho (j 1)) : ℝ) : EReal) := by
  refine (ld_eq (p := 256) (q := 6144) (n := 256) (k := 512) _ (fun i l => a.up (row t i) l) (blk2 R t) 0 o (by omega) ho _).trans ?_
  funext j
  exact congrArg (fun i => ((a.up (row t i) (col o ho (j 1)) : ℝ) : EReal)) (Fin.ext (Nat.zero_add _))

theorem ldW_eq (R : Reads m c a) (t : Fin cfg0.N) (k : ℕ) (hk : k + 1 ≤ 3) (o : ℕ) (ho : o + 512 ≤ 6144) :
    ldW m c t k hk o ho = fun j : S1x512.Idx => ((a.w ⟨k, hk⟩ (col o ho (j 1)) : ℝ) : EReal) := by
  refine (ld_eq (p := 3) (q := 6144) (n := 1) (k := 512) _ (fun i l => a.w i l) (blk4 R t) k o hk ho _).trans ?_
  funext j
  refine congrArg (fun i => ((a.w i (col o ho (j 1)) : ℝ) : EReal)) (Fin.ext ?_)
  have : (j 0).val < 1 := (j 0).isLt
  show k + (j 0).val = k
  omega

theorem ldB_eq (R : Reads m c a) (t : Fin cfg0.N) (o : ℕ) (ho : o + 512 ≤ 6144) :
    ldB m c t o ho = fun j : S1x512.Idx => ((a.b 3 (col o ho (j 1)) : ℝ) : EReal) := by
  refine (ld_eq (p := 4) (q := 6144) (n := 1) (k := 512) _ (fun i l => a.b i l) (blk5 R t) 3 o (by omega) ho _).trans ?_
  funext j
  refine congrArg (fun i => ((a.b i (col o ho (j 1)) : ℝ) : EReal)) (Fin.ext ?_)
  have : (j 0).val < 1 := (j 0).isLt
  show 3 + (j 0).val = 3
  omega

theorem ldG_eq (R : Reads m c a) (t : Fin cfg0.N) : ldG m c t = fun j : S1x1024.Idx => ((a.g 3 (j 1) : ℝ) : EReal) := by
  refine (ld_eq (p := 4) (q := 1024) (n := 1) (k := 1024) _ (fun i l => a.g i l) (blk7 R t) 3 0 (by omega) (by omega) _).trans ?_
  funext j
  refine congrArg₂ (fun i l => ((a.g i l : ℝ) : EReal)) (Fin.ext ?_) (Fin.ext (Nat.zero_add _))
  have : (j 0).val < 1 := (j 0).isLt
  show 3 + (j 0).val = 3
  omega

theorem ldD_eq (R : Reads m c a) (t : Fin cfg0.N) (o : ℕ) (ho : o + 512 ≤ 3072) :
    ldD m c t o ho = fun j : S512x1024.Idx => ((a.d ⟨o + (j 0).val, Nat.lt_of_lt_of_le (Nat.add_lt_add_left (j 0).isLt o) ho⟩ (j 1) : ℝ) : EReal) := by
  refine (ld_eq (p := 3072) (q := 1024) (n := 512) (k := 1024) _ (fun i l => a.d i l) (blk6 R t) o 0 ho (by omega) _).trans ?_
  funext j
  exact congrArg (fun l => ((a.d _ l : ℝ) : EReal)) (Fin.ext (Nat.zero_add _))

/-- What the kernel multiplies the halo by: nothing is left of it in a sequence's first tile. -/
def Keeps (t : Fin cfg0.N) (kp : Ideal .f32) : Prop := kp = (((if t.val % 8 = 7 then 0 else 1 : ℝ)) : EReal)

/-- The halo above a tile. -/
def halo (a : Inputs) (t : Fin cfg0.N) (j : Fin 8) (l : Fin 6144) : ℝ :=
  if h : t.val % 8 = 7 then 0 else a.up ⟨tile t.val * 256 - 8 + j, by have := lt_of_lt_of_eq t.isLt N_0; unfold tile; omega⟩ l

theorem ldH_eq (R : Reads m c a) (t : Fin cfg0.N) {kp : Ideal .f32} (hk : Keeps t kp) (o : ℕ) (ho : o + 512 ≤ 6144) :
    ldH m c t kp o ho = fun j : S8x512.Idx => ((halo a t (j 0) (col o ho (j 1)) : ℝ) : EReal) := by
  have hN := lt_of_lt_of_eq t.isLt N_0
  have e := ld_eq (p := 8) (q := 6144) (n := 8) (k := 512) _ (fun j l => a.up ⟨(tile t.val * 32 - 1) * 8 + j.val, by unfold tile; omega⟩ l)
    (blk3 R t) 0 o (by omega) ho (inb 0 o (by omega) ho)
  refine (congrArg (fun v : FVec Ideal S8x512 .f32 => mulf v (broadcast S8x512 kp)) e).trans ?_
  funext j; idx_vars j
  unfold Keeps at hk
  pointwise [hk]
  unfold halo
  by_cases h : t.val % 8 = 7
  · rw [dif_pos h, if_pos h, lift_mul, mul_zero]
  · rw [dif_neg h, if_neg h, lift_mul, mul_one]
    exact congrArg₂ (fun r l => ((a.up r l : ℝ) : EReal)) (Fin.ext (by simp only [tile]; omega)) rfl

theorem down_tap (R : Reads m c a) (t : Fin cfg0.N) {kp : Ideal .f32} (hk : Keeps t kp) (o : ℕ) (ho : o + 512 ≤ 6144)
    (s : BitVec 32) (hs : s = 1#32 ∨ s = 2#32) :
    down s (ldU m c t o ho) (ldH m c t kp o ho) = fun j : S256x512.Idx => ((a.tap s.toNat (row t (j 0)) (col o ho (j 1)) : ℝ) : EReal) := by
  have hN := lt_of_lt_of_eq t.isLt N_0
  have hs2 : 1 ≤ s.toNat ∧ s.toNat ≤ 2 := by rcases hs with rfl | rfl <;> decide
  refine down_eq s hs (u := fun i l => a.up (row t i) (col o ho l)) (h := fun i l => halo a t i (col o ho l))
    (v := fun i l => a.tap s.toNat (row t i) (col o ho l)) (ldU_eq R t o ho) (ldH_eq R t hk o ho) (fun i k l e => ?_) (fun i k l e => ?_)
  · unfold Inputs.tap halo
    by_cases h : t.val % 8 = 7
    · rw [dif_pos h, if_pos (by simp only [row, tile]; omega)]
    · rw [dif_neg h, if_neg (by simp only [row, tile]; omega)]
      exact congrArg (fun r => a.up r _) (Fin.ext (by simp only [row, tile]; omega))
  · unfold Inputs.tap
    rw [if_neg (by simp only [row, tile]; omega)]
    exact congrArg (fun r => a.up r _) (Fin.ext (by simp only [row, tile]; omega))

theorem cv_eq (R : Reads m c a) (t : Fin cfg0.N) {kp : Ideal .f32} (hk : Keeps t kp) (o : ℕ) (ho : o + 512 ≤ 6144) :
    cv m c t kp o ho = fun j : S256x512.Idx => ((a.hc (row t (j 0)) (col o ho (j 1)) : ℝ) : EReal) := by
  refine (conv_eq (u := fun i l => a.up (row t i) (col o ho l)) (v1 := fun i l => a.tap 1 (row t i) (col o ho l))
    (v2 := fun i l => a.tap 2 (row t i) (col o ho l)) (w0 := fun l => a.w 0 (col o ho l)) (w1 := fun l => a.w 1 (col o ho l))
    (w2 := fun l => a.w 2 (col o ho l)) (b := fun l => a.b 3 (col o ho l))
    (ldU_eq R t o ho) (down_tap R t hk o ho 1#32 (.inl rfl)) (down_tap R t hk o ho 2#32 (.inr rfl))
    (ldW_eq R t 0 _ o ho) (ldW_eq R t 1 _ o ho) (ldW_eq R t 2 _ o ho) (ldB_eq R t o ho)).trans ?_
  funext j
  simp only [Inputs.hc, tap_zero]

section Norm

variable {ct z : FVec Ideal S256x1024 .f32} {rc rz : Fin 256 → Fin 1024 → ℝ}

theorem cen_pay (hz : z = fun j => ((rz (j 0) (j 1) : ℝ) : EReal)) :
    k0_pay7 (F := Ideal) z = fun j : S256x1024.Idx => ((cen (rz (j 0)) (j 1) : ℝ) : EReal) := by
  funext j; idx_vars j
  pointwise [k0_pay7, hz]
  simp only [bits_1024, lift_sum, lift_div_1024, lift_sub, cen, mean]

theorem rstd_pay (hz : z = fun j => ((rz (j 0) (j 1) : ℝ) : EReal)) :
    k0_pay8 (F := Ideal) z = fun j : S256x1.Idx => ((rstd (rz (j 0)) : ℝ) : EReal) := by
  funext j; idx_vars j
  pointwise [k0_pay8, cen_pay hz]
  simp only [bits_1024, bits_eps, lift_mul, lift_sum, lift_div_1024, lift_add]
  exact lift_rsqrt (vare_pos _)

theorem xhat_pay (hz : z = fun j => ((rz (j 0) (j 1) : ℝ) : EReal)) :
    k0_pay9 (F := Ideal) z = fun j : S256x1024.Idx => ((xhat (rz (j 0)) (j 1) : ℝ) : EReal) := by
  funext j; idx_vars j
  pointwise [k0_pay9, cen_pay hz, rstd_pay hz]
  simp only [lift_mul, xhat]

theorem dz_pay {g : FVec Ideal S1x1024 .f32} {rg : Fin 1024 → ℝ} (hc : ct = fun j => ((rc (j 0) (j 1) : ℝ) : EReal))
    (hz : z = fun j => ((rz (j 0) (j 1) : ℝ) : EReal)) (hg : g = fun j => ((rg (j 1) : ℝ) : EReal)) :
    k0_pay13 (F := Ideal) (k0_pay8 z) (k0_pay9 z) (k0_pay11 ct g) (k0_pay12 ct z g)
      = fun j : S256x1024.Idx => ((lnGrad (rc (j 0)) rg (rz (j 0)) (j 1) : ℝ) : EReal) := by
  funext j; idx_vars j
  pointwise [k0_pay13, k0_pay11, k0_pay12, k0_pay10, hc, hg, rstd_pay hz, xhat_pay hz]
  simp only [bits_1024, lift_mul, lift_sum, lift_div_1024, lift_sub]
  rfl

end Norm

theorem dzv_eq (R : Reads m c a) (t : Fin cfg0.N) : dzv m c t = fun j : S256x1024.Idx => ((a.dz (row t (j 0)) (j 1) : ℝ) : EReal) :=
  dz_pay (rc := fun i => a.ct (row t i)) (rz := fun i => a.z (row t i)) (blk0 R t) (blk1 R t) (ldG_eq R t)

theorem dzb_eq (R : Reads m c a) (t : Fin cfg0.N) : dzb m c t = fun j : S256x1024.Idx => ((a.dz (row t (j 0)) (j 1) : ℝ) : EReal) := by
  refine Eq.trans (b := truncf .bf16 (dzv m c t) bitsLt_bf16_f32) rfl ?_
  rw [dzv_eq R t]
  funext j; idx_vars j
  pointwise

theorem dact_blk (R : Reads m c a) (t : Fin cfg0.N) (o : ℕ) (ho' : o + 512 ≤ 3072) :
    k0_pay31 (F := Ideal) (dzb m c t) (k0_pay30 (ldD m c t o ho'))
      = fun j : S256x512.Idx => ((a.dact (row t (j 0)) ⟨o + (j 1).val, Nat.lt_of_lt_of_le (Nat.add_lt_add_left (j 1).isLt o) ho'⟩ : ℝ) : EReal) :=
  dact_eq (z := fun i k => a.dz (row t i) k) (w := fun l k => a.d ⟨o + l.val, by omega⟩ k) (dzb_eq R t) (ldD_eq R t o ho')

theorem dgate_blk (R : Reads m c a) (t : Fin cfg0.N) {kp : Ideal .f32} (hk : Keeps t kp) (o : ℕ) (ho : o + 512 ≤ 6144) (p : ℕ)
    (hp : p + 512 ≤ 6144) (ho' : o + 512 ≤ 3072) (hop : p = 3072 + o) :
    dgate m c t kp o ho p hp ho' = fun j : S256x512.Idx => ((a.dh (row t (j 0)) (col o ho (j 1)) : ℝ) : EReal) := by
  subst hop
  refine (dgate_eq (e := fun i l => a.dact (row t i) ⟨o + l.val, by omega⟩) (g := fun i l => a.hc (row t i) (col o ho l))
    (x := fun i l => a.hc (row t i) (col (3072 + o) hp l)) (dact_blk R t o ho') (cv_eq R t hk o ho) (cv_eq R t hk (3072 + o) hp)).trans ?_
  funext j; idx_vars j
  refine congrArg _ (Eq.trans ?_ (a.dh_gate (f := ⟨o + j1.val, by omega⟩) rfl).symm)
  unfold Inputs.dhg Inputs.hg Inputs.hv
  exact congrArg (fun l => a.dact _ _ * a.hc _ l * dgelu _) (Fin.ext (Nat.add_assoc _ _ _))

theorem dval_blk (R : Reads m c a) (t : Fin cfg0.N) {kp : Ideal .f32} (hk : Keeps t kp) (o : ℕ) (ho : o + 512 ≤ 6144) (p : ℕ)
    (hp : p + 512 ≤ 6144) (ho' : o + 512 ≤ 3072) (hop : p = 3072 + o) :
    dval m c t kp o ho ho' = fun j : S256x512.Idx => ((a.dh (row t (j 0)) (col p hp (j 1)) : ℝ) : EReal) := by
  subst hop
  refine (dval_eq (e := fun i l => a.dact (row t i) ⟨o + l.val, by omega⟩) (g := fun i l => a.hc (row t i) (col o ho l))
    (dact_blk R t o ho') (cv_eq R t hk o ho)).trans ?_
  funext j; idx_vars j
  exact congrArg _ (a.dh_val (f := ⟨o + j1.val, by omega⟩) (Nat.add_assoc _ _ _)).symm

theorem act_blk (R : Reads m c a) (t : Fin cfg0.N) {kp : Ideal .f32} (hk : Keeps t kp) (o : ℕ) (ho : o + 512 ≤ 6144) (p : ℕ)
    (hp : p + 512 ≤ 6144) (ho' : o + 512 ≤ 3072) (hop : p = 3072 + o) :
    truncf .bf16 (mulf (k0_pay28 (F := Ideal) (cv m c t kp o ho)) (cv m c t kp p hp)) bitsLt_bf16_f32
      = fun j : S256x512.Idx => ((a.act (row t (j 0)) ⟨o + (j 1).val, Nat.lt_of_lt_of_le (Nat.add_lt_add_left (j 1).isLt o) ho'⟩ : ℝ) : EReal) := by
  subst hop
  refine (act_eq (g := fun i l => a.hc (row t i) (col o ho l)) (x := fun i l => a.hc (row t i) (col (3072 + o) hp l))
    (cv_eq R t hk o ho) (cv_eq R t hk (3072 + o) hp)).trans ?_
  funext j; idx_vars j
  unfold Inputs.act Inputs.hg Inputs.hv
  exact congrArg (fun l : Fin 6144 => ((gelu (a.hc (row t j0) (col o ho j1)) * a.hc (row t j0) l : ℝ) : EReal))
    (Fin.ext (Nat.add_assoc 3072 o j1.val))

/-- The first rows of the next tile's gradient, zero after the sequence's end. -/
def ahead (a : Inputs) (t : Fin cfg0.N) (j : Fin 8) (l : Fin 6144) : ℝ :=
  if h : t.val % 8 = 0 then 0 else a.dh ⟨tile t.val * 256 + 256 + j, by have := lt_of_lt_of_eq t.isLt N_0; unfold tile; omega⟩ l

theorem up_next (t : Fin cfg0.N) (o : ℕ) (ho : o + 512 ≤ 6144) {D : FVec Ideal S256x512 .f32} {N : FVec Ideal S8x512 .f32}
    (hD : D = fun j => ((a.dh (row t (j 0)) (col o ho (j 1)) : ℝ) : EReal))
    (hN : N = fun j => ((ahead a t (j 0) (col o ho (j 1)) : ℝ) : EReal)) (s : ℕ) (r q : BitVec 32)
    (hs : (r = 254#32 ∧ q = 6#32) ∨ (r = 255#32 ∧ q = 7#32)) (hr : s + r.toNat = 256) :
    up r q D N = fun j : S256x512.Idx => ((a.next s (row t (j 0)) (col o ho (j 1)) : ℝ) : EReal) := by
  have hN' := lt_of_lt_of_eq t.isLt N_0
  have hr2 : 254 ≤ r.toNat ∧ r.toNat ≤ 255 := by rcases hs with ⟨rfl, rfl⟩ | ⟨rfl, rfl⟩ <;> decide
  refine up_eq r q hs (d := fun i l => a.dh (row t i) (col o ho l)) (n := fun i l => ahead a t i (col o ho l))
    (v := fun i l => a.next s (row t i) (col o ho l)) hD hN (fun i k l e => ?_) (fun i k l e => ?_)
  · unfold Inputs.next ahead
    by_cases h : t.val % 8 = 0
    · rw [dif_pos h, dif_neg (by simp only [row, tile]; omega)]
    · rw [dif_neg h, dif_pos (by simp only [row, tile]; omega)]
      exact congrArg (fun r => a.dh r _) (Fin.ext (by simp only [row, tile]; omega))
  · unfold Inputs.next
    rw [dif_pos (by simp only [row, tile]; omega)]
    exact congrArg (fun r => a.dh r _) (Fin.ext (by simp only [row, tile]; omega))

theorem next_zero (a : Inputs) (r : Fin 8192) (l : Fin 6144) : a.next 0 r l = a.dh r l := by
  unfold Inputs.next
  rw [dif_pos (by omega)]
  rfl

theorem dup_blk (R : Reads m c a) (t : Fin cfg0.N) (o : ℕ) (ho : o + 512 ≤ 6144) {D : FVec Ideal S256x512 .f32} {N : FVec Ideal S8x512 .f32}
    (hD : D = fun j => ((a.dh (row t (j 0)) (col o ho (j 1)) : ℝ) : EReal))
    (hN : N = fun j => ((ahead a t (j 0) (col o ho (j 1)) : ℝ) : EReal)) :
    back D N (ldW m c t 0 (by omega) o ho) (ldW m c t 1 (by omega) o ho) (ldW m c t 2 (by omega) o ho)
      = fun j : S256x512.Idx => ((a.dup (row t (j 0)) (col o ho (j 1)) : ℝ) : EReal) := by
  refine (back_eq (d := fun i l => a.dh (row t i) (col o ho l)) (v1 := fun i l => a.next 1 (row t i) (col o ho l))
    (v2 := fun i l => a.next 2 (row t i) (col o ho l)) (w0 := fun l => a.w 0 (col o ho l)) (w1 := fun l => a.w 1 (col o ho l))
    (w2 := fun l => a.w 2 (col o ho l)) hD (up_next t o ho hD hN 1 255#32 7#32 (.inr ⟨rfl, rfl⟩) rfl)
    (up_next t o ho hD hN 2 254#32 6#32 (.inl ⟨rfl, rfl⟩) rfl) (ldW_eq R t 0 _ o ho) (ldW_eq R t 1 _ o ho) (ldW_eq R t 2 _ o ho)).trans ?_
  funext j
  simp only [Inputs.dup, next_zero]

end Cert.BwdValue

end
-- ==== Proof.BwdTiles.lean ====
/-
  What a grid point of the ConvFFN's gradient keeps for the next one: the first rows of its gradient with respect to the
  convolution, which are the rows right after the next point's tile. A sequence's tiles are visited last to first.
-/
module

public import proofs.«01_k».proof.Proof.BwdBlocks
public import proofs.«01_k».proof.Proof.KernelSums
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.BwdValue

open Idealize.ShloMosaic Idealize.ShloMosaic.TcCoe Idealize.SL.Sem
open Idealize.ShloMosaic.Pipeline (Dat)
open Cert.FfnBwdIdeal Cert.FfnBwdIdeal.Gen Cert.Reals Cert.Bwd
open Cert.KernelValue (canon_drop)

variable {m : (ℓ : Loc nD τ sig) → Buf (Elt Ideal) ℓ} {c : Dev nD} {a : Inputs}

/-- The factor that the kernel reads the halo with. -/
abbrev kp (t : Fin cfg0.N) : Ideal .f32 := k0_pay17 (F := Ideal) (BitVec.ofNat 32 (grid0.coords t 1).val)

theorem keeps (t : Fin cfg0.N) : Keeps t (kp t) := by
  have h : ∀ t : Fin cfg0.N, (grid0.coords t 1).val = t.val % 8 := by decide +kernel
  have e : ∀ k : Fin 8, Scalar.cmpi .eq (BitVec.ofNat 32 k.val) 7#32 = if k.val = 7 then 1#1 else 0#1 := by decide +kernel
  have e' := e ⟨t.val % 8, Nat.mod_lt _ (by decide)⟩
  unfold Keeps kp k0_pay17
  rw [h t]
  dsimp only at e' ⊢
  rw [e']
  by_cases h7 : t.val % 8 = 7
  · rw [if_pos h7, if_pos h7]
    exact bits_zero
  · rw [if_neg h7, if_neg h7]
    exact bits_one

/-- An entry of a chunk, in the whole array. -/
theorem at_chunk {φ : FTy} {D : FVec Ideal S256x512 φ} (f : Fin 8192 → Fin 6144 → ℝ) (t : Fin cfg0.N) (o : ℕ) (ho : o + 512 ≤ 6144)
    (hD : D = fun j => ((f (row t (j 0)) (col o ho (j 1)) : ℝ) : EReal)) (x : S256x512.Idx) (y0 : Fin 256) (y1 : Fin 6144)
    (h0 : y0.val = (x 0).val) (h1 : y1.val = o + (x 1).val) : D x = ((f (row t y0) y1 : ℝ) : EReal) := by
  rw [hD]
  exact congrArg₂ (fun r l => ((f (row t r) l : ℝ) : EReal)) (Fin.ext h0.symm) (Fin.ext h1.symm)

/-- The same of the rows kept, the first eight of the tile. -/
theorem at_kept {D : FVec Ideal S256x512 .f32} (t : Fin cfg0.N) (o : ℕ) (ho : o + 512 ≤ 6144)
    (hD : D = fun j => ((a.dh (row t (j 0)) (col o ho (j 1)) : ℝ) : EReal)) {K : FVec Ideal S8x512 .f32} (e : K = k0_pay46 (F := Ideal) D)
    (x : S8x512.Idx) (y0 : Fin 8) (y1 : Fin 6144)
    (h0 : y0.val = (x 0).val) (h1 : y1.val = o + (x 1).val) : K x = ((a.dh (row t (Fin.castLE (by decide) y0)) y1 : ℝ) : EReal) := by
  rw [e, keep_eq (d := fun i l => a.dh (row t i) (col o ho l)) hD]
  exact congrArg₂ (fun r l => ((a.dh (row t r) l : ℝ) : EReal)) (Fin.ext h0.symm) (Fin.ext h1.symm)

/-- What is loaded of the rows kept. -/
abbrev ldN (X : Vec Ideal S8x6144 .f32) (o : ℕ) (ho : o + 512 ≤ 6144) : FVec Ideal S8x512 .f32 :=
  View.ld X (Rect.unit (s := S8x6144) ![0, o] ![8, 512] (inb 0 o (by omega) ho))

/-- The rows kept are the first of the next tile's gradient. -/
def Ahead (a : Inputs) (t : Fin cfg0.N) (X : Vec Ideal S8x6144 .f32) : Prop :=
  X = fun j => ((ahead a t (j 0) (j 1) : ℝ) : EReal)

theorem ldN_eq {t : Fin cfg0.N} {X : Vec Ideal S8x6144 .f32} (hX : Ahead a t X) (o : ℕ) (ho : o + 512 ≤ 6144) :
    ldN X o ho = fun j : S8x512.Idx => ((ahead a t (j 0) (col o ho (j 1)) : ℝ) : EReal) := by
  refine (ld_eq (p := 8) (q := 6144) (n := 8) (k := 512) _ (fun i l => ahead a t i l) hX 0 o (by omega) ho _).trans ?_
  funext j
  exact congrArg (fun i => ((ahead a t i (col o ho (j 1)) : ℝ) : EReal)) (Fin.ext (Nat.zero_add _))

theorem dup_gate (R : Reads m c a) (t : Fin cfg0.N) {X : Vec Ideal S8x6144 .f32} (hX : Ahead a t X) (o : ℕ) (ho : o + 512 ≤ 6144) (p : ℕ)
    (hp : p + 512 ≤ 6144) (ho' : o + 512 ≤ 3072) (hop : p = 3072 + o) {D : FVec Ideal S256x512 .bf16}
    (e : D = back (dgate m c t (kp t) o ho p hp ho') (ldN X o ho) (ldW m c t 0 (by omega) o ho) (ldW m c t 1 (by omega) o ho) (ldW m c t 2 (by omega) o ho)) :
    D = fun j : S256x512.Idx => ((a.dup (row t (j 0)) (col o ho (j 1)) : ℝ) : EReal) :=
  e.trans (dup_blk R t o ho (dgate_blk R t (keeps t) o ho p hp ho' hop) (ldN_eq hX o ho))

theorem dup_val (R : Reads m c a) (t : Fin cfg0.N) {X : Vec Ideal S8x6144 .f32} (hX : Ahead a t X) (o : ℕ) (ho : o + 512 ≤ 6144) (p : ℕ)
    (hp : p + 512 ≤ 6144) (ho' : o + 512 ≤ 3072) (hop : p = 3072 + o) {D : FVec Ideal S256x512 .bf16}
    (e : D = back (dval m c t (kp t) o ho ho') (ldN X p hp) (ldW m c t 0 (by omega) p hp) (ldW m c t 1 (by omega) p hp) (ldW m c t 2 (by omega) p hp)) :
    D = fun j : S256x512.Idx => ((a.dup (row t (j 0)) (col p hp (j 1)) : ℝ) : EReal) :=
  e.trans (dup_blk R t p hp (dval_blk R t (keeps t) o ho p hp ho' hop) (ldN_eq hX p hp))

set_option maxHeartbeats 8000000 in
/-- What a point keeps: the first rows of its tile's gradient. -/
theorem kept (R : Reads m c a) (t : Fin cfg0.N) (y0 : Fin 8) (y1 : Fin 6144) :
    (outsAt0 m c t.val t.isLt).2.2.2.2.2.2.2 (ix2 y0 y1) = ((a.dh (row t (Fin.castLE (by decide) y0)) y1 : ℝ) : EReal) := by
  by_cases h0 : t.val % 32 = 0
  on_goal 1 => rw [outsAt0_A m c t h0 (by omega)]; unfold caseA sout0_A_0 runA
  on_goal 2 => by_cases h1 : t.val % 8 = 0
  on_goal 2 => rw [outsAt0_C m c t h0 h1]; unfold caseC sout0_C_0 runC
  on_goal 3 => rw [outsAt0_B m c t h0 h1]; unfold caseB sout0_B_0 runB
  all_goals frame_out
  on_goal 1 => refine (canon_drop (S := S8x6144) [_] (ix2 y0 y1) [_, _, _, _, _, _, _, _, _, _, _, _] (View.cover_of_tiledL (s := S8x6144) _ S8x512.size (by sl_kernel_rfl) (ix2 y0 y1))).trans ?_
  on_goal 2 => refine (canon_drop (S := S8x6144) [_] (ix2 y0 y1) [_, _, _, _, _, _, _, _, _, _, _, _] (View.cover_of_tiledL (s := S8x6144) _ S8x512.size (by sl_kernel_rfl) (ix2 y0 y1))).trans ?_
  all_goals
    canon_tiles x h
    · exact at_kept t 5632 (by decide) (dval_blk R t (keeps t) 2560 (by decide) 5632 (by decide) (by decide) rfl) (by sl_kernel_rfl) x y0 y1 h0 h1
    · exact at_kept t 2560 (by decide) (dgate_blk R t (keeps t) 2560 (by decide) 5632 (by decide) (by decide) rfl) (by sl_kernel_rfl) x y0 y1 h0 h1
    · exact at_kept t 5120 (by decide) (dval_blk R t (keeps t) 2048 (by decide) 5120 (by decide) (by decide) rfl) (by sl_kernel_rfl) x y0 y1 h0 h1
    · exact at_kept t 2048 (by decide) (dgate_blk R t (keeps t) 2048 (by decide) 5120 (by decide) (by decide) rfl) (by sl_kernel_rfl) x y0 y1 h0 h1
    · exact at_kept t 4608 (by decide) (dval_blk R t (keeps t) 1536 (by decide) 4608 (by decide) (by decide) rfl) (by sl_kernel_rfl) x y0 y1 h0 h1
    · exact at_kept t 1536 (by decide) (dgate_blk R t (keeps t) 1536 (by decide) 4608 (by decide) (by decide) rfl) (by sl_kernel_rfl) x y0 y1 h0 h1
    · exact at_kept t 4096 (by decide) (dval_blk R t (keeps t) 1024 (by decide) 4096 (by decide) (by decide) rfl) (by sl_kernel_rfl) x y0 y1 h0 h1
    · exact at_kept t 1024 (by decide) (dgate_blk R t (keeps t) 1024 (by decide) 4096 (by decide) (by decide) rfl) (by sl_kernel_rfl) x y0 y1 h0 h1
    · exact at_kept t 3584 (by decide) (dval_blk R t (keeps t) 512 (by decide) 3584 (by decide) (by decide) rfl) (by sl_kernel_rfl) x y0 y1 h0 h1
    · exact at_kept t 512 (by decide) (dgate_blk R t (keeps t) 512 (by decide) 3584 (by decide) (by decide) rfl) (by sl_kernel_rfl) x y0 y1 h0 h1
    · exact at_kept t 3072 (by decide) (dval_blk R t (keeps t) 0 (by decide) 3072 (by decide) (by decide) rfl) (by sl_kernel_rfl) x y0 y1 h0 h1
    · exact at_kept t 0 (by decide) (dgate_blk R t (keeps t) 0 (by decide) 3072 (by decide) (by decide) rfl) (by sl_kernel_rfl) x y0 y1 h0 (h1.trans (Nat.zero_add _).symm)

theorem ahead_zero (t : Fin cfg0.N) (h1 : t.val % 8 = 0) : Ahead a t (k0_pay6 (F := Ideal)) := by
  unfold Ahead
  funext j; idx_vars j
  pointwise [k0_pay6]
  unfold ahead
  rw [dif_pos h1, EReal.coe_zero]

theorem ahead_prev (R : Reads m c a) (t : Fin cfg0.N) (h1 : ¬ t.val % 8 = 0) (h : scM0_0.IsWhole) :
    Ahead a t (View.read (Elt Ideal) (View.whole cc0_scratch0) (h.unread (prev m c t).2.2.2.2.2.2.2)) := by
  unfold Ahead
  refine (h.read_unread _).trans ?_
  funext j; idx_vars j
  have hN := lt_of_lt_of_eq t.isLt N_0
  refine (kept R ⟨t.val - 1, by omega⟩ j0 j1).trans ?_
  unfold ahead
  rw [dif_neg h1]
  exact congrArg (fun r => ((a.dh r j1 : ℝ) : EReal)) (Fin.ext (by simp only [row, tile, Fin.coe_castLE]; omega))

end Cert.BwdValue
end
-- ==== Proof.BwdDz.lean ====
/-
  The kernel's first output: the gradient with respect to the layer norm's input.
-/
module

public import proofs.«01_k».proof.Proof.BwdTiles
public import proofs.«01_k».proof.Proof.KernelSums
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.BwdValue

open Idealize.ShloMosaic Idealize.ShloMosaic.TcCoe Idealize.SL.Sem
open Idealize.ShloMosaic.Pipeline (Dat)
open Cert.FfnBwdIdeal Cert.FfnBwdIdeal.Gen Cert.Reals Cert.Bwd
open Cert.KernelValue (canon_drop)

variable {m : (ℓ : Loc nD τ sig) → Buf (Elt Ideal) ℓ} {c : Dev nD} {a : Inputs}

theorem final8 (R : Reads m c a) : (dats m 0 c).arrAt 8 (cfgs 0).N = fun j : S8192x1024.Idx => ((a.dz (j 0) (j 1) : ℝ) : EReal) := by
  refine (dats m 0 c).arrAt_eq_of_covers 8 _ (by decide +kernel) fun t hf y => ?_
  blk_simp
  rw [after0_8]
  have hy : (y : S256x1024.Idx) = y := rfl
  idx_vars y
  refine Eq.trans (b := ((a.dz (row t y0) y1 : ℝ) : EReal)) ?_ (congrArg₂ (fun r l => ((a.dz r l : ℝ) : EReal)) (Fin.ext (by blk_simp [idx t, row])) (Fin.ext (by blk_simp [idx t])))
  by_cases h0 : t.val % 32 = 0
  on_goal 1 => rw [outsAt0_A m c t h0 (by omega)]; unfold caseA out0_A_8 runA
  on_goal 2 => by_cases h1 : t.val % 8 = 0
  on_goal 2 => rw [outsAt0_C m c t h0 h1]; unfold caseC out0_C_8 runC
  on_goal 3 => rw [outsAt0_B m c t h0 h1]; unfold caseB out0_B_8 runB
  all_goals
    frame_out
    exact congrFun (dzv_eq R t) (ix2 y0 y1)

end Cert.BwdValue
end
-- ==== Proof.BwdDup.lean ====
/-
  The kernel's second output: the gradient with respect to the up projection, which is the convolution's gradient and takes
  the two rows after a tile from what the point before left.
-/
module

public import proofs.«01_k».proof.Proof.BwdTiles
public import proofs.«01_k».proof.Proof.KernelSums
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.BwdValue

open Idealize.ShloMosaic Idealize.ShloMosaic.TcCoe Idealize.SL.Sem
open Idealize.ShloMosaic.Pipeline (Dat)
open Cert.FfnBwdIdeal Cert.FfnBwdIdeal.Gen Cert.Reals Cert.Bwd
open Cert.KernelValue (canon_drop)

variable {m : (ℓ : Loc nD τ sig) → Buf (Elt Ideal) ℓ} {c : Dev nD} {a : Inputs}

set_option maxHeartbeats 8000000 in
theorem final9 (R : Reads m c a) : (dats m 0 c).arrAt 9 (cfgs 0).N = fun j : S8192x6144.Idx => ((a.dup (j 0) (j 1) : ℝ) : EReal) := by
  refine (dats m 0 c).arrAt_eq_of_covers 9 _ (by decide +kernel) fun t hf y => ?_
  blk_simp
  rw [after0_9]
  have hy : (y : S256x6144.Idx) = y := rfl
  idx_vars y
  refine Eq.trans (b := ((a.dup (row t y0) y1 : ℝ) : EReal)) ?_ (congrArg₂ (fun r l => ((a.dup r l : ℝ) : EReal)) (Fin.ext (by blk_simp [idx t, row])) (Fin.ext (by blk_simp [idx t])))
  by_cases h0 : t.val % 32 = 0
  on_goal 1 => rw [outsAt0_A m c t h0 (by omega)]; unfold caseA out0_A_9 runA
  on_goal 2 => by_cases h1 : t.val % 8 = 0
  on_goal 2 => rw [outsAt0_C m c t h0 h1]; unfold caseC out0_C_9 runC
  on_goal 3 => rw [outsAt0_B m c t h0 h1]; unfold caseB out0_B_9 runB
  on_goal 1 => have hX := ahead_zero (a := a) t (by omega)
  on_goal 2 => have hX := ahead_zero (a := a) t h1
  on_goal 3 => have hX := ahead_prev R t h1 (Memref.isWhole_whole _)
  all_goals
    frame_out
    canon_tiles x h
    all_goals try simp (discharger := decide) only [↓ View.readCov_skip, ↓ View.readCov_fill]
    · exact at_chunk a.dup t 5632 (by decide) (dup_val R t hX 2560 (by decide) 5632 (by decide) (by decide) rfl (by sl_kernel_rfl)) x y0 y1 h0 h1
    · exact at_chunk a.dup t 2560 (by decide) (dup_gate R t hX 2560 (by decide) 5632 (by decide) (by decide) rfl (by sl_kernel_rfl)) x y0 y1 h0 h1
    · exact at_chunk a.dup t 5120 (by decide) (dup_val R t hX 2048 (by decide) 5120 (by decide) (by decide) rfl (by sl_kernel_rfl)) x y0 y1 h0 h1
    · exact at_chunk a.dup t 2048 (by decide) (dup_gate R t hX 2048 (by decide) 5120 (by decide) (by decide) rfl (by sl_kernel_rfl)) x y0 y1 h0 h1
    · exact at_chunk a.dup t 4608 (by decide) (dup_val R t hX 1536 (by decide) 4608 (by decide) (by decide) rfl (by sl_kernel_rfl)) x y0 y1 h0 h1
    · exact at_chunk a.dup t 1536 (by decide) (dup_gate R t hX 1536 (by decide) 4608 (by decide) (by decide) rfl (by sl_kernel_rfl)) x y0 y1 h0 h1
    · exact at_chunk a.dup t 4096 (by decide) (dup_val R t hX 1024 (by decide) 4096 (by decide) (by decide) rfl (by sl_kernel_rfl)) x y0 y1 h0 h1
    · exact at_chunk a.dup t 1024 (by decide) (dup_gate R t hX 1024 (by decide) 4096 (by decide) (by decide) rfl (by sl_kernel_rfl)) x y0 y1 h0 h1
    · exact at_chunk a.dup t 3584 (by decide) (dup_val R t hX 512 (by decide) 3584 (by decide) (by decide) rfl (by sl_kernel_rfl)) x y0 y1 h0 h1
    · exact at_chunk a.dup t 512 (by decide) (dup_gate R t hX 512 (by decide) 3584 (by decide) (by decide) rfl (by sl_kernel_rfl)) x y0 y1 h0 h1
    · exact at_chunk a.dup t 3072 (by decide) (dup_val R t hX 0 (by decide) 3072 (by decide) (by decide) rfl (by sl_kernel_rfl)) x y0 y1 h0 h1
    · exact at_chunk a.dup t 0 (by decide) (dup_gate R t hX 0 (by decide) 3072 (by decide) (by decide) rfl (by sl_kernel_rfl)) x y0 y1 h0 (h1.trans (Nat.zero_add _).symm)

end Cert.BwdValue
end
-- ==== Proof.BwdAct.lean ====
/-
  The kernel's third output: the activation, which the weight gradient of the down projection multiplies.
-/
module

public import proofs.«01_k».proof.Proof.BwdTiles
public import proofs.«01_k».proof.Proof.KernelSums
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.BwdValue

open Idealize.ShloMosaic Idealize.ShloMosaic.TcCoe Idealize.SL.Sem
open Idealize.ShloMosaic.Pipeline (Dat)
open Cert.FfnBwdIdeal Cert.FfnBwdIdeal.Gen Cert.Reals Cert.Bwd
open Cert.KernelValue (canon_drop)

variable {m : (ℓ : Loc nD τ sig) → Buf (Elt Ideal) ℓ} {c : Dev nD} {a : Inputs}

/-- An entry of a chunk of the activation. -/
theorem at_act (R : Reads m c a) (t : Fin cfg0.N) (o : ℕ) (ho : o + 512 ≤ 6144) (p : ℕ) (hp : p + 512 ≤ 6144) (ho' : o + 512 ≤ 3072)
    (hop : p = 3072 + o) {D : FVec Ideal S256x512 .bf16}
    (e : D = truncf .bf16 (mulf (k0_pay28 (F := Ideal) (cv m c t (kp t) o ho)) (cv m c t (kp t) p hp)) bitsLt_bf16_f32)
    (x : S256x512.Idx) (y0 : Fin 256) (y1 : Fin 3072)
    (h0 : y0.val = (x 0).val) (h1 : y1.val = o + (x 1).val) : D x = ((a.act (row t y0) y1 : ℝ) : EReal) := by
  rw [e, act_blk R t (keeps t) o ho p hp ho' hop]
  exact congrArg₂ (fun r l => ((a.act (row t r) l : ℝ) : EReal)) (Fin.ext h0.symm) (Fin.ext h1.symm)

set_option maxHeartbeats 8000000 in
theorem final10 (R : Reads m c a) : (dats m 0 c).arrAt 10 (cfgs 0).N = fun j : S8192x3072.Idx => ((a.act (j 0) (j 1) : ℝ) : EReal) := by
  refine (dats m 0 c).arrAt_eq_of_covers 10 _ (by decide +kernel) fun t hf y => ?_
  blk_simp
  rw [after0_10]
  have hy : (y : S256x3072.Idx) = y := rfl
  idx_vars y
  refine Eq.trans (b := ((a.act (row t y0) y1 : ℝ) : EReal)) ?_ (congrArg₂ (fun r l => ((a.act r l : ℝ) : EReal)) (Fin.ext (by blk_simp [idx t, row])) (Fin.ext (by blk_simp [idx t])))
  by_cases h0 : t.val % 32 = 0
  on_goal 1 => rw [outsAt0_A m c t h0 (by omega)]; unfold caseA out0_A_10 runA
  on_goal 2 => by_cases h1 : t.val % 8 = 0
  on_goal 2 => rw [outsAt0_C m c t h0 h1]; unfold caseC out0_C_10 runC
  on_goal 3 => rw [outsAt0_B m c t h0 h1]; unfold caseB out0_B_10 runB
  all_goals
    frame_out
    canon_tiles x h
    · exact at_act R t 2560 (by decide) 5632 (by decide) (by decide) rfl (by sl_kernel_rfl) x y0 y1 h0 h1
    · exact at_act R t 2048 (by decide) 5120 (by decide) (by decide) rfl (by sl_kernel_rfl) x y0 y1 h0 h1
    · exact at_act R t 1536 (by decide) 4608 (by decide) (by decide) rfl (by sl_kernel_rfl) x y0 y1 h0 h1
    · exact at_act R t 1024 (by decide) 4096 (by decide) (by decide) rfl (by sl_kernel_rfl) x y0 y1 h0 h1
    · exact at_act R t 512 (by decide) 3584 (by decide) (by decide) rfl (by sl_kernel_rfl) x y0 y1 h0 h1
    · exact at_act R t 0 (by decide) 3072 (by decide) (by decide) rfl (by sl_kernel_rfl) x y0 y1 h0 (h1.trans (Nat.zero_add _).symm)

end Cert.BwdValue
end
-- ==== Proof.BwdSums.lean ====
/-
  The kernel's outputs that the grid accumulates: here the gradients with respect to the layer norm's gain and bias, and the
  sums they all come to. The blocks are zeroed at the first point and added into at every point; the points visit a
  sequence's tiles last to first, so a sum over the points is a sum over all rows in another order.
-/
module

public import proofs.«01_k».proof.Proof.BwdTiles
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.BwdValue

open Idealize.ShloMosaic Idealize.ShloMosaic.TcCoe Idealize.SL.Sem
open Idealize.ShloMosaic.Pipeline (Dat)
open Cert.FfnBwdIdeal Cert.FfnBwdIdeal.Gen Cert.Reals Cert.Bwd
open Cert.KernelValue (canon_drop)

variable {m : (ℓ : Loc nD τ sig) → Buf (Elt Ideal) ℓ} {c : Dev nD} {a : Inputs}

theorem tile_lt (s : Fin 32) : tile s.val < 32 := by unfold tile; omega

/-- The order in which the tiles are visited. -/
def visit : Equiv.Perm (Fin 32) :=
  Function.Involutive.toPerm (fun s => ⟨tile s.val, tile_lt s⟩) fun s => Fin.ext (by simp only [tile]; omega)

/-- A sum over the points of the run and the rows of each point's tile is the sum over all rows. -/
theorem sum_rows (f : Fin 8192 → ℝ) (t : Fin cfg0.N) (h : ∀ s : Fin 32, 32 * (t.val / 32) + s.val < cfg0.N) :
    ∑ s : Fin 32, ((∑ i, f (row ⟨32 * (t.val / 32) + s.val, h s⟩ i) : ℝ) : EReal) = ((∑ r, f r : ℝ) : EReal) := by
  have ht : t.val / 32 = 0 := Nat.div_eq_of_lt (lt_of_lt_of_eq t.isLt N_0)
  rw [lift_sum]
  refine congrArg _ (Eq.trans ?_ ((Equiv.sum_comp visit (fun s => ∑ i : Fin 256, f ⟨s.val * 256 + i.val, by omega⟩)).trans ?_))
  · refine Finset.sum_congr rfl fun s _ => Finset.sum_congr rfl fun i _ => congrArg f (Fin.ext ?_)
    simp only [row, ht, Nat.mul_zero, Nat.zero_add]
    rfl
  · refine Fin.sum_mul_add_congr fun s k hl => congrArg f (Fin.ext ?_)
    simp only

theorem pay_dg (R : Reads m c a) (t : Fin cfg0.N) (acc : FVec Ideal S1x1024 .f32) (j : S1x1024.Idx) :
    k0_pay14 (iblk m c 0 t) (k0_pay9 (iblk m c 1 t)) acc j
      = acc j + ((∑ i, a.ct (row t i) (j 1) * xhat (a.z (row t i)) (j 1) : ℝ) : EReal) := by
  idx_vars j
  pointwise [k0_pay14, blk0 R t, xhat_pay (rz := fun i => a.z (row t i)) (blk1 R t)]
  simp only [lift_mul, lift_sum]

theorem pay_db (R : Reads m c a) (t : Fin cfg0.N) (acc : FVec Ideal S1x1024 .f32) (j : S1x1024.Idx) :
    k0_pay15 (iblk m c 0 t) acc j = acc j + ((∑ i, a.ct (row t i) (j 1) : ℝ) : EReal) := by
  idx_vars j
  pointwise [k0_pay15, blk0 R t]
  simp only [lift_sum]

theorem zero_dg (j : S1x1024.Idx) : k0_pay4 (F := Ideal) j = 0 := by pointwise [k0_pay4]
theorem zero_db (j : S1x1024.Idx) : k0_pay5 (F := Ideal) j = 0 := by pointwise [k0_pay5]

theorem step_dg (R : Reads m c a) (t : Fin cfg0.N) (y : S1x1024.Idx) :
    (outsAt0 m c t.val t.isLt).2.2.2.2.2.1 y
      = (if t.val % 32 = 0 then (0 : EReal) else (prev m c t).2.2.2.2.2.1 y)
        + ((∑ i, a.ct (row t i) (y 1) * xhat (a.z (row t i)) (y 1) : ℝ) : EReal) := by
  by_cases h0 : t.val % 32 = 0
  · rw [if_pos h0, outsAt0_A m c t h0 (by omega)]
    unfold caseA out0_A_13 runA
    frame_out
    rw [pay_dg R t, zero_dg]
  rw [if_neg h0]
  by_cases h1 : t.val % 8 = 0
  on_goal 1 => rw [outsAt0_C m c t h0 h1]; unfold caseC out0_C_13 runC
  on_goal 2 => rw [outsAt0_B m c t h0 h1]; unfold caseB out0_B_13 runB
  all_goals
    frame_out
    rw [pay_dg R t]

theorem step_db (R : Reads m c a) (t : Fin cfg0.N) (y : S1x1024.Idx) :
    (outsAt0 m c t.val t.isLt).2.2.2.2.2.2.1 y
      = (if t.val % 32 = 0 then (0 : EReal) else (prev m c t).2.2.2.2.2.2.1 y)
        + ((∑ i, a.ct (row t i) (y 1) : ℝ) : EReal) := by
  by_cases h0 : t.val % 32 = 0
  · rw [if_pos h0, outsAt0_A m c t h0 (by omega)]
    unfold caseA out0_A_14 runA
    frame_out
    rw [pay_db R t, zero_db]
  rw [if_neg h0]
  by_cases h1 : t.val % 8 = 0
  on_goal 1 => rw [outsAt0_C m c t h0 h1]; unfold caseC out0_C_14 runC
  on_goal 2 => rw [outsAt0_B m c t h0 h1]; unfold caseB out0_B_14 runB
  all_goals
    frame_out
    rw [pay_db R t]

theorem final13 (R : Reads m c a) :
    (dats m 0 c).arrAt 13 (cfgs 0).N = fun j : S1x1024.Idx => ((a.dg (j 1) : ℝ) : EReal) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.1) 32 (fun _ => 0)
    (fun p j => ((∑ i, a.ct (row p i) (j 1) * xhat (a.z (row p i)) (j 1) : ℝ) : EReal))
    (fun t h j => by rw [step_dg R t j, if_pos h])
    (fun t h j => by rw [step_dg R t j, if_neg h])
    t ((flush0_13 t).mp hf) _, zero_add]
  exact (sum_rows (fun r => a.ct r (y 1) * xhat (a.z r) (y 1)) t _).trans
    (congrArg (fun k => ((a.dg k : ℝ) : EReal)) (Fin.ext (by blk_simp [idx t])))

theorem final14 (R : Reads m c a) :
    (dats m 0 c).arrAt 14 (cfgs 0).N = fun j : S1x1024.Idx => ((a.db (j 1) : ℝ) : EReal) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.2.1) 32 (fun _ => 0)
    (fun p j => ((∑ i, a.ct (row p i) (j 1) : ℝ) : EReal))
    (fun t h j => by rw [step_db R t j, if_pos h])
    (fun t h j => by rw [step_db R t j, if_neg h])
    t ((flush0_14 t).mp hf) _, zero_add]
  exact (sum_rows (fun r => a.ct r (y 1)) t _).trans
    (congrArg (fun k => ((a.db k : ℝ) : EReal)) (Fin.ext (by blk_simp [idx t])))

/-- Where an entry of a loaded rectangle lies. -/
theorem idx_unit {p q n k : ℕ} (i o : ℕ)
    (h : ∀ x, (![i, o] : Fin 2 → ℕ) x + (![n, k] : Fin 2 → ℕ) x ≤ (⟨2, ![p, q]⟩ : Shape).size x) (x : (⟨2, ![n, k]⟩ : Shape).Idx)
    (y0 : Fin p) (y1 : Fin q) (h0 : y0.val = i + (x 0).val) (h1 : y1.val = o + (x 1).val) :
    (Rect.unit (s := ⟨2, ![p, q]⟩) ![i, o] ![n, k] h).idx x = ix2 y0 y1 :=
  (eq_ix2 _).trans ((ix2_inj ..).2 ⟨Fin.ext ((congrArg (i + ·) (Nat.one_mul _)).trans h0.symm),
    Fin.ext ((congrArg (o + ·) (Nat.one_mul _)).trans h1.symm)⟩)

/-- A load of a row of an array's chunk. -/
abbrev ldA {p : ℕ} (acc : Vec Ideal ⟨2, ![p, 6144]⟩ .f32) (k : ℕ) (hk : k + 1 ≤ p) (o : ℕ) (ho : o + 512 ≤ 6144) : FVec Ideal S1x512 .f32 :=
  View.ld acc (Rect.unit (s := ⟨2, ![p, 6144]⟩) ![k, o] ![1, 512] (inb k o hk ho))

/-- An entry of a row of sums that is added to a row of an array. -/
theorem at_sum {p : ℕ} (k : ℕ) (hk : k + 1 ≤ p) (o : ℕ) (ho : o + 512 ≤ 6144) {D : FVec Ideal S256x512 .f32} (f : Fin 256 → Fin 6144 → ℝ)
    (hD : D = fun j => ((f (j 0) (col o ho (j 1)) : ℝ) : EReal)) (acc : FVec Ideal ⟨2, ![p, 6144]⟩ .f32) {K : FVec Ideal S1x512 .f32}
    (e : K = colsum D (ldA acc k hk o ho))
    (x : S1x512.Idx) (y0 : Fin p) (y1 : Fin 6144) (h0 : y0.val = k + (x 0).val) (h1 : y1.val = o + (x 1).val) :
    K x = acc (ix2 y0 y1) + ((∑ i, f i y1 : ℝ) : EReal) := by
  rw [e, colsum_eq (d := fun i l => f i (col o ho l)) hD]
  exact congrArg₂ (fun u v => acc u + ((∑ i, f i v : ℝ) : EReal)) (idx_unit k o _ x y0 y1 h0 h1) (Fin.ext h1.symm)

end Cert.BwdValue

end
-- ==== Proof.BwdBias.lean ====
/-
  The kernel's accumulated gradient with respect to the convolution's bias: chunk by chunk the sums over a tile's rows of the
  gradient with respect to the convolution.
-/
module

public import proofs.«01_k».proof.Proof.BwdSums
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.BwdValue

open Idealize.ShloMosaic Idealize.ShloMosaic.TcCoe Idealize.SL.Sem
open Idealize.ShloMosaic.Pipeline (Dat)
open Cert.FfnBwdIdeal Cert.FfnBwdIdeal.Gen Cert.Reals Cert.Bwd
open Cert.KernelValue (canon_drop)

variable {m : (ℓ : Loc nD τ sig) → Buf (Elt Ideal) ℓ} {c : Dev nD} {a : Inputs}

theorem bias_val (R : Reads m c a) (t : Fin cfg0.N) (acc : FVec Ideal S1x6144 .f32) (o p : ℕ) (ho : o + 512 ≤ 6144) (hp : p + 512 ≤ 6144)
    (ho' : o + 512 ≤ 3072) (hop : p = 3072 + o) {K : FVec Ideal S1x512 .f32}
    (e : K = colsum (dval m c t (kp t) o ho ho') (ldA (p := 1) acc 0 (by decide) p hp))
    (x : S1x512.Idx) (y0 : Fin 1) (y1 : Fin 6144) (h0 : y0.val = (x 0).val) (h1 : y1.val = p + (x 1).val) :
    K x = acc (ix2 y0 y1) + ((∑ i, a.dh (row t i) y1 : ℝ) : EReal) :=
  at_sum 0 (by decide) p hp (fun i l => a.dh (row t i) l) (dval_blk R t (keeps t) o ho p hp ho' hop) acc e x y0 y1
    (h0.trans (Nat.zero_add _).symm) h1

theorem bias_gate (R : Reads m c a) (t : Fin cfg0.N) (acc : FVec Ideal S1x6144 .f32) (o p : ℕ) (ho : o + 512 ≤ 6144) (hp : p + 512 ≤ 6144)
    (ho' : o + 512 ≤ 3072) (hop : p = 3072 + o) {K : FVec Ideal S1x512 .f32}
    (e : K = colsum (dgate m c t (kp t) o ho p hp ho') (ldA (p := 1) acc 0 (by decide) o ho))
    (x : S1x512.Idx) (y0 : Fin 1) (y1 : Fin 6144) (h0 : y0.val = (x 0).val) (h1 : y1.val = o + (x 1).val) :
    K x = acc (ix2 y0 y1) + ((∑ i, a.dh (row t i) y1 : ℝ) : EReal) :=
  at_sum 0 (by decide) o ho (fun i l => a.dh (row t i) l) (dgate_blk R t (keeps t) o ho p hp ho' hop) acc e x y0 y1
    (h0.trans (Nat.zero_add _).symm) h1

set_option maxHeartbeats 8000000 in
/-- What a point leaves in the block: the contents before it, zero at the first point, and the sums over its rows. -/
theorem step_dbias (R : Reads m c a) (t : Fin cfg0.N) (y : S1x6144.Idx) :
    (outsAt0 m c t.val t.isLt).2.2.2.2.1 y
      = (if t.val % 32 = 0 then (0 : EReal) else (prev m c t).2.2.2.2.1 y) + ((∑ i, a.dh (row t i) (y 1) : ℝ) : EReal) := by
  idx_vars y
  by_cases h0 : t.val % 32 = 0
  on_goal 1 => rw [if_pos h0, outsAt0_A m c t h0 (by omega)]; unfold caseA out0_A_12 runA
  on_goal 2 => rw [if_neg h0]; by_cases h1 : t.val % 8 = 0
  on_goal 2 => rw [outsAt0_C m c t h0 h1]; unfold caseC out0_C_12 runC
  on_goal 3 => rw [outsAt0_B m c t h0 h1]; unfold caseB out0_B_12 runB
  all_goals frame_out
  on_goal 1 =>
    refine (canon_drop (S := S1x6144) [_] (ix2 y0 y1) [_, _, _, _, _, _, _, _, _, _, _, _]
      (View.cover_of_tiledL (s := S1x6144) _ S1x512.size (by sl_kernel_rfl) (ix2 y0 y1))).trans ?_
    simp (discharger := decide) only [↓ View.readCov_skip, ↓ View.readCov_fill]
    obtain ⟨acc, hacc⟩ : ∃ acc : FVec Ideal S1x6144 .f32, acc = k0_pay3 := ⟨_, rfl⟩
    rw [← hacc, show (0 : EReal) = acc (ix2 y0 y1) by rw [hacc]; pointwise [k0_pay3]]
    clear hacc
  on_goal 2 => generalize (prev m c t).2.2.2.2.1 = acc
  on_goal 3 => generalize (prev m c t).2.2.2.2.1 = acc
  all_goals
    canon_tiles x h
    · exact bias_val R t acc 2560 5632 (by decide) (by decide) (by decide) rfl (by sl_kernel_rfl) x y0 y1 h0 h1
    · exact bias_gate R t acc 2560 5632 (by decide) (by decide) (by decide) rfl (by sl_kernel_rfl) x y0 y1 h0 h1
    · exact bias_val R t acc 2048 5120 (by decide) (by decide) (by decide) rfl (by sl_kernel_rfl) x y0 y1 h0 h1
    · exact bias_gate R t acc 2048 5120 (by decide) (by decide) (by decide) rfl (by sl_kernel_rfl) x y0 y1 h0 h1
    · exact bias_val R t acc 1536 4608 (by decide) (by decide) (by decide) rfl (by sl_kernel_rfl) x y0 y1 h0 h1
    · exact bias_gate R t acc 1536 4608 (by decide) (by decide) (by decide) rfl (by sl_kernel_rfl) x y0 y1 h0 h1
    · exact bias_val R t acc 1024 4096 (by decide) (by decide) (by decide) rfl (by sl_kernel_rfl) x y0 y1 h0 h1
    · exact bias_gate R t acc 1024 4096 (by decide) (by decide) (by decide) rfl (by sl_kernel_rfl) x y0 y1 h0 h1
    · exact bias_val R t acc 512 3584 (by decide) (by decide) (by decide) rfl (by sl_kernel_rfl) x y0 y1 h0 h1
    · exact bias_gate R t acc 512 3584 (by decide) (by decide) (by decide) rfl (by sl_kernel_rfl) x y0 y1 h0 h1
    · exact bias_val R t acc 0 3072 (by decide) (by decide) (by decide) rfl (by sl_kernel_rfl) x y0 y1 h0 h1
    · exact bias_gate R t acc 0 3072 (by decide) (by decide) (by decide) rfl (by sl_kernel_rfl) x y0 y1 h0 (h1.trans (Nat.zero_add _).symm)

theorem final12 (R : Reads m c a) :
    (dats m 0 c).arrAt 12 (cfgs 0).N = fun j : S1x6144.Idx => ((a.dbias (j 1) : ℝ) : EReal) := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 32 (fun _ => 0)
    (fun p j => ((∑ i, a.dh (row p i) (j 1) : ℝ) : EReal))
    (fun t h j => by rw [step_dbias R t j, if_pos h])
    (fun t h j => by rw [step_dbias R t j, if_neg h])
    t ((flush0_12 t).mp hf) _, zero_add]
  exact (sum_rows (fun r => a.dh r (y 1)) t _).trans
    (congrArg (fun k => ((a.dbias k : ℝ) : EReal)) (Fin.ext (by blk_simp [idx t])))

end Cert.BwdValue

end
-- ==== Proof.BwdDw.lean ====
/-
  The kernel's accumulated gradient with respect to the convolution's weights: for each of the three taps, chunk by chunk, the
  sums over a tile's rows of the gradient with respect to the convolution times the up projection that many rows before.
-/
module

public import proofs.«01_k».proof.Proof.BwdSums
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.BwdValue

open Idealize.ShloMosaic Idealize.ShloMosaic.TcCoe Idealize.SL.Sem
open Idealize.ShloMosaic.Pipeline (Dat)
open Cert.FfnBwdIdeal Cert.FfnBwdIdeal.Gen Cert.Reals Cert.Bwd
open Cert.KernelValue (canon_drop)

variable {m : (ℓ : Loc nD τ sig) → Buf (Elt Ideal) ℓ} {c : Dev nD} {a : Inputs}

/-- The up projection of a chunk, read the number of rows before that tap `k` reads it. -/
def shifted (m : (ℓ : Loc nD τ sig) → Buf (Elt Ideal) ℓ) (c : Dev nD) (t : Fin cfg0.N) (o : ℕ) (ho : o + 512 ≤ 6144) (k : Fin 3) : FVec Ideal S256x512 .f32 :=
  match k with
  | 0 => down 2#32 (ldU m c t o ho) (ldH m c t (kp t) o ho)
  | 1 => down 1#32 (ldU m c t o ho) (ldH m c t (kp t) o ho)
  | 2 => ldU m c t o ho

theorem shifted_eq (R : Reads m c a) (t : Fin cfg0.N) (o : ℕ) (ho : o + 512 ≤ 6144) (k : Fin 3) :
    shifted m c t o ho k = fun j : S256x512.Idx => ((a.tap (2 - k) (row t (j 0)) (col o ho (j 1)) : ℝ) : EReal) :=
  match k with
  | 0 => down_tap R t (keeps t) o ho 2#32 (.inr rfl)
  | 1 => down_tap R t (keeps t) o ho 1#32 (.inl rfl)
  | 2 => (ldU_eq R t o ho).trans (funext fun j => congrArg _ (tap_zero a _ _).symm)

/-- One tap's sums. -/
theorem at_tap (R : Reads m c a) (t : Fin cfg0.N) (acc : FVec Ideal S3x6144 .f32) (k : Fin 3) (o : ℕ) (ho : o + 512 ≤ 6144)
    {D : FVec Ideal S256x512 .f32} (hD : D = fun j => ((a.dh (row t (j 0)) (col o ho (j 1)) : ℝ) : EReal)) {K : FVec Ideal S1x512 .f32}
    (e : K = colsum (mulf D (shifted m c t o ho k)) (ldA (p := 3) acc k.val k.isLt o ho))
    (x : S1x512.Idx) (y0 : Fin 3) (y1 : Fin 6144) (h0 : y0.val = k.val + (x 0).val) (h1 : y1.val = o + (x 1).val) :
    K x = acc (ix2 y0 y1) + ((∑ i, a.dh (row t i) y1 * a.tap (2 - y0) (row t i) y1 : ℝ) : EReal) := by
  obtain rfl : y0 = k := Fin.ext (by have : (x 0).val < 1 := (x 0).isLt; omega)
  refine at_sum y0.val y0.isLt o ho (fun i l => a.dh (row t i) l * a.tap (2 - y0) (row t i) l) ?_ acc e x y0 y1 h0 h1
  rw [hD, shifted_eq R t o ho y0]
  funext j; idx_vars j
  pointwise
  rw [lift_mul]

theorem tap_val (R : Reads m c a) (t : Fin cfg0.N) (acc : FVec Ideal S3x6144 .f32) (k : Fin 3) (o p : ℕ) (ho : o + 512 ≤ 6144) (hp : p + 512 ≤ 6144)
    (ho' : o + 512 ≤ 3072) (hop : p = 3072 + o) {K : FVec Ideal S1x512 .f32}
    (e : K = colsum (mulf (dval m c t (kp t) o ho ho') (shifted m c t p hp k))
      (ldA (p := 3) acc k.val k.isLt p hp))
    (x : S1x512.Idx) (y0 : Fin 3) (y1 : Fin 6144) (h0 : y0.val = k.val + (x 0).val) (h1 : y1.val = p + (x 1).val) :
    K x = acc (ix2 y0 y1) + ((∑ i, a.dh (row t i) y1 * a.tap (2 - y0) (row t i) y1 : ℝ) : EReal) :=
  at_tap R t acc k p hp (dval_blk R t (keeps t) o ho p hp ho' hop) e x y0 y1 h0 h1

theorem tap_gate (R : Reads m c a) (t : Fin cfg0.N) (acc : FVec Ideal S3x6144 .f32) (k : Fin 3) (o p : ℕ) (ho : o + 512 ≤ 6144) (hp : p + 512 ≤ 6144)
    (ho' : o + 512 ≤ 3072) (hop : p = 3072 + o) {K : FVec Ideal S1x512 .f32}
    (e : K = colsum (mulf (dgate m c t (kp t) o ho p hp ho') (shifted m c t o ho k))
      (ldA (p := 3) acc k.val k.isLt o ho))
    (x : S1x512.Idx) (y0 : Fin 3) (y1 : Fin 6144) (h0 : y0.val = k.val + (x 0).val) (h1 : y1.val = o + (x 1).val) :
    K x = acc (ix2 y0 y1) + ((∑ i, a.dh (row t i) y1 * a.tap (2 - y0) (row t i) y1 : ℝ) : EReal) :=
  at_tap R t acc k o ho (dgate_blk R t (keeps t) o ho p hp ho' hop) e x y0 y1 h0 h1

set_option maxHeartbeats 32000000 in
/-- What a point leaves in the block: the contents before it, zero at the first point, and the sums over its rows. -/
theorem step_dw (R : Reads m c a) (t : Fin cfg0.N) (y : S3x6144.Idx) :
    (outsAt0 m c t.val t.isLt).2.2.2.1 y
      = (if t.val % 32 = 0 then (0 : EReal) else (prev m c t).2.2.2.1 y)
        + ((∑ i, a.dh (row t i) (y 1) * a.tap (2 - (y 0)) (row t i) (y 1) : ℝ) : EReal) := by
  idx_vars y
  by_cases h0 : t.val % 32 = 0
  on_goal 1 => rw [if_pos h0, outsAt0_A m c t h0 (by omega)]; unfold caseA out0_A_11 runA
  on_goal 2 => rw [if_neg h0]; by_cases h1 : t.val % 8 = 0
  on_goal 2 => rw [outsAt0_C m c t h0 h1]; unfold caseC out0_C_11 runC
  on_goal 3 => rw [outsAt0_B m c t h0 h1]; unfold caseB out0_B_11 runB
  all_goals frame_out
  on_goal 1 =>
    refine (canon_drop (S := S3x6144) [_] (ix2 y0 y1) [_, _, _, _, _, _, _, _, _, _, _, _, _, _, _, _, _, _, _, _, _, _, _, _, _, _, _, _, _, _, _, _, _, _, _, _]
      (View.cover_of_tiledL (s := S3x6144) _ S1x512.size (by sl_kernel_rfl) (ix2 y0 y1))).trans ?_
    simp (discharger := decide) only [↓ View.readCov_skip, ↓ View.readCov_fill]
    obtain ⟨acc, hacc⟩ : ∃ acc : FVec Ideal S3x6144 .f32, acc = k0_pay2 := ⟨_, rfl⟩
    rw [← hacc, show (0 : EReal) = acc (ix2 y0 y1) by rw [hacc]; pointwise [k0_pay2]]
    clear hacc
  on_goal 2 => generalize (prev m c t).2.2.2.1 = acc
  on_goal 3 => generalize (prev m c t).2.2.2.1 = acc
  all_goals
    canon_tiles x h
    · exact tap_val R t acc 2 2560 5632 (by decide) (by decide) (by decide) rfl (by sl_kernel_rfl) x y0 y1 h0 h1
    · exact tap_val R t acc 1 2560 5632 (by decide) (by decide) (by decide) rfl (by sl_kernel_rfl) x y0 y1 h0 h1
    · exact tap_val R t acc 0 2560 5632 (by decide) (by decide) (by decide) rfl (by sl_kernel_rfl) x y0 y1 (h0.trans (Nat.zero_add _).symm) h1
    · exact tap_gate R t acc 2 2560 5632 (by decide) (by decide) (by decide) rfl (by sl_kernel_rfl) x y0 y1 h0 h1
    · exact tap_gate R t acc 1 2560 5632 (by decide) (by decide) (by decide) rfl (by sl_kernel_rfl) x y0 y1 h0 h1
    · exact tap_gate R t acc 0 2560 5632 (by decide) (by decide) (by decide) rfl (by sl_kernel_rfl) x y0 y1 (h0.trans (Nat.zero_add _).symm) h1
    · exact tap_val R t acc 2 2048 5120 (by decide) (by decide) (by decide) rfl (by sl_kernel_rfl) x y0 y1 h0 h1
    · exact tap_val R t acc 1 2048 5120 (by decide) (by decide) (by decide) rfl (by sl_kernel_rfl) x y0 y1 h0 h1
    · exact tap_val R t acc 0 2048 5120 (by decide) (by decide) (by decide) rfl (by sl_kernel_rfl) x y0 y1 (h0.trans (Nat.zero_add _).symm) h1
    · exact tap_gate R t acc 2 2048 5120 (by decide) (by decide) (by decide) rfl (by sl_kernel_rfl) x y0 y1 h0 h1
    · exact tap_gate R t acc 1 2048 5120 (by decide) (by decide) (by decide) rfl (by sl_kernel_rfl) x y0 y1 h0 h1
    · exact tap_gate R t acc 0 2048 5120 (by decide) (by decide) (by decide) rfl (by sl_kernel_rfl) x y0 y1 (h0.trans (Nat.zero_add _).symm) h1
    · exact tap_val R t acc 2 1536 4608 (by decide) (by decide) (by decide) rfl (by sl_kernel_rfl) x y0 y1 h0 h1
    · exact tap_val R t acc 1 1536 4608 (by decide) (by decide) (by decide) rfl (by sl_kernel_rfl) x y0 y1 h0 h1
    · exact tap_val R t acc 0 1536 4608 (by decide) (by decide) (by decide) rfl (by sl_kernel_rfl) x y0 y1 (h0.trans (Nat.zero_add _).symm) h1
    · exact tap_gate R t acc 2 1536 4608 (by decide) (by decide) (by decide) rfl (by sl_kernel_rfl) x y0 y1 h0 h1
    · exact tap_gate R t acc 1 1536 4608 (by decide) (by decide) (by decide) rfl (by sl_kernel_rfl) x y0 y1 h0 h1
    · exact tap_gate R t acc 0 1536 4608 (by decide) (by decide) (by decide) rfl (by sl_kernel_rfl) x y0 y1 (h0.trans (Nat.zero_add _).symm) h1
    · exact tap_val R t acc 2 1024 4096 (by decide) (by decide) (by decide) rfl (by sl_kernel_rfl) x y0 y1 h0 h1
    · exact tap_val R t acc 1 1024 4096 (by decide) (by decide) (by decide) rfl (by sl_kernel_rfl) x y0 y1 h0 h1
    · exact tap_val R t acc 0 1024 4096 (by decide) (by decide) (by decide) rfl (by sl_kernel_rfl) x y0 y1 (h0.trans (Nat.zero_add _).symm) h1
    · exact tap_gate R t acc 2 1024 4096 (by decide) (by decide) (by decide) rfl (by sl_kernel_rfl) x y0 y1 h0 h1
    · exact tap_gate R t acc 1 1024 4096 (by decide) (by decide) (by decide) rfl (by sl_kernel_rfl) x y0 y1 h0 h1
    · exact tap_gate R t acc 0 1024 4096 (by decide) (by decide) (by decide) rfl (by sl_kernel_rfl) x y0 y1 (h0.trans (Nat.zero_add _).symm) h1
    · exact tap_val R t acc 2 512 3584 (by decide) (by decide) (by decide) rfl (by sl_kernel_rfl) x y0 y1 h0 h1
    · exact tap_val R t acc 1 512 3584 (by decide) (by decide) (by decide) rfl (by sl_kernel_rfl) x y0 y1 h0 h1
    · exact tap_val R t acc 0 512 3584 (by decide) (by decide) (by decide) rfl (by sl_kernel_rfl) x y0 y1 (h0.trans (Nat.zero_add _).symm) h1
    · exact tap_gate R t acc 2 512 3584 (by decide) (by decide) (by decide) rfl (by sl_kernel_rfl) x y0 y1 h0 h1
    · exact tap_gate R t acc 1 512 3584 (by decide) (by decide) (by decide) rfl (by sl_kernel_rfl) x y0 y1 h0 h1
    · exact tap_gate R t acc 0 512 3584 (by decide) (by decide) (by decide) rfl (by sl_kernel_rfl) x y0 y1 (h0.trans (Nat.zero_add _).symm) h1
    · exact tap_val R t acc 2 0 3072 (by decide) (by decide) (by decide) rfl (by sl_kernel_rfl) x y0 y1 h0 h1
    · exact tap_val R t acc 1 0 3072 (by decide) (by decide) (by decide) rfl (by sl_kernel_rfl) x y0 y1 h0 h1
    · exact tap_val R t acc 0 0 3072 (by decide) (by decide) (by decide) rfl (by sl_kernel_rfl) x y0 y1 (h0.trans (Nat.zero_add _).symm) h1
    · exact tap_gate R t acc 2 0 3072 (by decide) (by decide) (by decide) rfl (by sl_kernel_rfl) x y0 y1 h0 (h1.trans (Nat.zero_add _).symm)
    · exact tap_gate R t acc 1 0 3072 (by decide) (by decide) (by decide) rfl (by sl_kernel_rfl) x y0 y1 h0 (h1.trans (Nat.zero_add _).symm)
    · exact tap_gate R t acc 0 0 3072 (by decide) (by decide) (by decide) rfl (by sl_kernel_rfl) x y0 y1 (h0.trans (Nat.zero_add _).symm) (h1.trans (Nat.zero_add _).symm)

theorem final11 (R : Reads m c a) :
    (dats m 0 c).arrAt 11 (cfgs 0).N = fun j : S3x6144.Idx => ((a.dw (j 0) (j 1) : ℝ) : EReal) := by
  refine (dats m 0 c).arrAt_eq_of_covers 11 _ (by decide +kernel) fun t hf y => ?_
  blk_simp
  rw [after0_11, Pipeline.eq_sum_fin_of_reset_step_apply_of_flush (fun n h => (outsAt0 m c n h).2.2.2.1) 32 (fun _ => 0)
    (fun p j => ((∑ i, a.dh (row p i) (j 1) * a.tap (2 - (j 0)) (row p i) (j 1) : ℝ) : EReal))
    (fun t h j => by rw [step_dw R t j, if_pos h])
    (fun t h j => by rw [step_dw R t j, if_neg h])
    t ((flush0_11 t).mp hf) _, zero_add]
  exact (sum_rows (fun r => a.dh r (y 1) * a.tap (2 - (y 0)) r (y 1)) t _).trans
    (congrArg₂ (fun k l => ((a.dw k l : ℝ) : EReal)) (Fin.ext (by blk_simp [idx t])) (Fin.ext (by blk_simp [idx t])))

end Cert.BwdValue

end
-- ==== Proof.FfnBwd.lean ====
/-
  From the precondition to the value claim of the ConvFFN's gradient: finite arguments are real arrays, both programs read
  the same ones, and each result of the kernel is the reference's.
-/
module

public import proofs.«01_k».proof.Defs
public import proofs.«01_k».proof.Proof.Gen.Pre_finite_ffn
public import proofs.«01_k».proof.Proof.Claims
public import proofs.«01_k».proof.Proof.BwdRef
public import proofs.«01_k».proof.Proof.BwdDz
public import proofs.«01_k».proof.Proof.BwdDup
public import proofs.«01_k».proof.Proof.BwdAct
public import proofs.«01_k».proof.Proof.BwdSums
public import proofs.«01_k».proof.Proof.BwdBias
public import proofs.«01_k».proof.Proof.BwdDw
public import Idealize.ShloMosaic.Adequacy
public import Idealize.ShloMosaic.Init

@[expose] public section

set_option maxRecDepth 16384

noncomputable section

namespace Cert.FfnBwdProof

open Idealize.ShloMosaic Idealize.ShloMosaic.TcCoe Idealize.SL.Sem Cert.Reals Cert.Bwd
open Cert.Claims (reals_of_abs_lt)

/-- The reference runs from every memory, leaves its arguments as launched, and has no semaphores. -/
theorem frame_reference : @quiescent_FfnBwdRefIdeal Cert.FfnBwdRefIdeal.Gen.facts := fun m ρ _ =>
  (θ_run Cert.FfnBwdRefIdeal.defs _ _).mono
    (fun r h => ⟨fun c => (h c).2.2.2.2.2.2.2, Idealize.ShloMosaic.sem_eq_zero_of_no_sems (by decide) r.2⟩)
    (Cert.FfnBwdRefIdeal.Value.run (F := Ideal) m ρ)

theorem reads (m : (ℓ : Loc Cert.FfnBwdIdeal.nD Cert.FfnBwdIdeal.τ Cert.FfnBwdIdeal.sig) → Buf (Elt Ideal) ℓ)
    (h : @Pre_FfnBwdIdeal_finite_ffn Cert.Pre_finite_ffn.Gen.facts m) (c : Dev Cert.FfnBwdIdeal.nD) :
    ∃ a : Inputs, BwdValue.Reads m c a := by
  obtain ⟨h0, h1, h2, h3, h4, h5, h6⟩ := h c
  obtain ⟨f0, e0⟩ := reals_of_abs_lt _ _ h0
  obtain ⟨f1, e1⟩ := reals_of_abs_lt _ _ h1
  obtain ⟨f2, e2⟩ := reals_of_abs_lt _ _ h2
  obtain ⟨f3, e3⟩ := reals_of_abs_lt _ _ h3
  obtain ⟨f4, e4⟩ := reals_of_abs_lt _ _ h4
  obtain ⟨f5, e5⟩ := reals_of_abs_lt _ _ h5
  obtain ⟨f6, e6⟩ := reals_of_abs_lt _ _ h6
  exact ⟨⟨f0, f1, f2, f3, f4, f5, f6⟩, ⟨e0, e1, e2, e3, e4, e5, e6⟩⟩

set_option maxHeartbeats 8000000 in
theorem product : @algebraic_FfnBwdIdeal_FfnBwdRefIdeal_pre_finite_ffn Cert.FfnBwdIdeal.Gen.facts Cert.FfnBwdRefIdeal.Gen.facts
    Cert.Pre_finite_ffn.Gen.facts := by
  intro m g m' g' hpre hagree
  refine ⟨fun c => (Cert.FfnBwdIdeal.Gen.dats m 0 c).arrAt 8 Cert.FfnBwdIdeal.cfg0.N,
    fun c => (Cert.FfnBwdIdeal.Gen.dats m 0 c).arrAt 9 Cert.FfnBwdIdeal.cfg0.N,
    fun c => (Cert.FfnBwdIdeal.Gen.dats m 0 c).arrAt 10 Cert.FfnBwdIdeal.cfg0.N,
    fun c => (Cert.FfnBwdIdeal.Gen.dats m 0 c).arrAt 11 Cert.FfnBwdIdeal.cfg0.N,
    fun c => (Cert.FfnBwdIdeal.Gen.dats m 0 c).arrAt 12 Cert.FfnBwdIdeal.cfg0.N,
    fun c => (Cert.FfnBwdIdeal.Gen.dats m 0 c).arrAt 13 Cert.FfnBwdIdeal.cfg0.N,
    fun c => (Cert.FfnBwdIdeal.Gen.dats m 0 c).arrAt 14 Cert.FfnBwdIdeal.cfg0.N, ?_, ?_⟩
  · exact (θ_run _ _ _).mono (fun r h c => h c) (Cert.FfnBwdIdeal.Gen.run_blocks m g)
  · refine (θ_run _ _ _).mono (fun r h c => ?_) (Cert.FfnBwdRefIdeal.Value.run m' g')
    obtain ⟨a, R⟩ := reads m hpre c
    obtain ⟨e0, e1, e2, e3, e4, e5, e6⟩ := hagree c
    have R' : BwdRef.Reads (StableHlo.launchContents m' c) a :=
      ⟨e0.trans R.ct, e1.trans R.x, e2.trans R.up, e3.trans R.w, e4.trans R.b, e5.trans R.d, e6.trans R.g⟩
    obtain ⟨h0, h1, h2, h3, h4, h5, h6, hk⟩ := h c
    exact ⟨h0.trans ((BwdRef.out_dz R').trans (BwdValue.final8 R).symm), h1.trans ((BwdRef.out_dup R').trans (BwdValue.final9 R).symm),
      h2.trans ((BwdRef.out_act R').trans (BwdValue.final10 R).symm), h3.trans ((BwdRef.out_dw R').trans (BwdValue.final11 R).symm),
      h4.trans ((BwdRef.out_dbias R').trans (BwdValue.final12 R).symm), h5.trans ((BwdRef.out_dg R').trans (BwdValue.final13 R).symm),
      h6.trans ((BwdRef.out_db R').trans (BwdValue.final14 R).symm), hk⟩

end Cert.FfnBwdProof

end
-- ==== Proof.lean ====
/-
  The claims of the certificate, in the order in which the statement lists them: the frames of every program, what the
  idealization of each rewrote, and the value claim of each call. The proofs of the values are in the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.BwdFrame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.BwdFrameIdeal
public import proofs.«01_k».proof.Proof.Gen.FfnBwdRefIdeal
public import proofs.«01_k».proof.Proof.Gen.FfnBwdRefIdeal.Run
public import proofs.«01_k».proof.Proof.Gen.Pre_finite_ffn
public import proofs.«01_k».proof.Proof.Claims
public import proofs.«01_k».proof.Proof.UpDx
public import proofs.«01_k».proof.Proof.UpDw
public import proofs.«01_k».proof.Proof.DownDw
public import proofs.«01_k».proof.Proof.InDx
public import proofs.«01_k».proof.Proof.InDw
public import proofs.«01_k».proof.Proof.InFwd
public import proofs.«01_k».proof.Proof.FfnFwd
public import proofs.«01_k».proof.Proof.MixFwd
public import proofs.«01_k».proof.Proof.FfnBwd
public import Idealize.ShloMosaic.Adequacy
public import Idealize.ShloMosaic.Init

@[expose] public section

noncomputable section

namespace Cert.Proof

open Idealize.ShloMosaic Idealize.SL.Sem Cert.Kernel

/-- The reference runs from every memory, leaves its arguments as launched, and has no semaphores. -/
theorem frame_reference : @quiescent_ReferenceIdeal Cert.ReferenceIdeal.Gen.facts := fun m ρ _ =>
  (θ_run Cert.ReferenceIdeal.defs _ _).mono
    (fun r h => ⟨fun c => (h c).2.2.2.2.2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.UpDx.Gen.facts, Cert.UpDxIdeal.Gen.facts, Cert.UpDxRefIdeal.Gen.facts, Cert.UpDw.Gen.facts, Cert.UpDwIdeal.Gen.facts, Cert.UpDwRefIdeal.Gen.facts, Cert.DownDw.Gen.facts, Cert.DownDwIdeal.Gen.facts, Cert.DownDwRefIdeal.Gen.facts, Cert.InDx.Gen.facts, Cert.InDxIdeal.Gen.facts, Cert.InDxRefIdeal.Gen.facts, Cert.InDw.Gen.facts, Cert.InDwIdeal.Gen.facts, Cert.InDwRefIdeal.Gen.facts, Cert.InFwd.Gen.facts, Cert.InFwdIdeal.Gen.facts, Cert.InFwdRefIdeal.Gen.facts, Cert.FfnFwd.Gen.facts, Cert.FfnFwdIdeal.Gen.facts, Cert.FfnFwdRefIdeal.Gen.facts, Cert.MixFwd.Gen.facts, Cert.MixFwdIdeal.Gen.facts, Cert.MixFwdRefIdeal.Gen.facts, Cert.FfnBwd.Gen.facts, Cert.FfnBwdIdeal.Gen.facts, Cert.FfnBwdRefIdeal.Gen.facts, Cert.Pre_finite.Gen.facts, Cert.Pre_finite_ffn.Gen.facts, by
  refine ⟨fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.UpDx.Gen.frame m ρ, fun m ρ _ => Cert.UpDxIdeal.Gen.frame m ρ, Cert.UpDxProof.frame_reference,
    fun m ρ _ => Cert.UpDw.Gen.frame m ρ, fun m ρ _ => Cert.UpDwIdeal.Gen.frame m ρ, Cert.UpDwProof.frame_reference,
    fun m ρ _ => Cert.DownDw.Gen.frame m ρ, fun m ρ _ => Cert.DownDwIdeal.Gen.frame m ρ, Cert.DownDwProof.frame_reference,
    fun m ρ _ => Cert.InDx.Gen.frame m ρ, fun m ρ _ => Cert.InDxIdeal.Gen.frame m ρ, Cert.InDxProof.frame_reference,
    fun m ρ _ => Cert.InDw.Gen.frame m ρ, fun m ρ _ => Cert.InDwIdeal.Gen.frame m ρ, Cert.InDwProof.frame_reference,
    fun m ρ _ => Cert.InFwd.Gen.frame m ρ, fun m ρ _ => Cert.InFwdIdeal.Gen.frame m ρ, Cert.InFwdProof.frame_reference,
    fun m ρ _ => Cert.FfnFwd.Gen.frame m ρ, fun m ρ _ => Cert.FfnFwdIdeal.Gen.frame m ρ, Cert.FfnFwdProof.frame_reference,
    fun m ρ _ => Cert.MixFwd.Gen.frame m ρ, fun m ρ _ => Cert.MixFwdIdeal.Gen.frame m ρ, Cert.MixFwdProof.frame_reference,
    fun m ρ _ => Cert.FfnBwd.Gen.frame m ρ, fun m ρ _ => Cert.FfnBwdIdeal.Gen.frame m ρ, fun m ρ _ => Cert.FfnBwdIdeal.Gen.frame m ρ,
    Cert.FfnBwdProof.frame_reference, fun m ρ _ => Cert.FfnBwdProof.frame_reference m ρ trivial,
    ⟨?_, ?_⟩, Cert.Claims.mixout, trivial, Cert.UpDxProof.product, trivial, Cert.UpDwProof.product, trivial, Cert.DownDwProof.product, trivial, Cert.InDxProof.product, trivial, Cert.InDwProof.product, trivial, Cert.InFwdProof.product, trivial, Cert.FfnFwdProof.product, trivial, Cert.MixFwdProof.product, ⟨?_, ?_⟩, Cert.FfnBwdProof.product⟩
  · exact IdealRules.named_const.statement Cert.KernelIdeal.κ "gelu_a" .f32 0x3D372713#32 ((8943 / 200000 : ℝ) : EReal) rfl
  · exact IdealRules.named_const.statement Cert.KernelIdeal.κ "gelu_3a" .f32 0x3E095D4F#32 ((26829 / 200000 : ℝ) : EReal) rfl
  · exact IdealRules.named_const.statement Cert.FfnBwdIdeal.κ "gelu_a" .f32 0x3D372713#32 ((8943 / 200000 : ℝ) : EReal) rfl
  · exact IdealRules.named_const.statement Cert.FfnBwdIdeal.κ "gelu_3a" .f32 0x3E095D4F#32 ((26829 / 200000 : ℝ) : EReal) rfl⟩

end Cert.Proof

end
